-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SavedIdeal (m : (ℓ : Loc Cert.SavedIdeal.nD Cert.SavedIdeal.τ Cert.SavedIdeal.sig) → Buf (Elt Ideal) ℓ) : Prop :=
  True

def Pre_SavedIdeal_finite_qk [hPre_finite_qk : Cert.Pre_finite_qk.Facts] (m : (ℓ : Loc Cert.SavedIdeal.nD Cert.SavedIdeal.τ Cert.SavedIdeal.sig) → Buf (Elt Ideal) ℓ) : Prop :=
  ∀ c : Dev Cert.SavedIdeal.nD,
    (Cert.Pre_finite_qk.fn (F := Ideal) (m ((c.tc : Thread Cert.SavedIdeal.nD Cert.SavedIdeal.τ).loc Cert.SavedIdeal.main_arg0)) (m ((c.tc : Thread Cert.SavedIdeal.nD Cert.SavedIdeal.τ).loc Cert.SavedIdeal.main_arg1)) (m ((c.tc : Thread Cert.SavedIdeal.nD Cert.SavedIdeal.τ).loc Cert.SavedIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_ffn [hPre_finite_ffn : Cert.Pre_finite_ffn.Facts] (m : (ℓ : Loc Cert.ActIdeal.nD Cert.ActIdeal.τ Cert.ActIdeal.sig) → Buf (Elt Ideal) ℓ) : Prop :=
  ∀ c : Dev Cert.ActIdeal.nD,
    (Cert.Pre_finite_ffn.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_ffn [hPre_finite_ffn : Cert.Pre_finite_ffn.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_ffn.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_finite_up [hPre_finite_up : Cert.Pre_finite_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_finite_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnReferenceIdeal (m : (ℓ : Loc Cert.DhnReferenceIdeal.nD Cert.DhnReferenceIdeal.τ Cert.DhnReferenceIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dxn (m : (ℓ : Loc Cert.Dxn.nD Cert.Dxn.τ Cert.Dxn.sig) → Buf (Elt Bits) ℓ) : Prop :=
  True

def Pre_DxnIdeal (m : (ℓ : Loc Cert.DxnIdeal.nD Cert.DxnIdeal.τ Cert.DxnIdeal.sig) → Buf (Elt Ideal) ℓ) : Prop :=
  True

def Pre_DxnReferenceIdeal (m : (ℓ : Loc Cert.DxnReferenceIdeal.nD Cert.DxnReferenceIdeal.τ Cert.DxnReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DxnB (m : (ℓ : Loc Cert.DxnB.nD Cert.DxnB.τ Cert.DxnB.sig) → Buf (Elt Bits) ℓ) : Prop :=
  True

def Pre_DxnBIdeal (m : (ℓ : Loc Cert.DxnBIdeal.nD Cert.DxnBIdeal.τ Cert.DxnBIdeal.sig) → Buf (Elt Ideal) ℓ) : Prop :=
  True

def Pre_DxnBReferenceIdeal (m : (ℓ : Loc Cert.DxnBReferenceIdeal.nD Cert.DxnBReferenceIdeal.τ Cert.DxnBReferenceIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBReferenceIdeal (m : (ℓ : Loc Cert.InBReferenceIdeal.nD Cert.InBReferenceIdeal.τ Cert.InBReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownReferenceIdeal (m : (ℓ : Loc Cert.WdownReferenceIdeal.nD Cert.WdownReferenceIdeal.τ Cert.WdownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SavedIdeal [hSavedIdeal : Cert.SavedIdeal.Facts] : Prop :=
  ∀ (m : (ℓ : Loc Cert.SavedIdeal.nD Cert.SavedIdeal.τ Cert.SavedIdeal.sig) → Buf (Elt Ideal) ℓ) (g : Dev Cert.SavedIdeal.nD → PrngReg), Pre_SavedIdeal m →
    θ_run (Cert.SavedIdeal.defs (F := Ideal)) (onTc (τ := Cert.SavedIdeal.τ) (Cert.SavedIdeal.main (F := Ideal))) ⟨m, fun _ => 0, g⟩ (fun r => (∀ c : Dev Cert.SavedIdeal.nD,
      r.2.mem ((c.tc : Thread Cert.SavedIdeal.nD Cert.SavedIdeal.τ).loc Cert.SavedIdeal.main_arg0) = m ((c.tc : Thread Cert.SavedIdeal.nD Cert.SavedIdeal.τ).loc Cert.SavedIdeal.main_arg0)
      ∧ r.2.mem ((c.tc : Thread Cert.SavedIdeal.nD Cert.SavedIdeal.τ).loc Cert.SavedIdeal.main_arg1) = m ((c.tc : Thread Cert.SavedIdeal.nD Cert.SavedIdeal.τ).loc Cert.SavedIdeal.main_arg1)
      ∧ r.2.mem ((c.tc : Thread Cert.SavedIdeal.nD Cert.SavedIdeal.τ).loc Cert.SavedIdeal.main_arg2) = m ((c.tc : Thread Cert.SavedIdeal.nD Cert.SavedIdeal.τ).loc Cert.SavedIdeal.main_arg2))
      ∧ r.2.sem = fun _ => 0)

def quiescent_SavedIdeal_pre_finite_qk [hSavedIdeal : Cert.SavedIdeal.Facts] [hPre_finite_qk : Cert.Pre_finite_qk.Facts] : Prop :=
  ∀ (m : (ℓ : Loc Cert.SavedIdeal.nD Cert.SavedIdeal.τ Cert.SavedIdeal.sig) → Buf (Elt Ideal) ℓ) (g : Dev Cert.SavedIdeal.nD → PrngReg), Pre_SavedIdeal_finite_qk m →
    θ_run (Cert.SavedIdeal.defs (F := Ideal)) (onTc (τ := Cert.SavedIdeal.τ) (Cert.SavedIdeal.main (F := Ideal))) ⟨m, fun _ => 0, g⟩ (fun r => (∀ c : Dev Cert.SavedIdeal.nD,
      r.2.mem ((c.tc : Thread Cert.SavedIdeal.nD Cert.SavedIdeal.τ).loc Cert.SavedIdeal.main_arg0) = m ((c.tc : Thread Cert.SavedIdeal.nD Cert.SavedIdeal.τ).loc Cert.SavedIdeal.main_arg0)
      ∧ r.2.mem ((c.tc : Thread Cert.SavedIdeal.nD Cert.SavedIdeal.τ).loc Cert.SavedIdeal.main_arg1) = m ((c.tc : Thread Cert.SavedIdeal.nD Cert.SavedIdeal.τ).loc Cert.SavedIdeal.main_arg1)
      ∧ r.2.mem ((c.tc : Thread Cert.SavedIdeal.nD Cert.SavedIdeal.τ).loc Cert.SavedIdeal.main_arg2) = m ((c.tc : Thread Cert.SavedIdeal.nD Cert.SavedIdeal.τ).loc Cert.SavedIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_finite_ffn [hActIdeal : Cert.ActIdeal.Facts] [hPre_finite_ffn : Cert.Pre_finite_ffn.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_ffn m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4))
      ∧ r.2.sem = fun _ => 0)

def quiescent_ActReferenceIdeal_pre_finite_ffn [hActReferenceIdeal : Cert.ActReferenceIdeal.Facts] [hPre_finite_ffn : Cert.Pre_finite_ffn.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_ffn m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_UpReferenceIdeal_pre_finite_up [hUpReferenceIdeal : Cert.UpReferenceIdeal.Facts] [hPre_finite_up : Cert.Pre_finite_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_finite_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1)
      ∧ r.2.mem ((c.tc : Thread Cert.Dhn.nD Cert.Dhn.τ).loc Cert.Dhn.main_arg2) = m ((c.tc : Thread Cert.Dhn.nD Cert.Dhn.τ).loc Cert.Dhn.main_arg2)
      ∧ r.2.mem ((c.tc : Thread Cert.Dhn.nD Cert.Dhn.τ).loc Cert.Dhn.main_arg3) = m ((c.tc : Thread Cert.Dhn.nD Cert.Dhn.τ).loc Cert.Dhn.main_arg3))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
      ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
      ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3))
      ∧ r.2.sem = fun _ => 0)

def quiescent_DhnReferenceIdeal [hDhnReferenceIdeal : Cert.DhnReferenceIdeal.Facts] : Prop :=
  ∀ (m : (ℓ : Loc Cert.DhnReferenceIdeal.nD Cert.DhnReferenceIdeal.τ Cert.DhnReferenceIdeal.sig) → Buf (Elt Ideal) ℓ) (g : Dev Cert.DhnReferenceIdeal.nD → PrngReg), Pre_DhnReferenceIdeal m →
    θ_run (Cert.DhnReferenceIdeal.defs (F := Ideal)) (onTc (τ := Cert.DhnReferenceIdeal.τ) (Cert.DhnReferenceIdeal.main (F := Ideal))) ⟨m, fun _ => 0, g⟩ (fun r => (∀ c : Dev Cert.DhnReferenceIdeal.nD,
      r.2.mem ((c.tc : Thread Cert.DhnReferenceIdeal.nD Cert.DhnReferenceIdeal.τ).loc Cert.DhnReferenceIdeal.main_arg0) = m ((c.tc : Thread Cert.DhnReferenceIdeal.nD Cert.DhnReferenceIdeal.τ).loc Cert.DhnReferenceIdeal.main_arg0)
      ∧ r.2.mem ((c.tc : Thread Cert.DhnReferenceIdeal.nD Cert.DhnReferenceIdeal.τ).loc Cert.DhnReferenceIdeal.main_arg1) = m ((c.tc : Thread Cert.DhnReferenceIdeal.nD Cert.DhnReferenceIdeal.τ).loc Cert.DhnReferenceIdeal.main_arg1)
      ∧ r.2.mem ((c.tc : Thread Cert.DhnReferenceIdeal.nD Cert.DhnReferenceIdeal.τ).loc Cert.DhnReferenceIdeal.main_arg2) = m ((c.tc : Thread Cert.DhnReferenceIdeal.nD Cert.DhnReferenceIdeal.τ).loc Cert.DhnReferenceIdeal.main_arg2)
      ∧ r.2.mem ((c.tc : Thread Cert.DhnReferenceIdeal.nD Cert.DhnReferenceIdeal.τ).loc Cert.DhnReferenceIdeal.main_arg3) = m ((c.tc : Thread Cert.DhnReferenceIdeal.nD Cert.DhnReferenceIdeal.τ).loc Cert.DhnReferenceIdeal.main_arg3))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Dxn [hDxn : Cert.Dxn.Facts] : Prop :=
  ∀ (m : (ℓ : Loc Cert.Dxn.nD Cert.Dxn.τ Cert.Dxn.sig) → Buf (Elt Bits) ℓ) (g : Dev Cert.Dxn.nD → PrngReg), Pre_Dxn m →
    θ_run (Cert.Dxn.defs (F := Bits)) (onTc (τ := Cert.Dxn.τ) (Cert.Dxn.main (F := Bits))) ⟨m, fun _ => 0, g⟩ (fun r => (∀ c : Dev Cert.Dxn.nD,
      r.2.mem ((c.tc : Thread Cert.Dxn.nD Cert.Dxn.τ).loc Cert.Dxn.main_arg0) = m ((c.tc : Thread Cert.Dxn.nD Cert.Dxn.τ).loc Cert.Dxn.main_arg0)
      ∧ r.2.mem ((c.tc : Thread Cert.Dxn.nD Cert.Dxn.τ).loc Cert.Dxn.main_arg1) = m ((c.tc : Thread Cert.Dxn.nD Cert.Dxn.τ).loc Cert.Dxn.main_arg1))
      ∧ r.2.sem = fun _ => 0)

def quiescent_DxnIdeal [hDxnIdeal : Cert.DxnIdeal.Facts] : Prop :=
  ∀ (m : (ℓ : Loc Cert.DxnIdeal.nD Cert.DxnIdeal.τ Cert.DxnIdeal.sig) → Buf (Elt Ideal) ℓ) (g : Dev Cert.DxnIdeal.nD → PrngReg), Pre_DxnIdeal m →
    θ_run (Cert.DxnIdeal.defs (F := Ideal)) (onTc (τ := Cert.DxnIdeal.τ) (Cert.DxnIdeal.main (F := Ideal))) ⟨m, fun _ => 0, g⟩ (fun r => (∀ c : Dev Cert.DxnIdeal.nD,
      r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
      ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1))
      ∧ r.2.sem = fun _ => 0)

def quiescent_DxnReferenceIdeal [hDxnReferenceIdeal : Cert.DxnReferenceIdeal.Facts] : Prop :=
  ∀ (m : (ℓ : Loc Cert.DxnReferenceIdeal.nD Cert.DxnReferenceIdeal.τ Cert.DxnReferenceIdeal.sig) → Buf (Elt Ideal) ℓ) (g : Dev Cert.DxnReferenceIdeal.nD → PrngReg), Pre_DxnReferenceIdeal m →
    θ_run (Cert.DxnReferenceIdeal.defs (F := Ideal)) (onTc (τ := Cert.DxnReferenceIdeal.τ) (Cert.DxnReferenceIdeal.main (F := Ideal))) ⟨m, fun _ => 0, g⟩ (fun r => (∀ c : Dev Cert.DxnReferenceIdeal.nD,
      r.2.mem ((c.tc : Thread Cert.DxnReferenceIdeal.nD Cert.DxnReferenceIdeal.τ).loc Cert.DxnReferenceIdeal.main_arg0) = m ((c.tc : Thread Cert.DxnReferenceIdeal.nD Cert.DxnReferenceIdeal.τ).loc Cert.DxnReferenceIdeal.main_arg0)
      ∧ r.2.mem ((c.tc : Thread Cert.DxnReferenceIdeal.nD Cert.DxnReferenceIdeal.τ).loc Cert.DxnReferenceIdeal.main_arg1) = m ((c.tc : Thread Cert.DxnReferenceIdeal.nD Cert.DxnReferenceIdeal.τ).loc Cert.DxnReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_DxnB [hDxnB : Cert.DxnB.Facts] : Prop :=
  ∀ (m : (ℓ : Loc Cert.DxnB.nD Cert.DxnB.τ Cert.DxnB.sig) → Buf (Elt Bits) ℓ) (g : Dev Cert.DxnB.nD → PrngReg), Pre_DxnB m →
    θ_run (Cert.DxnB.defs (F := Bits)) (onTc (τ := Cert.DxnB.τ) (Cert.DxnB.main (F := Bits))) ⟨m, fun _ => 0, g⟩ (fun r => (∀ c : Dev Cert.DxnB.nD,
      r.2.mem ((c.tc : Thread Cert.DxnB.nD Cert.DxnB.τ).loc Cert.DxnB.main_arg0) = m ((c.tc : Thread Cert.DxnB.nD Cert.DxnB.τ).loc Cert.DxnB.main_arg0)
      ∧ r.2.mem ((c.tc : Thread Cert.DxnB.nD Cert.DxnB.τ).loc Cert.DxnB.main_arg1) = m ((c.tc : Thread Cert.DxnB.nD Cert.DxnB.τ).loc Cert.DxnB.main_arg1))
      ∧ r.2.sem = fun _ => 0)

def quiescent_DxnBIdeal [hDxnBIdeal : Cert.DxnBIdeal.Facts] : Prop :=
  ∀ (m : (ℓ : Loc Cert.DxnBIdeal.nD Cert.DxnBIdeal.τ Cert.DxnBIdeal.sig) → Buf (Elt Ideal) ℓ) (g : Dev Cert.DxnBIdeal.nD → PrngReg), Pre_DxnBIdeal m →
    θ_run (Cert.DxnBIdeal.defs (F := Ideal)) (onTc (τ := Cert.DxnBIdeal.τ) (Cert.DxnBIdeal.main (F := Ideal))) ⟨m, fun _ => 0, g⟩ (fun r => (∀ c : Dev Cert.DxnBIdeal.nD,
      r.2.mem ((c.tc : Thread Cert.DxnBIdeal.nD Cert.DxnBIdeal.τ).loc Cert.DxnBIdeal.main_arg0) = m ((c.tc : Thread Cert.DxnBIdeal.nD Cert.DxnBIdeal.τ).loc Cert.DxnBIdeal.main_arg0)
      ∧ r.2.mem ((c.tc : Thread Cert.DxnBIdeal.nD Cert.DxnBIdeal.τ).loc Cert.DxnBIdeal.main_arg1) = m ((c.tc : Thread Cert.DxnBIdeal.nD Cert.DxnBIdeal.τ).loc Cert.DxnBIdeal.main_arg1))
      ∧ r.2.sem = fun _ => 0)

def quiescent_DxnBReferenceIdeal [hDxnBReferenceIdeal : Cert.DxnBReferenceIdeal.Facts] : Prop :=
  ∀ (m : (ℓ : Loc Cert.DxnBReferenceIdeal.nD Cert.DxnBReferenceIdeal.τ Cert.DxnBReferenceIdeal.sig) → Buf (Elt Ideal) ℓ) (g : Dev Cert.DxnBReferenceIdeal.nD → PrngReg), Pre_DxnBReferenceIdeal m →
    θ_run (Cert.DxnBReferenceIdeal.defs (F := Ideal)) (onTc (τ := Cert.DxnBReferenceIdeal.τ) (Cert.DxnBReferenceIdeal.main (F := Ideal))) ⟨m, fun _ => 0, g⟩ (fun r => (∀ c : Dev Cert.DxnBReferenceIdeal.nD,
      r.2.mem ((c.tc : Thread Cert.DxnBReferenceIdeal.nD Cert.DxnBReferenceIdeal.τ).loc Cert.DxnBReferenceIdeal.main_arg0) = m ((c.tc : Thread Cert.DxnBReferenceIdeal.nD Cert.DxnBReferenceIdeal.τ).loc Cert.DxnBReferenceIdeal.main_arg0)
      ∧ r.2.mem ((c.tc : Thread Cert.DxnBReferenceIdeal.nD Cert.DxnBReferenceIdeal.τ).loc Cert.DxnBReferenceIdeal.main_arg1) = m ((c.tc : Thread Cert.DxnBReferenceIdeal.nD Cert.DxnBReferenceIdeal.τ).loc Cert.DxnBReferenceIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBReferenceIdeal [hInBReferenceIdeal : Cert.InBReferenceIdeal.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2)
      ∧ r.2.mem ((c.tc : Thread Cert.WoutReferenceIdeal.nD Cert.WoutReferenceIdeal.τ).loc Cert.WoutReferenceIdeal.main_arg3) = m ((c.tc : Thread Cert.WoutReferenceIdeal.nD Cert.WoutReferenceIdeal.τ).loc Cert.WoutReferenceIdeal.main_arg3))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1)
      ∧ r.2.mem ((c.tc : Thread Cert.Wdown.nD Cert.Wdown.τ).loc Cert.Wdown.main_arg2) = m ((c.tc : Thread Cert.Wdown.nD Cert.Wdown.τ).loc Cert.Wdown.main_arg2)
      ∧ r.2.mem ((c.tc : Thread Cert.Wdown.nD Cert.Wdown.τ).loc Cert.Wdown.main_arg3) = m ((c.tc : Thread Cert.Wdown.nD Cert.Wdown.τ).loc Cert.Wdown.main_arg3))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
      ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2)
      ∧ r.2.mem ((c.tc : Thread Cert.WdownIdeal.nD Cert.WdownIdeal.τ).loc Cert.WdownIdeal.main_arg3) = m ((c.tc : Thread Cert.WdownIdeal.nD Cert.WdownIdeal.τ).loc Cert.WdownIdeal.main_arg3))
      ∧ r.2.sem = fun _ => 0)

def quiescent_WdownReferenceIdeal [hWdownReferenceIdeal : Cert.WdownReferenceIdeal.Facts] : Prop :=
  ∀ (m : (ℓ : Loc Cert.WdownReferenceIdeal.nD Cert.WdownReferenceIdeal.τ Cert.WdownReferenceIdeal.sig) → Buf (Elt Ideal) ℓ) (g : Dev Cert.WdownReferenceIdeal.nD → PrngReg), Pre_WdownReferenceIdeal m →
    θ_run (Cert.WdownReferenceIdeal.defs (F := Ideal)) (onTc (τ := Cert.WdownReferenceIdeal.τ) (Cert.WdownReferenceIdeal.main (F := Ideal))) ⟨m, fun _ => 0, g⟩ (fun r => (∀ c : Dev Cert.WdownReferenceIdeal.nD,
      r.2.mem ((c.tc : Thread Cert.WdownReferenceIdeal.nD Cert.WdownReferenceIdeal.τ).loc Cert.WdownReferenceIdeal.main_arg0) = m ((c.tc : Thread Cert.WdownReferenceIdeal.nD Cert.WdownReferenceIdeal.τ).loc Cert.WdownReferenceIdeal.main_arg0)
      ∧ r.2.mem ((c.tc : Thread Cert.WdownReferenceIdeal.nD Cert.WdownReferenceIdeal.τ).loc Cert.WdownReferenceIdeal.main_arg1) = m ((c.tc : Thread Cert.WdownReferenceIdeal.nD Cert.WdownReferenceIdeal.τ).loc Cert.WdownReferenceIdeal.main_arg1)
      ∧ r.2.mem ((c.tc : Thread Cert.WdownReferenceIdeal.nD Cert.WdownReferenceIdeal.τ).loc Cert.WdownReferenceIdeal.main_arg2) = m ((c.tc : Thread Cert.WdownReferenceIdeal.nD Cert.WdownReferenceIdeal.τ).loc Cert.WdownReferenceIdeal.main_arg2)
      ∧ r.2.mem ((c.tc : Thread Cert.WdownReferenceIdeal.nD Cert.WdownReferenceIdeal.τ).loc Cert.WdownReferenceIdeal.main_arg3) = m ((c.tc : Thread Cert.WdownReferenceIdeal.nD Cert.WdownReferenceIdeal.τ).loc Cert.WdownReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attn_AttnIdeal : Prop :=
  IdealRules.named_const.Statement Cert.AttnIdeal.κ "inv_log_2" .f32 0x3FB8AA3B#32 (((Real.log 2)⁻¹ : ℝ) : EReal)

def algebraic_AttnIdeal_SavedIdeal_pre_finite_qk [hAttnIdeal : Cert.AttnIdeal.Facts] [hSavedIdeal : Cert.SavedIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.SavedIdeal.nD Cert.SavedIdeal.τ Cert.SavedIdeal.sig) → Buf (Elt Ideal) ℓ) (g' : Dev Cert.SavedIdeal.nD → PrngReg), Pre_AttnIdeal_finite_qk m →
    (∀ c : Dev Cert.AttnIdeal.nD,
      m' ((c.tc : Thread Cert.SavedIdeal.nD Cert.SavedIdeal.τ).loc Cert.SavedIdeal.main_arg0) = m ((c.tc : Thread Cert.AttnIdeal.nD Cert.AttnIdeal.τ).loc Cert.AttnIdeal.main_arg0)
      ∧ m' ((c.tc : Thread Cert.SavedIdeal.nD Cert.SavedIdeal.τ).loc Cert.SavedIdeal.main_arg1) = m ((c.tc : Thread Cert.AttnIdeal.nD Cert.AttnIdeal.τ).loc Cert.AttnIdeal.main_arg1)
      ∧ m' ((c.tc : Thread Cert.SavedIdeal.nD Cert.SavedIdeal.τ).loc Cert.SavedIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v8_0)) (v1 : (c : Dev Cert.AttnIdeal.nD) → Buf (Elt Ideal) ((c.tc : Thread Cert.AttnIdeal.nD Cert.AttnIdeal.τ).loc Cert.AttnIdeal.main_v8_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8_0) = v0 c
          ∧ r.2.mem ((c.tc : Thread Cert.AttnIdeal.nD Cert.AttnIdeal.τ).loc Cert.AttnIdeal.main_v8_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.SavedIdeal.defs (F := Ideal)) (onTc (τ := Cert.SavedIdeal.τ) (Cert.SavedIdeal.main (F := Ideal))) ⟨m', fun _ => 0, g'⟩ (fun r => ∀ c : Dev Cert.SavedIdeal.nD,
          r.2.mem ((c.tc : Thread Cert.SavedIdeal.nD Cert.SavedIdeal.τ).loc Cert.SavedIdeal.main_v52) = v0 c
          ∧ r.2.mem ((c.tc : Thread Cert.SavedIdeal.nD Cert.SavedIdeal.τ).loc Cert.SavedIdeal.main_v54) = v1 c
          ∧ r.2.mem ((c.tc : Thread Cert.SavedIdeal.nD Cert.SavedIdeal.τ).loc Cert.SavedIdeal.main_arg0) = m' ((c.tc : Thread Cert.SavedIdeal.nD Cert.SavedIdeal.τ).loc Cert.SavedIdeal.main_arg0)
          ∧ r.2.mem ((c.tc : Thread Cert.SavedIdeal.nD Cert.SavedIdeal.τ).loc Cert.SavedIdeal.main_arg1) = m' ((c.tc : Thread Cert.SavedIdeal.nD Cert.SavedIdeal.τ).loc Cert.SavedIdeal.main_arg1)
          ∧ r.2.mem ((c.tc : Thread Cert.SavedIdeal.nD Cert.SavedIdeal.τ).loc Cert.SavedIdeal.main_arg2) = m' ((c.tc : Thread Cert.SavedIdeal.nD Cert.SavedIdeal.τ).loc Cert.SavedIdeal.main_arg2))

def preserves_Act_ActIdeal : Prop :=
  True

def algebraic_ActIdeal_ActReferenceIdeal_pre_finite_ffn [hActIdeal : Cert.ActIdeal.Facts] [hActReferenceIdeal : Cert.ActReferenceIdeal.Facts] [hPre_finite_ffn : Cert.Pre_finite_ffn.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_finite_ffn m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)
      ∧ m' ((c.tc : Thread Cert.ActReferenceIdeal.nD Cert.ActReferenceIdeal.τ).loc Cert.ActReferenceIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v25_0)) (v1 : (c : Dev Cert.ActIdeal.nD) → Buf (Elt Ideal) ((c.tc : Thread Cert.ActIdeal.nD Cert.ActIdeal.τ).loc Cert.ActIdeal.main_v25_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v25_0) = v0 c
          ∧ r.2.mem ((c.tc : Thread Cert.ActIdeal.nD Cert.ActIdeal.τ).loc Cert.ActIdeal.main_v25_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v13) = v0 c
          ∧ r.2.mem ((c.tc : Thread Cert.ActReferenceIdeal.nD Cert.ActReferenceIdeal.τ).loc Cert.ActReferenceIdeal.main_v16) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3)
          ∧ r.2.mem ((c.tc : Thread Cert.ActReferenceIdeal.nD Cert.ActReferenceIdeal.τ).loc Cert.ActReferenceIdeal.main_arg4) = m' ((c.tc : Thread Cert.ActReferenceIdeal.nD Cert.ActReferenceIdeal.τ).loc Cert.ActReferenceIdeal.main_arg4))

def preserves_Up_UpIdeal : Prop :=
  True

def algebraic_UpIdeal_UpReferenceIdeal_pre_finite_up [hUpIdeal : Cert.UpIdeal.Facts] [hUpReferenceIdeal : Cert.UpReferenceIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal_finite_up m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v17) = v0 c
          ∧ r.2.mem ((c.tc : Thread Cert.UpReferenceIdeal.nD Cert.UpReferenceIdeal.τ).loc Cert.UpReferenceIdeal.main_v20) = v1 c
          ∧ r.2.mem ((c.tc : Thread Cert.UpReferenceIdeal.nD Cert.UpReferenceIdeal.τ).loc Cert.UpReferenceIdeal.main_v23) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v9) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Dhn_DhnIdeal : Prop :=
  True

def algebraic_DhnIdeal_DhnReferenceIdeal [hDhnIdeal : Cert.DhnIdeal.Facts] [hDhnReferenceIdeal : Cert.DhnReferenceIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnReferenceIdeal.nD Cert.DhnReferenceIdeal.τ Cert.DhnReferenceIdeal.sig) → Buf (Elt Ideal) ℓ) (g' : Dev Cert.DhnReferenceIdeal.nD → PrngReg), Pre_DhnIdeal m →
    (∀ c : Dev Cert.DhnIdeal.nD,
      m' ((c.tc : Thread Cert.DhnReferenceIdeal.nD Cert.DhnReferenceIdeal.τ).loc Cert.DhnReferenceIdeal.main_arg0) = m ((c.tc : Thread Cert.DhnIdeal.nD Cert.DhnIdeal.τ).loc Cert.DhnIdeal.main_arg0)
      ∧ m' ((c.tc : Thread Cert.DhnReferenceIdeal.nD Cert.DhnReferenceIdeal.τ).loc Cert.DhnReferenceIdeal.main_arg1) = m ((c.tc : Thread Cert.DhnIdeal.nD Cert.DhnIdeal.τ).loc Cert.DhnIdeal.main_arg1)
      ∧ m' ((c.tc : Thread Cert.DhnReferenceIdeal.nD Cert.DhnReferenceIdeal.τ).loc Cert.DhnReferenceIdeal.main_arg2) = m ((c.tc : Thread Cert.DhnIdeal.nD Cert.DhnIdeal.τ).loc Cert.DhnIdeal.main_arg2)
      ∧ m' ((c.tc : Thread Cert.DhnReferenceIdeal.nD Cert.DhnReferenceIdeal.τ).loc Cert.DhnReferenceIdeal.main_arg3) = m ((c.tc : Thread Cert.DhnIdeal.nD Cert.DhnIdeal.τ).loc Cert.DhnIdeal.main_arg3)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
          ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
          ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3))
      ∧ θ_run (Cert.DhnReferenceIdeal.defs (F := Ideal)) (onTc (τ := Cert.DhnReferenceIdeal.τ) (Cert.DhnReferenceIdeal.main (F := Ideal))) ⟨m', fun _ => 0, g'⟩ (fun r => ∀ c : Dev Cert.DhnReferenceIdeal.nD,
          r.2.mem ((c.tc : Thread Cert.DhnReferenceIdeal.nD Cert.DhnReferenceIdeal.τ).loc Cert.DhnReferenceIdeal.main_v17) = v0 c
          ∧ r.2.mem ((c.tc : Thread Cert.DhnReferenceIdeal.nD Cert.DhnReferenceIdeal.τ).loc Cert.DhnReferenceIdeal.main_arg0) = m' ((c.tc : Thread Cert.DhnReferenceIdeal.nD Cert.DhnReferenceIdeal.τ).loc Cert.DhnReferenceIdeal.main_arg0)
          ∧ r.2.mem ((c.tc : Thread Cert.DhnReferenceIdeal.nD Cert.DhnReferenceIdeal.τ).loc Cert.DhnReferenceIdeal.main_arg1) = m' ((c.tc : Thread Cert.DhnReferenceIdeal.nD Cert.DhnReferenceIdeal.τ).loc Cert.DhnReferenceIdeal.main_arg1)
          ∧ r.2.mem ((c.tc : Thread Cert.DhnReferenceIdeal.nD Cert.DhnReferenceIdeal.τ).loc Cert.DhnReferenceIdeal.main_arg2) = m' ((c.tc : Thread Cert.DhnReferenceIdeal.nD Cert.DhnReferenceIdeal.τ).loc Cert.DhnReferenceIdeal.main_arg2)
          ∧ r.2.mem ((c.tc : Thread Cert.DhnReferenceIdeal.nD Cert.DhnReferenceIdeal.τ).loc Cert.DhnReferenceIdeal.main_arg3) = m' ((c.tc : Thread Cert.DhnReferenceIdeal.nD Cert.DhnReferenceIdeal.τ).loc Cert.DhnReferenceIdeal.main_arg3))

def preserves_Dmix_DmixIdeal : Prop :=
  True

def algebraic_DmixIdeal_DmixReferenceIdeal [hDmixIdeal : Cert.DmixIdeal.Facts] [hDmixReferenceIdeal : Cert.DmixReferenceIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixIdeal m →
    (∀ c : Dev Cert.DmixIdeal.nD,
      m' ((c.tc : Thread Cert.DmixReferenceIdeal.nD Cert.DmixReferenceIdeal.τ).loc Cert.DmixReferenceIdeal.main_arg0) = m ((c.tc : Thread Cert.DmixIdeal.nD Cert.DmixIdeal.τ).loc Cert.DmixIdeal.main_arg0)
      ∧ m' ((c.tc : Thread Cert.DmixReferenceIdeal.nD Cert.DmixReferenceIdeal.τ).loc Cert.DmixReferenceIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v4) = v0 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Dxn_DxnIdeal : Prop :=
  True

def algebraic_DxnIdeal_DxnReferenceIdeal [hDxnIdeal : Cert.DxnIdeal.Facts] [hDxnReferenceIdeal : Cert.DxnReferenceIdeal.Facts] : Prop :=
  ∀ (m : (ℓ : Loc Cert.DxnIdeal.nD Cert.DxnIdeal.τ Cert.DxnIdeal.sig) → Buf (Elt Ideal) ℓ) (g : Dev Cert.DxnIdeal.nD → PrngReg)
    (m' : (ℓ : Loc Cert.DxnReferenceIdeal.nD Cert.DxnReferenceIdeal.τ Cert.DxnReferenceIdeal.sig) → Buf (Elt Ideal) ℓ) (g' : Dev Cert.DxnReferenceIdeal.nD → PrngReg), Pre_DxnIdeal m →
    (∀ c : Dev Cert.DxnIdeal.nD,
      m' ((c.tc : Thread Cert.DxnReferenceIdeal.nD Cert.DxnReferenceIdeal.τ).loc Cert.DxnReferenceIdeal.main_arg0) = m ((c.tc : Thread Cert.DxnIdeal.nD Cert.DxnIdeal.τ).loc Cert.DxnIdeal.main_arg0)
      ∧ m' ((c.tc : Thread Cert.DxnReferenceIdeal.nD Cert.DxnReferenceIdeal.τ).loc Cert.DxnReferenceIdeal.main_arg1) = m ((c.tc : Thread Cert.DxnIdeal.nD Cert.DxnIdeal.τ).loc Cert.DxnIdeal.main_arg1)) →
    ∃ (v0 : (c : Dev Cert.DxnIdeal.nD) → Buf (Elt Ideal) ((c.tc : Thread Cert.DxnIdeal.nD Cert.DxnIdeal.τ).loc Cert.DxnIdeal.main_v0)),
      θ_run (Cert.DxnIdeal.defs (F := Ideal)) (onTc (τ := Cert.DxnIdeal.τ) (Cert.DxnIdeal.main (F := Ideal))) ⟨m, fun _ => 0, g⟩ (fun r => ∀ c : Dev Cert.DxnIdeal.nD,
          r.2.mem ((c.tc : Thread Cert.DxnIdeal.nD Cert.DxnIdeal.τ).loc Cert.DxnIdeal.main_v0) = v0 c
          ∧ r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
          ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1))
      ∧ θ_run (Cert.DxnReferenceIdeal.defs (F := Ideal)) (onTc (τ := Cert.DxnReferenceIdeal.τ) (Cert.DxnReferenceIdeal.main (F := Ideal))) ⟨m', fun _ => 0, g'⟩ (fun r => ∀ c : Dev Cert.DxnReferenceIdeal.nD,
          r.2.mem ((c.tc : Thread Cert.DxnReferenceIdeal.nD Cert.DxnReferenceIdeal.τ).loc Cert.DxnReferenceIdeal.main_v6) = v0 c
          ∧ r.2.mem ((c.tc : Thread Cert.DxnReferenceIdeal.nD Cert.DxnReferenceIdeal.τ).loc Cert.DxnReferenceIdeal.main_arg0) = m' ((c.tc : Thread Cert.DxnReferenceIdeal.nD Cert.DxnReferenceIdeal.τ).loc Cert.DxnReferenceIdeal.main_arg0)
          ∧ r.2.mem ((c.tc : Thread Cert.DxnReferenceIdeal.nD Cert.DxnReferenceIdeal.τ).loc Cert.DxnReferenceIdeal.main_arg1) = m' ((c.tc : Thread Cert.DxnReferenceIdeal.nD Cert.DxnReferenceIdeal.τ).loc Cert.DxnReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v8) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_DxnB_DxnBIdeal : Prop :=
  True

def algebraic_DxnBIdeal_DxnBReferenceIdeal [hDxnBIdeal : Cert.DxnBIdeal.Facts] [hDxnBReferenceIdeal : Cert.DxnBReferenceIdeal.Facts] : Prop :=
  ∀ (m : (ℓ : Loc Cert.DxnBIdeal.nD Cert.DxnBIdeal.τ Cert.DxnBIdeal.sig) → Buf (Elt Ideal) ℓ) (g : Dev Cert.DxnBIdeal.nD → PrngReg)
    (m' : (ℓ : Loc Cert.DxnBReferenceIdeal.nD Cert.DxnBReferenceIdeal.τ Cert.DxnBReferenceIdeal.sig) → Buf (Elt Ideal) ℓ) (g' : Dev Cert.DxnBReferenceIdeal.nD → PrngReg), Pre_DxnBIdeal m →
    (∀ c : Dev Cert.DxnBIdeal.nD,
      m' ((c.tc : Thread Cert.DxnBReferenceIdeal.nD Cert.DxnBReferenceIdeal.τ).loc Cert.DxnBReferenceIdeal.main_arg0) = m ((c.tc : Thread Cert.DxnBIdeal.nD Cert.DxnBIdeal.τ).loc Cert.DxnBIdeal.main_arg0)
      ∧ m' ((c.tc : Thread Cert.DxnBReferenceIdeal.nD Cert.DxnBReferenceIdeal.τ).loc Cert.DxnBReferenceIdeal.main_arg1) = m ((c.tc : Thread Cert.DxnBIdeal.nD Cert.DxnBIdeal.τ).loc Cert.DxnBIdeal.main_arg1)) →
    ∃ (v0 : (c : Dev Cert.DxnBIdeal.nD) → Buf (Elt Ideal) ((c.tc : Thread Cert.DxnBIdeal.nD Cert.DxnBIdeal.τ).loc Cert.DxnBIdeal.main_v0)),
      θ_run (Cert.DxnBIdeal.defs (F := Ideal)) (onTc (τ := Cert.DxnBIdeal.τ) (Cert.DxnBIdeal.main (F := Ideal))) ⟨m, fun _ => 0, g⟩ (fun r => ∀ c : Dev Cert.DxnBIdeal.nD,
          r.2.mem ((c.tc : Thread Cert.DxnBIdeal.nD Cert.DxnBIdeal.τ).loc Cert.DxnBIdeal.main_v0) = v0 c
          ∧ r.2.mem ((c.tc : Thread Cert.DxnBIdeal.nD Cert.DxnBIdeal.τ).loc Cert.DxnBIdeal.main_arg0) = m ((c.tc : Thread Cert.DxnBIdeal.nD Cert.DxnBIdeal.τ).loc Cert.DxnBIdeal.main_arg0)
          ∧ r.2.mem ((c.tc : Thread Cert.DxnBIdeal.nD Cert.DxnBIdeal.τ).loc Cert.DxnBIdeal.main_arg1) = m ((c.tc : Thread Cert.DxnBIdeal.nD Cert.DxnBIdeal.τ).loc Cert.DxnBIdeal.main_arg1))
      ∧ θ_run (Cert.DxnBReferenceIdeal.defs (F := Ideal)) (onTc (τ := Cert.DxnBReferenceIdeal.τ) (Cert.DxnBReferenceIdeal.main (F := Ideal))) ⟨m', fun _ => 0, g'⟩ (fun r => ∀ c : Dev Cert.DxnBReferenceIdeal.nD,
          r.2.mem ((c.tc : Thread Cert.DxnBReferenceIdeal.nD Cert.DxnBReferenceIdeal.τ).loc Cert.DxnBReferenceIdeal.main_v6) = v0 c
          ∧ r.2.mem ((c.tc : Thread Cert.DxnBReferenceIdeal.nD Cert.DxnBReferenceIdeal.τ).loc Cert.DxnBReferenceIdeal.main_arg0) = m' ((c.tc : Thread Cert.DxnBReferenceIdeal.nD Cert.DxnBReferenceIdeal.τ).loc Cert.DxnBReferenceIdeal.main_arg0)
          ∧ r.2.mem ((c.tc : Thread Cert.DxnBReferenceIdeal.nD Cert.DxnBReferenceIdeal.τ).loc Cert.DxnBReferenceIdeal.main_arg1) = m' ((c.tc : Thread Cert.DxnBReferenceIdeal.nD Cert.DxnBReferenceIdeal.τ).loc Cert.DxnBReferenceIdeal.main_arg1))

def preserves_InB_InBIdeal : Prop :=
  True

def algebraic_InBIdeal_InBReferenceIdeal [hInBIdeal : Cert.InBIdeal.Facts] [hInBReferenceIdeal : Cert.InBReferenceIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBReferenceIdeal.nD Cert.InBReferenceIdeal.τ Cert.InBReferenceIdeal.sig) → Buf (Elt Ideal) ℓ) (g' : Dev Cert.InBReferenceIdeal.nD → PrngReg), Pre_InBIdeal m →
    (∀ c : Dev Cert.InBIdeal.nD,
      m' ((c.tc : Thread Cert.InBReferenceIdeal.nD Cert.InBReferenceIdeal.τ).loc Cert.InBReferenceIdeal.main_arg0) = m ((c.tc : Thread Cert.InBIdeal.nD Cert.InBIdeal.τ).loc Cert.InBIdeal.main_arg0)
      ∧ m' ((c.tc : Thread Cert.InBReferenceIdeal.nD Cert.InBReferenceIdeal.τ).loc Cert.InBReferenceIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBReferenceIdeal.defs (F := Ideal)) (onTc (τ := Cert.InBReferenceIdeal.τ) (Cert.InBReferenceIdeal.main (F := Ideal))) ⟨m', fun _ => 0, g'⟩ (fun r => ∀ c : Dev Cert.InBReferenceIdeal.nD,
          r.2.mem ((c.tc : Thread Cert.InBReferenceIdeal.nD Cert.InBReferenceIdeal.τ).loc Cert.InBReferenceIdeal.main_v8) = v0 c
          ∧ r.2.mem ((c.tc : Thread Cert.InBReferenceIdeal.nD Cert.InBReferenceIdeal.τ).loc Cert.InBReferenceIdeal.main_arg0) = m' ((c.tc : Thread Cert.InBReferenceIdeal.nD Cert.InBReferenceIdeal.τ).loc Cert.InBReferenceIdeal.main_arg0)
          ∧ r.2.mem ((c.tc : Thread Cert.InBReferenceIdeal.nD Cert.InBReferenceIdeal.τ).loc Cert.InBReferenceIdeal.main_arg1) = m' ((c.tc : Thread Cert.InBReferenceIdeal.nD Cert.InBReferenceIdeal.τ).loc Cert.InBReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v4) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_Wout_WoutIdeal : Prop :=
  True

def algebraic_WoutIdeal_WoutReferenceIdeal [hWoutIdeal : Cert.WoutIdeal.Facts] [hWoutReferenceIdeal : Cert.WoutReferenceIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutIdeal m →
    (∀ c : Dev Cert.WoutIdeal.nD,
      m' ((c.tc : Thread Cert.WoutReferenceIdeal.nD Cert.WoutReferenceIdeal.τ).loc Cert.WoutReferenceIdeal.main_arg0) = m ((c.tc : Thread Cert.WoutIdeal.nD Cert.WoutIdeal.τ).loc Cert.WoutIdeal.main_arg0)
      ∧ m' ((c.tc : Thread Cert.WoutReferenceIdeal.nD Cert.WoutReferenceIdeal.τ).loc Cert.WoutReferenceIdeal.main_arg1) = m ((c.tc : Thread Cert.WoutIdeal.nD Cert.WoutIdeal.τ).loc Cert.WoutIdeal.main_arg1)
      ∧ m' ((c.tc : Thread Cert.WoutReferenceIdeal.nD Cert.WoutReferenceIdeal.τ).loc Cert.WoutReferenceIdeal.main_arg2) = m ((c.tc : Thread Cert.WoutIdeal.nD Cert.WoutIdeal.τ).loc Cert.WoutIdeal.main_arg2)
      ∧ m' ((c.tc : Thread Cert.WoutReferenceIdeal.nD Cert.WoutReferenceIdeal.τ).loc Cert.WoutReferenceIdeal.main_arg3) = m ((c.tc : Thread Cert.WoutIdeal.nD Cert.WoutIdeal.τ).loc Cert.WoutIdeal.main_arg3)) →
    ∃ (v0 : (c : Dev Cert.WoutIdeal.nD) → Buf (Elt Ideal) ((c.tc : Thread Cert.WoutIdeal.nD Cert.WoutIdeal.τ).loc Cert.WoutIdeal.main_v0_0)) (v1 : (c : Dev Cert.WoutIdeal.nD) → Buf (Elt Ideal) ((c.tc : Thread Cert.WoutIdeal.nD Cert.WoutIdeal.τ).loc Cert.WoutIdeal.main_v0_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0_0) = v0 c
          ∧ r.2.mem ((c.tc : Thread Cert.WoutIdeal.nD Cert.WoutIdeal.τ).loc Cert.WoutIdeal.main_v0_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v2) = v0 c
          ∧ r.2.mem ((c.tc : Thread Cert.WoutReferenceIdeal.nD Cert.WoutReferenceIdeal.τ).loc Cert.WoutReferenceIdeal.main_v19) = v1 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2)
          ∧ r.2.mem ((c.tc : Thread Cert.WoutReferenceIdeal.nD Cert.WoutReferenceIdeal.τ).loc Cert.WoutReferenceIdeal.main_arg3) = m' ((c.tc : Thread Cert.WoutReferenceIdeal.nD Cert.WoutReferenceIdeal.τ).loc Cert.WoutReferenceIdeal.main_arg3))

def preserves_Wdown_WdownIdeal : Prop :=
  True

def algebraic_WdownIdeal_WdownReferenceIdeal [hWdownIdeal : Cert.WdownIdeal.Facts] [hWdownReferenceIdeal : Cert.WdownReferenceIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownReferenceIdeal.nD Cert.WdownReferenceIdeal.τ Cert.WdownReferenceIdeal.sig) → Buf (Elt Ideal) ℓ) (g' : Dev Cert.WdownReferenceIdeal.nD → PrngReg), Pre_WdownIdeal m →
    (∀ c : Dev Cert.WdownIdeal.nD,
      m' ((c.tc : Thread Cert.WdownReferenceIdeal.nD Cert.WdownReferenceIdeal.τ).loc Cert.WdownReferenceIdeal.main_arg0) = m ((c.tc : Thread Cert.WdownIdeal.nD Cert.WdownIdeal.τ).loc Cert.WdownIdeal.main_arg0)
      ∧ m' ((c.tc : Thread Cert.WdownReferenceIdeal.nD Cert.WdownReferenceIdeal.τ).loc Cert.WdownReferenceIdeal.main_arg1) = m ((c.tc : Thread Cert.WdownIdeal.nD Cert.WdownIdeal.τ).loc Cert.WdownIdeal.main_arg1)
      ∧ m' ((c.tc : Thread Cert.WdownReferenceIdeal.nD Cert.WdownReferenceIdeal.τ).loc Cert.WdownReferenceIdeal.main_arg2) = m ((c.tc : Thread Cert.WdownIdeal.nD Cert.WdownIdeal.τ).loc Cert.WdownIdeal.main_arg2)
      ∧ m' ((c.tc : Thread Cert.WdownReferenceIdeal.nD Cert.WdownReferenceIdeal.τ).loc Cert.WdownReferenceIdeal.main_arg3) = m ((c.tc : Thread Cert.WdownIdeal.nD Cert.WdownIdeal.τ).loc Cert.WdownIdeal.main_arg3)) →
    ∃ (v0 : (c : Dev Cert.WdownIdeal.nD) → Buf (Elt Ideal) ((c.tc : Thread Cert.WdownIdeal.nD Cert.WdownIdeal.τ).loc Cert.WdownIdeal.main_v0_0)) (v1 : (c : Dev Cert.WdownIdeal.nD) → Buf (Elt Ideal) ((c.tc : Thread Cert.WdownIdeal.nD Cert.WdownIdeal.τ).loc Cert.WdownIdeal.main_v0_1)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v0_0) = v0 c
          ∧ r.2.mem ((c.tc : Thread Cert.WdownIdeal.nD Cert.WdownIdeal.τ).loc Cert.WdownIdeal.main_v0_1) = v1 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
          ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2)
          ∧ r.2.mem ((c.tc : Thread Cert.WdownIdeal.nD Cert.WdownIdeal.τ).loc Cert.WdownIdeal.main_arg3) = m ((c.tc : Thread Cert.WdownIdeal.nD Cert.WdownIdeal.τ).loc Cert.WdownIdeal.main_arg3))
      ∧ θ_run (Cert.WdownReferenceIdeal.defs (F := Ideal)) (onTc (τ := Cert.WdownReferenceIdeal.τ) (Cert.WdownReferenceIdeal.main (F := Ideal))) ⟨m', fun _ => 0, g'⟩ (fun r => ∀ c : Dev Cert.WdownReferenceIdeal.nD,
          r.2.mem ((c.tc : Thread Cert.WdownReferenceIdeal.nD Cert.WdownReferenceIdeal.τ).loc Cert.WdownReferenceIdeal.main_v5) = v0 c
          ∧ r.2.mem ((c.tc : Thread Cert.WdownReferenceIdeal.nD Cert.WdownReferenceIdeal.τ).loc Cert.WdownReferenceIdeal.main_v22) = v1 c
          ∧ r.2.mem ((c.tc : Thread Cert.WdownReferenceIdeal.nD Cert.WdownReferenceIdeal.τ).loc Cert.WdownReferenceIdeal.main_arg0) = m' ((c.tc : Thread Cert.WdownReferenceIdeal.nD Cert.WdownReferenceIdeal.τ).loc Cert.WdownReferenceIdeal.main_arg0)
          ∧ r.2.mem ((c.tc : Thread Cert.WdownReferenceIdeal.nD Cert.WdownReferenceIdeal.τ).loc Cert.WdownReferenceIdeal.main_arg1) = m' ((c.tc : Thread Cert.WdownReferenceIdeal.nD Cert.WdownReferenceIdeal.τ).loc Cert.WdownReferenceIdeal.main_arg1)
          ∧ r.2.mem ((c.tc : Thread Cert.WdownReferenceIdeal.nD Cert.WdownReferenceIdeal.τ).loc Cert.WdownReferenceIdeal.main_arg2) = m' ((c.tc : Thread Cert.WdownReferenceIdeal.nD Cert.WdownReferenceIdeal.τ).loc Cert.WdownReferenceIdeal.main_arg2)
          ∧ r.2.mem ((c.tc : Thread Cert.WdownReferenceIdeal.nD Cert.WdownReferenceIdeal.τ).loc Cert.WdownReferenceIdeal.main_arg3) = m' ((c.tc : Thread Cert.WdownReferenceIdeal.nD Cert.WdownReferenceIdeal.τ).loc Cert.WdownReferenceIdeal.main_arg3))

def Claim : Prop :=
  ∃ (hKernel : Cert.Kernel.Facts) (hKernelIdeal : Cert.KernelIdeal.Facts) (hReferenceIdeal : Cert.ReferenceIdeal.Facts) (hSavedIdeal : Cert.SavedIdeal.Facts) (hAttn : Cert.Attn.Facts) (hAttnIdeal : Cert.AttnIdeal.Facts) (hAct : Cert.Act.Facts) (hActIdeal : Cert.ActIdeal.Facts) (hActReferenceIdeal : Cert.ActReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGate : Cert.Gate.Facts) (hGateIdeal : Cert.GateIdeal.Facts) (hGateReferenceIdeal : Cert.GateReferenceIdeal.Facts) (hDhn : Cert.Dhn.Facts) (hDhnIdeal : Cert.DhnIdeal.Facts) (hDhnReferenceIdeal : Cert.DhnReferenceIdeal.Facts) (hDmix : Cert.Dmix.Facts) (hDmixIdeal : Cert.DmixIdeal.Facts) (hDmixReferenceIdeal : Cert.DmixReferenceIdeal.Facts) (hOut : Cert.Out.Facts) (hOutIdeal : Cert.OutIdeal.Facts) (hOutReferenceIdeal : Cert.OutReferenceIdeal.Facts) (hDxn : Cert.Dxn.Facts) (hDxnIdeal : Cert.DxnIdeal.Facts) (hDxnReferenceIdeal : Cert.DxnReferenceIdeal.Facts) (hIn : Cert.In.Facts) (hInIdeal : Cert.InIdeal.Facts) (hInReferenceIdeal : Cert.InReferenceIdeal.Facts) (hDxnB : Cert.DxnB.Facts) (hDxnBIdeal : Cert.DxnBIdeal.Facts) (hDxnBReferenceIdeal : Cert.DxnBReferenceIdeal.Facts) (hInB : Cert.InB.Facts) (hInBIdeal : Cert.InBIdeal.Facts) (hInBReferenceIdeal : Cert.InBReferenceIdeal.Facts) (hProj : Cert.Proj.Facts) (hProjIdeal : Cert.ProjIdeal.Facts) (hProjReferenceIdeal : Cert.ProjReferenceIdeal.Facts) (hProjB : Cert.ProjB.Facts) (hProjBIdeal : Cert.ProjBIdeal.Facts) (hProjBReferenceIdeal : Cert.ProjBReferenceIdeal.Facts) (hWout : Cert.Wout.Facts) (hWoutIdeal : Cert.WoutIdeal.Facts) (hWoutReferenceIdeal : Cert.WoutReferenceIdeal.Facts) (hWdown : Cert.Wdown.Facts) (hWdownIdeal : Cert.WdownIdeal.Facts) (hWdownReferenceIdeal : Cert.WdownReferenceIdeal.Facts) (hPre_finite : Cert.Pre_finite.Facts) (hPre_finite_qk : Cert.Pre_finite_qk.Facts) (hPre_finite_ffn : Cert.Pre_finite_ffn.Facts) (hPre_finite_up : Cert.Pre_finite_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SavedIdeal (hSavedIdeal := hSavedIdeal)
    ∧ quiescent_SavedIdeal_pre_finite_qk (hSavedIdeal := hSavedIdeal) (hPre_finite_qk := hPre_finite_qk)
    ∧ quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_Act (hAct := hAct)
    ∧ quiescent_ActIdeal (hActIdeal := hActIdeal)
    ∧ quiescent_ActIdeal_pre_finite_ffn (hActIdeal := hActIdeal) (hPre_finite_ffn := hPre_finite_ffn)
    ∧ quiescent_ActReferenceIdeal (hActReferenceIdeal := hActReferenceIdeal)
    ∧ quiescent_ActReferenceIdeal_pre_finite_ffn (hActReferenceIdeal := hActReferenceIdeal) (hPre_finite_ffn := hPre_finite_ffn)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpReferenceIdeal (hUpReferenceIdeal := hUpReferenceIdeal)
    ∧ quiescent_UpReferenceIdeal_pre_finite_up (hUpReferenceIdeal := hUpReferenceIdeal) (hPre_finite_up := hPre_finite_up)
    ∧ quiescent_Down (hDown := hDown)
    ∧ quiescent_DownIdeal (hDownIdeal := hDownIdeal)
    ∧ quiescent_DownReferenceIdeal (hDownReferenceIdeal := hDownReferenceIdeal)
    ∧ quiescent_Gate (hGate := hGate)
    ∧ quiescent_GateIdeal (hGateIdeal := hGateIdeal)
    ∧ quiescent_GateReferenceIdeal (hGateReferenceIdeal := hGateReferenceIdeal)
    ∧ quiescent_Dhn (hDhn := hDhn)
    ∧ quiescent_DhnIdeal (hDhnIdeal := hDhnIdeal)
    ∧ quiescent_DhnReferenceIdeal (hDhnReferenceIdeal := hDhnReferenceIdeal)
    ∧ quiescent_Dmix (hDmix := hDmix)
    ∧ quiescent_DmixIdeal (hDmixIdeal := hDmixIdeal)
    ∧ quiescent_DmixReferenceIdeal (hDmixReferenceIdeal := hDmixReferenceIdeal)
    ∧ quiescent_Out (hOut := hOut)
    ∧ quiescent_OutIdeal (hOutIdeal := hOutIdeal)
    ∧ quiescent_OutReferenceIdeal (hOutReferenceIdeal := hOutReferenceIdeal)
    ∧ quiescent_Dxn (hDxn := hDxn)
    ∧ quiescent_DxnIdeal (hDxnIdeal := hDxnIdeal)
    ∧ quiescent_DxnReferenceIdeal (hDxnReferenceIdeal := hDxnReferenceIdeal)
    ∧ quiescent_In (hIn := hIn)
    ∧ quiescent_InIdeal (hInIdeal := hInIdeal)
    ∧ quiescent_InReferenceIdeal (hInReferenceIdeal := hInReferenceIdeal)
    ∧ quiescent_DxnB (hDxnB := hDxnB)
    ∧ quiescent_DxnBIdeal (hDxnBIdeal := hDxnBIdeal)
    ∧ quiescent_DxnBReferenceIdeal (hDxnBReferenceIdeal := hDxnBReferenceIdeal)
    ∧ quiescent_InB (hInB := hInB)
    ∧ quiescent_InBIdeal (hInBIdeal := hInBIdeal)
    ∧ quiescent_InBReferenceIdeal (hInBReferenceIdeal := hInBReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_Wout (hWout := hWout)
    ∧ quiescent_WoutIdeal (hWoutIdeal := hWoutIdeal)
    ∧ quiescent_WoutReferenceIdeal (hWoutReferenceIdeal := hWoutReferenceIdeal)
    ∧ quiescent_Wdown (hWdown := hWdown)
    ∧ quiescent_WdownIdeal (hWdownIdeal := hWdownIdeal)
    ∧ quiescent_WdownReferenceIdeal (hWdownReferenceIdeal := hWdownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_SavedIdeal_pre_finite_qk (hAttnIdeal := hAttnIdeal) (hSavedIdeal := hSavedIdeal) (hPre_finite_qk := hPre_finite_qk)
    ∧ preserves_Act_ActIdeal
    ∧ algebraic_ActIdeal_ActReferenceIdeal_pre_finite_ffn (hActIdeal := hActIdeal) (hActReferenceIdeal := hActReferenceIdeal) (hPre_finite_ffn := hPre_finite_ffn)
    ∧ preserves_Up_UpIdeal
    ∧ algebraic_UpIdeal_UpReferenceIdeal_pre_finite_up (hUpIdeal := hUpIdeal) (hUpReferenceIdeal := hUpReferenceIdeal) (hPre_finite_up := hPre_finite_up)
    ∧ preserves_Down_DownIdeal
    ∧ algebraic_DownIdeal_DownReferenceIdeal (hDownIdeal := hDownIdeal) (hDownReferenceIdeal := hDownReferenceIdeal)
    ∧ preserves_Gate_GateIdeal
    ∧ algebraic_GateIdeal_GateReferenceIdeal (hGateIdeal := hGateIdeal) (hGateReferenceIdeal := hGateReferenceIdeal)
    ∧ preserves_Dhn_DhnIdeal
    ∧ algebraic_DhnIdeal_DhnReferenceIdeal (hDhnIdeal := hDhnIdeal) (hDhnReferenceIdeal := hDhnReferenceIdeal)
    ∧ preserves_Dmix_DmixIdeal
    ∧ algebraic_DmixIdeal_DmixReferenceIdeal (hDmixIdeal := hDmixIdeal) (hDmixReferenceIdeal := hDmixReferenceIdeal)
    ∧ preserves_Out_OutIdeal
    ∧ algebraic_OutIdeal_OutReferenceIdeal (hOutIdeal := hOutIdeal) (hOutReferenceIdeal := hOutReferenceIdeal)
    ∧ preserves_Dxn_DxnIdeal
    ∧ algebraic_DxnIdeal_DxnReferenceIdeal (hDxnIdeal := hDxnIdeal) (hDxnReferenceIdeal := hDxnReferenceIdeal)
    ∧ preserves_In_InIdeal
    ∧ algebraic_InIdeal_InReferenceIdeal (hInIdeal := hInIdeal) (hInReferenceIdeal := hInReferenceIdeal)
    ∧ preserves_DxnB_DxnBIdeal
    ∧ algebraic_DxnBIdeal_DxnBReferenceIdeal (hDxnBIdeal := hDxnBIdeal) (hDxnBReferenceIdeal := hDxnBReferenceIdeal)
    ∧ preserves_InB_InBIdeal
    ∧ algebraic_InBIdeal_InBReferenceIdeal (hInBIdeal := hInBIdeal) (hInBReferenceIdeal := hInBReferenceIdeal)
    ∧ preserves_Proj_ProjIdeal
    ∧ algebraic_ProjIdeal_ProjReferenceIdeal (hProjIdeal := hProjIdeal) (hProjReferenceIdeal := hProjReferenceIdeal)
    ∧ preserves_ProjB_ProjBIdeal
    ∧ algebraic_ProjBIdeal_ProjBReferenceIdeal (hProjBIdeal := hProjBIdeal) (hProjBReferenceIdeal := hProjBReferenceIdeal)
    ∧ preserves_Wout_WoutIdeal
    ∧ algebraic_WoutIdeal_WoutReferenceIdeal (hWoutIdeal := hWoutIdeal) (hWoutReferenceIdeal := hWoutReferenceIdeal)
    ∧ preserves_Wdown_WdownIdeal
    ∧ algebraic_WdownIdeal_WdownReferenceIdeal (hWdownIdeal := hWdownIdeal) (hWdownReferenceIdeal := hWdownReferenceIdeal)
-- ==== Pre_finite.lean ====
abbrev S4352x1536 : Shape := ⟨2, ![4352, 1536]⟩
abbrev S4352x512 : Shape := ⟨2, ![4352, 512]⟩
abbrev S4352x2048 : Shape := ⟨2, ![4352, 2048]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_
  bcast_S_S4352x2048 : S_.BroadcastsInDim S4352x2048 (![] : Fin 0 → Fin S4352x2048.rank)
  reducesTo_S4352x2048_S_d0_1 : S4352x2048.ReducesTo [0, 1] S_

variable [Facts]

def fn_part1 {F : FTy → Type} [FloatOps F] (main_v13 : IVec S_ 1) (main_v16 : IVec S4352x2048 1) : IVec S_ 1 :=
  let main_c_5 : IVec S_ 1 := constantI S_ 1 1#1
  let main_v17 : IVec S_ 1 := (fun x v => Host.reduce IntOp.andi x v reducesTo_S4352x2048_S_d0_1 h_S_) main_v16 main_c_5
  let main_v18 : IVec S_ 1 := andi main_v13 main_v17
  main_v18

def fn {F : FTy → Type} [FloatOps F] (main_arg0 : FVec F S4352x1536 .f32) (main_arg1 : FVec F S4352x512 .f32) (main_arg2 : FVec F S4352x512 .f32) (main_arg3 : FVec F S4352x2048 .f32) : IVec S_ 1 :=
  let main_v0 : FVec F S4352x1536 .f32 := Host.absf main_arg0
  let main_cst : FVec F S_ .f32 := constant S_ .f32 0x7F800000#32
  let main_v1 : FVec F S4352x1536 .f32 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : IVec S_ 1 := andi main_v3 main_v7
  let main_v9 : FVec F S4352x512 .f32 := Host.absf main_arg2
  let main_cst_2 : FVec F S_ .f32 := constant S_ .f32 0x7F800000#32
  let main_v10 : FVec F S4352x512 .f32 := broadcastInDim S4352x512 ![] bcast_S_S4352x512 main_cst_2
  let main_v11 : IVec S4352x512 1 := cmpf .olt main_v9 main_v10
  let main_c_3 : IVec S_ 1 := constantI S_ 1 1#1
  let main_v12 : IVec S_ 1 := (fun x v => Host.reduce IntOp.andi x v reducesTo_S4352x512_S_d0_1 h_S_) main_v11 main_c_3
  let main_v13 : IVec S_ 1 := andi main_v8 main_v12
  let main_v14 : FVec F S4352x2048 .f32 := Host.absf main_arg3
  let main_cst_4 : FVec F S_ .f32 := constant S_ .f32 0x7F800000#32
  let main_v15 : FVec F S4352x2048 .f32 := broadcastInDim S4352x2048 ![] bcast_S_S4352x2048 main_cst_4
  let main_v16 : IVec S4352x2048 1 := cmpf .olt main_v14 main_v15
  fn_part1 (F := F) main_v13 main_v16
-- ==== Pre_finite_ffn.lean ====
abbrev S4352x2048 : Shape := ⟨2, ![4352, 2048]⟩
abbrev S2048x5632 : Shape := ⟨2, ![2048, 5632]⟩
abbrev S5632x2048 : Shape := ⟨2, ![5632, 2048]⟩
abbrev S_ : Shape := ⟨0, ![]⟩

class Facts : Prop where
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S4352x2048 1) : IVec S_ 1 :=
  let main_c_5 : IVec S_ 1 := constantI S_ 1 1#1
  let main_v17 : IVec S_ 1 := (fun x v => Host.reduce IntOp.andi x v reducesTo_S4352x2048_S_d0_1 h_S_) main_v16 main_c_5
  let main_v18 : IVec S_ 1 := andi main_v13 main_v17
  main_v18

def fn {F : FTy → Type} [FloatOps F] (main_arg0 : FVec F S4352x2048 .f32) (main_arg1 : FVec F S2048x5632 .f32) (main_arg2 : FVec F S2048x5632 .f32) (main_arg3 : FVec F S5632x2048 .f32) (main_arg4 : FVec F S4352x2048 .f32) : IVec S_ 1 :=
  let main_v0 : FVec F S4352x2048 .f32 := Host.absf main_arg0
  let main_cst : FVec F S_ .f32 := constant S_ .f32 0x7F800000#32
  let main_v1 : FVec F S4352x2048 .f32 := broadcastInDim S4352x2048 ![] bcast_S_S4352x2048 main_cst
  let main_v2 : IVec S4352x2048 1 := cmpf .olt main_v0 main_v1
  let main_c : IVec S_ 1 := constantI S_ 1 1#1
  let main_v3 : IVec S_ 1 := (fun x v => Host.reduce IntOp.andi x v reducesTo_S4352x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4352x2048 .f32 := Host.absf main_arg4
  let main_cst_4 : FVec F S_ .f32 := constant S_ .f32 0x7F800000#32
  let main_v15 : FVec F S4352x2048 .f32 := broadcastInDim S4352x2048 ![] bcast_S_S4352x2048 main_cst_4
  let main_v16 : IVec S4352x2048 1 := cmpf .olt main_v14 main_v15
  fn_part1 (F := F) main_v13 main_v16
-- ==== Pre_finite_qk.lean ====
abbrev S4352x1536 : Shape := ⟨2, ![4352, 1536]⟩
abbrev S4352x512 : Shape := ⟨2, ![4352, 512]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_

variable [Facts]

def fn {F : FTy → Type} [FloatOps F] (main_arg0 : FVec F S4352x1536 .f32) (main_arg1 : FVec F S4352x512 .f32) (main_arg2 : FVec F S4352x512 .f32) : IVec S_ 1 :=
  let main_v0 : FVec F S4352x1536 .f32 := Host.absf main_arg0
  let main_cst : FVec F S_ .f32 := constant S_ .f32 0x7F800000#32
  let main_v1 : FVec F S4352x1536 .f32 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : IVec S_ 1 := andi main_v3 main_v7
  main_v8
-- ==== Pre_finite_up.lean ====
abbrev S4352x2048 : Shape := ⟨2, ![4352, 2048]⟩
abbrev S8x704x2048 : Shape := ⟨3, ![8, 704, 2048]⟩
abbrev S_ : Shape := ⟨0, ![]⟩

class Facts : Prop where
  bitsLt_bf16_f32 : FTy.bits .bf16 < FTy.bits .f32
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn {F : FTy → Type} [FloatOps F] (main_arg0 : FVec F S4352x2048 .bf16) (main_arg1 : FVec F S8x704x2048 .bf16) (main_arg2 : FVec F S8x704x2048 .bf16) : IVec S_ 1 :=
  let main_v0 : FVec F S4352x2048 .f32 := (extf .f32 · bitsLt_bf16_f32) main_arg0
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  let main_c : IVec S_ 1 := constantI S_ 1 1#1
  let main_v4 : IVec S_ 1 := (fun x v => Host.reduce IntOp.andi x v reducesTo_S4352x2048_S_d0_1 h_S_) main_v3 main_c
  let main_v5 : FVec F S8x704x2048 .f32 := (extf .f32 · bitsLt_bf16_f32) main_arg2
  let main_v6 : FVec F S8x704x2048 .f32 := Host.absf main_v5
  let main_cst_0 : FVec F S_ .f32 := constant S_ .f32 0x7F800000#32
  let main_v7 : FVec F S8x704x2048 .f32 := broadcastInDim S8x704x2048 ![] bcast_S_S8x704x2048 main_cst_0
  let main_v8 : IVec S8x704x2048 1 := cmpf .olt main_v6 main_v7
  let main_c_1 : IVec S_ 1 := constantI S_ 1 1#1
  let main_v9 : IVec S_ 1 := (fun x v => Host.reduce IntOp.andi x v reducesTo_S8x704x2048_S_d0_1_2 h_S_) main_v8 main_c_1
  let main_v10 : IVec S_ 1 := andi main_v4 main_v9
  main_v10
-- ==== Kernel.lean ====
abbrev S4352x1536 : Shape := ⟨2, ![4352, 1536]⟩
abbrev S4352x512 : Shape := ⟨2, ![4352, 512]⟩
abbrev S4352x2048 : Shape := ⟨2, ![4352, 2048]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S256x4x3x1 : Shape := ⟨4, ![256, 4, 3, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4096x4x3x1 : Shape := ⟨4, ![4096, 4, 3, 1]⟩
abbrev S4x128x3x4096 : Shape := ⟨4, ![4, 128, 3, 4096]⟩
abbrev S256x384 : Shape := ⟨2, ![256, 384]⟩
abbrev S4352x128 : Shape := ⟨2, ![4352, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x4352 : Shape := ⟨2, ![256, 4352]⟩

abbrev nBuf : Space → Nat
  | .hbm => 80
  | .vmem => 18
  | .smem => 0
  | _ => 0

abbrev bufTy : (tb : Table) → Fin (tcTables nBuf tb) → BufTy
  | .hbm, ⟨0, _⟩ => ⟨S4352x1536, .f32⟩
  | .hbm, ⟨1, _⟩ => ⟨S4352x512, .f32⟩
  | .hbm, ⟨2, _⟩ => ⟨S4352x512, .f32⟩
  | .hbm, ⟨3, _⟩ => ⟨S4352x2048, .f32⟩
  | .hbm, ⟨4, _⟩ => ⟨S4352x4x3x128, .f32⟩
  | .hbm, ⟨5, _⟩ => ⟨S4352x4x128, .f32⟩
  | .hbm, ⟨6, _⟩ => ⟨S4352x4x128, .f32⟩
  | .hbm, ⟨7, _⟩ => ⟨S256x4x3x128, .f32⟩
  | .hbm, ⟨8, _⟩ => ⟨S256x4x128, .f32⟩
  | .hbm, ⟨9, _⟩ => ⟨S256x4x128, .f32⟩
  | .hbm, ⟨10, _⟩ => ⟨S4x256x256x3, .f32⟩
  | .hbm, ⟨11, _⟩ => ⟨S4x3x256x256, .f32⟩
  | .hbm, ⟨12, _⟩ => ⟨S_, .f32⟩
  | .hbm, ⟨13, _⟩ => ⟨S4x3x256x256, .f32⟩
  | .hbm, ⟨14, _⟩ => ⟨S4x3x256x256, .f32⟩
  | .hbm, ⟨15, _⟩ => ⟨S_, .f32⟩
  | .hbm, ⟨16, _⟩ => ⟨S4x3x256, .f32⟩
  | .hbm, ⟨17, _⟩ => ⟨S4x3x256x1, .f32⟩
  | .hbm, ⟨18, _⟩ => ⟨S4x3x256x256, .f32⟩
  | .hbm, ⟨19, _⟩ => ⟨S4x3x256x256, .f32⟩
  | .hbm, ⟨20, _⟩ => ⟨S4x3x256x256, .f32⟩
  | .hbm, ⟨21, _⟩ => ⟨S_, .f32⟩
  | .hbm, ⟨22, _⟩ => ⟨S4x3x256, .f32⟩
  | .hbm, ⟨23, _⟩ => ⟨S4x3x256x1, .f32⟩
  | .hbm, ⟨24, _⟩ => ⟨S4x3x256x1, .f32⟩
  | .hbm, ⟨25, _⟩ => ⟨S4x3x256x1, .f32⟩
  | .hbm, ⟨26, _⟩ => ⟨S_, .f32⟩
  | .hbm, ⟨27, _⟩ => ⟨S_, .f32⟩
  | .hbm, ⟨28, _⟩ => ⟨S4x3x256x1, .f32⟩
  | .hbm, ⟨29, _⟩ => ⟨S4x3x256x1, .f32⟩
  | .hbm, ⟨30, _⟩ => ⟨S256x4x3x1, .f32⟩
  | .hbm, ⟨31, _⟩ => ⟨S4x3x256x256, .f32⟩
  | .hbm, ⟨32, _⟩ => ⟨S4x3x256x256, .f32⟩
  | .hbm, ⟨33, _⟩ => ⟨S4x128x3x256, .f32⟩
  | .hbm, ⟨34, _⟩ => ⟨S256x4x3x128, .f32⟩
  | .hbm, ⟨35, _⟩ => ⟨S256x4x3x128, .f32⟩
  | .hbm, ⟨36, _⟩ => ⟨S4096x4x3x128, .f32⟩
  | .hbm, ⟨37, _⟩ => ⟨S4x4352x4096x3, .f32⟩
  | .hbm, ⟨38, _⟩ => ⟨S4x3x4096x4352, .f32⟩
  | .hbm, ⟨39, _⟩ => ⟨S_, .f32⟩
  | .hbm, ⟨40, _⟩ => ⟨S4x3x4096x4352, .f32⟩
  | .hbm, ⟨41, _⟩ => ⟨S4x3x4096x4352, .f32⟩
  | .hbm, ⟨42, _⟩ => ⟨S_, .f32⟩
  | .hbm, ⟨43, _⟩ => ⟨S4x3x4096, .f32⟩
  | .hbm, ⟨44, _⟩ => ⟨S4x3x4096x1, .f32⟩
  | .hbm, ⟨45, _⟩ => ⟨S4x3x4096x4352, .f32⟩
  | .hbm, ⟨46, _⟩ => ⟨S4x3x4096x4352, .f32⟩
  | .hbm, ⟨47, _⟩ => ⟨S4x3x4096x4352, .f32⟩
  | .hbm, ⟨48, _⟩ => ⟨S_, .f32⟩
  | .hbm, ⟨49, _⟩ => ⟨S4x3x4096, .f32⟩
  | .hbm, ⟨50, _⟩ => ⟨S4x3x4096x1, .f32⟩
  | .hbm, ⟨51, _⟩ => ⟨S4x3x4096x1, .f32⟩
  | .hbm, ⟨52, _⟩ => ⟨S4x3x4096x1, .f32⟩
  | .hbm, ⟨53, _⟩ => ⟨S_, .f32⟩
  | .hbm, ⟨54, _⟩ => ⟨S_, .f32⟩
  | .hbm, ⟨55, _⟩ => ⟨S4x3x4096x1, .f32⟩
  | .hbm, ⟨56, _⟩ => ⟨S4x3x4096x1, .f32⟩
  | .hbm, ⟨57, _⟩ => ⟨S4096x4x3x1, .f32⟩
  | .hbm, ⟨58, _⟩ => ⟨S4x3x4096x4352, .f32⟩
  | .hbm, ⟨59, _⟩ => ⟨S4x3x4096x4352, .f32⟩
  | .hbm, ⟨60, _⟩ => ⟨S4x128x3x4096, .f32⟩
  | .hbm, ⟨61, _⟩ => ⟨S4096x4x3x128, .f32⟩
  | .hbm, ⟨62, _⟩ => ⟨S4096x4x3x128, .f32⟩
  | .hbm, ⟨63, _⟩ => ⟨S4352x4x3x128, .f32⟩
  | .hbm, ⟨64, _⟩ => ⟨S4352x1536, .f32⟩
  | .hbm, ⟨65, _⟩ => ⟨S4352x4x3x128, .f32⟩
  | .hbm, ⟨66, _⟩ => ⟨S4352x1536, .f32⟩
  | .hbm, ⟨67, _⟩ => ⟨S_, .f32⟩
  | .hbm, ⟨68, _⟩ => ⟨S4352x1536, .f32⟩
  | .hbm, ⟨69, _⟩ => ⟨S4352x1536, .f32⟩
  | .hbm, ⟨70, _⟩ => ⟨S_, .f32⟩
  | .hbm, ⟨71, _⟩ => ⟨S_, .f32⟩
  | .hbm, ⟨72, _⟩ => ⟨S4352x1536, .f32⟩
  | .hbm, ⟨73, _⟩ => ⟨S4352x1536, .f32⟩
  | .hbm, ⟨74, _⟩ => ⟨S4352x1536, .bf16⟩
  | .hbm, ⟨75, _⟩ => ⟨S4352x512, .bf16⟩
  | .hbm, ⟨76, _⟩ => ⟨S4352x512, .bf16⟩
  | .hbm, ⟨77, _⟩ => ⟨S4352x1536, .f32⟩
  | .hbm, ⟨78, _⟩ => ⟨S4352x512, .f32⟩
  | .hbm, ⟨79, _⟩ => ⟨S4352x512, .f32⟩
  | .local _ .vmem, ⟨0, _⟩ => ⟨S256x384, .bf16⟩
  | .local _ .vmem, ⟨1, _⟩ => ⟨S256x384, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S4352x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4352x1536 : Shape := ⟨2, ![4352, 1536]⟩
abbrev S4352x512 : Shape := ⟨2, ![4352, 512]⟩
abbrev S4352x2048 : Shape := ⟨2, ![4352, 2048]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x128x4352 : Shape := ⟨3, ![4, 128, 4352]⟩
abbrev S4x4096x3x128 : Shape := ⟨4, ![4, 4096, 3, 128]⟩
abbrev S4x4352x128 : Shape := ⟨3, ![4, 4352, 128]⟩
abbrev S4x128x256 : Shape := ⟨3, ![4, 128, 256]⟩
abbrev S4x256x3x128 : Shape := ⟨4, ![4, 256, 3, 128]⟩
abbrev S4x256x128 : Shape := ⟨3, ![4, 256, 128]⟩

abbrev nBuf : Space → Nat
  | .hbm => 180
  | .vmem => 0
  | .smem => 0
  | _ => 0

abbrev hbmTy0_0 (i : Nat) : BufTy := match i % 128 with
  | 0 => ⟨S4352x1536, .f32⟩
  | 1 => ⟨S4352x512, .f32⟩
  | 2 => ⟨S4352x512, .f32⟩
  | 3 => ⟨S4352x2048, .f32⟩
  | 4 => ⟨S4352x4x3x128, .f32⟩
  | 5 => ⟨S4352x4x128, .f32⟩
  | 6 => ⟨S4352x4x128, .f32⟩
  | 7 => ⟨S256x4x3x128, .f32⟩
  | 8 => ⟨S256x4x128, .f32⟩
  | 9 => ⟨S256x4x128, .f32⟩
  | 10 => ⟨S4x256x256x3, .f32⟩
  | 11 => ⟨S4x3x256x256, .f32⟩
  | 12 => ⟨S_, .f32⟩
  | 13 => ⟨S4x3x256x256, .f32⟩
  | 14 => ⟨S4x3x256x256, .f32⟩
  | 15 => ⟨S_, .f32⟩
  | 16 => ⟨S4x3x256, .f32⟩
  | 17 => ⟨S4x3x256x1, .f32⟩
  | 18 => ⟨S4x3x256x256, .f32⟩
  | 19 => ⟨S4x3x256x256, .i1⟩
  | 20 => ⟨S4x3x256x256, .f32⟩
  | 21 => ⟨S_, .f32⟩
  | 22 => ⟨S4x3x256, .f32⟩
  | 23 => ⟨S_, .f32⟩
  | 24 => ⟨S4x3x256, .f32⟩
  | 25 => ⟨S4x3x256, .f32⟩
  | 26 => ⟨S_, .f32⟩
  | 27 => ⟨S4x3x256, .f32⟩
  | 28 => ⟨S4x3x256, .i1⟩
  | 29 => ⟨S_, .f32⟩
  | 30 => ⟨S4x3x256, .f32⟩
  | 31 => ⟨S4x3x256, .i1⟩
  | 32 => ⟨S_, .f32⟩
  | 33 => ⟨S4x3x256, .f32⟩
  | 34 => ⟨S_, .f32⟩
  | 35 => ⟨S4x3x256, .f32⟩
  | 36 => ⟨S_, .f32⟩
  | 37 => ⟨S4x3x256, .f32⟩
  | 38 => ⟨S4x3x256, .f32⟩
  | 39 => ⟨S4x3x256, .f32⟩
  | 40 => ⟨S4x3x256x1, .f32⟩
  | 41 => ⟨S4x3x256x256, .f32⟩
  | 42 => ⟨S4x3x256x256, .f32⟩
  | 43 => ⟨S4x3x256x256, .f32⟩
  | 44 => ⟨S_, .f32⟩
  | 45 => ⟨S4x3x256, .f32⟩
  | 46 => ⟨S4x3x256x1, .f32⟩
  | 47 => ⟨S4x3x256x256, .f32⟩
  | 48 => ⟨S4x3x256x256, .f32⟩
  | 49 => ⟨S4x3x256x1, .f32⟩
  | 50 => ⟨S_, .f32⟩
  | 51 => ⟨S4x3x256x1, .f32⟩
  | 52 => ⟨S4x3x256x1, .f32⟩
  | 53 => ⟨S4x128x3x256, .f32⟩
  | 54 => ⟨S256x4x3x128, .f32⟩
  | 55 => ⟨S4096x4x3x128, .f32⟩
  | 56 => ⟨S4x4352x4096x3, .f32⟩
  | 57 => ⟨S4x3x4096x4352, .f32⟩
  | 58 => ⟨S_, .f32⟩
  | 59 => ⟨S4x3x4096x4352, .f32⟩
  | 60 => ⟨S4x3x4096x4352, .f32⟩
  | 61 => ⟨S_, .f32⟩
  | 62 => ⟨S4x3x4096, .f32⟩
  | 63 => ⟨S4x3x4096x1, .f32⟩
  | 64 => ⟨S4x3x4096x4352, .f32⟩
  | 65 => ⟨S4x3x4096x4352, .i1⟩
  | 66 => ⟨S4x3x4096x4352, .f32⟩
  | 67 => ⟨S_, .f32⟩
  | 68 => ⟨S4x3x4096, .f32⟩
  | 69 => ⟨S_, .f32⟩
  | 70 => ⟨S4x3x4096, .f32⟩
  | 71 => ⟨S4x3x4096, .f32⟩
  | 72 => ⟨S_, .f32⟩
  | 73 => ⟨S4x3x4096, .f32⟩
  | 74 => ⟨S4x3x4096, .i1⟩
  | 75 => ⟨S_, .f32⟩
  | 76 => ⟨S4x3x4096, .f32⟩
  | 77 => ⟨S4x3x4096, .i1⟩
  | 78 => ⟨S_, .f32⟩
  | 79 => ⟨S4x3x4096, .f32⟩
  | 80 => ⟨S_, .f32⟩
  | 81 => ⟨S4x3x4096, .f32⟩
  | 82 => ⟨S_, .f32⟩
  | 83 => ⟨S4x3x4096, .f32⟩
  | 84 => ⟨S4x3x4096, .f32⟩
  | 85 => ⟨S4x3x4096, .f32⟩
  | 86 => ⟨S4x3x4096x1, .f32⟩
  | 87 => ⟨S4x3x4096x4352, .f32⟩
  | 88 => ⟨S4x3x4096x4352, .f32⟩
  | 89 => ⟨S4x3x4096x4352, .f32⟩
  | 90 => ⟨S_, .f32⟩
  | 91 => ⟨S4x3x4096, .f32⟩
  | 92 => ⟨S4x3x4096x1, .f32⟩
  | 93 => ⟨S4x3x4096x4352, .f32⟩
  | 94 => ⟨S4x3x4096x4352, .f32⟩
  | 95 => ⟨S4x3x4096x1, .f32⟩
  | 96 => ⟨S_, .f32⟩
  | 97 => ⟨S4x3x4096x1, .f32⟩
  | 98 => ⟨S4x3x4096x1, .f32⟩
  | 99 => ⟨S4x128x3x4096, .f32⟩
  | 100 => ⟨S4096x4x3x128, .f32⟩
  | 101 => ⟨S4352x4x3x128, .f32⟩
  | 102 => ⟨S4352x1536, .f32⟩
  | 103 => ⟨S4352x1536, .f32⟩
  | 104 => ⟨S4352x4x3x128, .f32⟩
  | 105 => ⟨S256x4x3x128, .f32⟩
  | 106 => ⟨S4096x4x3x128, .f32⟩
  | 107 => ⟨S4x128x3x4096, .f32⟩
  | 108 => ⟨S4x3x4096x4352, .f32⟩
  | 109 => ⟨S4x128x4352, .f32⟩
  | 110 => ⟨S4352x4x128, .f32⟩
  | 111 => ⟨S4x3x4096x4352, .f32⟩
  | 112 => ⟨S4x3x4096x4352, .f32⟩
  | 113 => ⟨S4x3x4096x4352, .f32⟩
  | 114 => ⟨S_, .f32⟩
  | 115 => ⟨S4x3x4096, .f32⟩
  | 116 => ⟨S4x3x4096x1, .f32⟩
  | 117 => ⟨S4x3x4096x1, .f32⟩
  | 118 => ⟨S4x3x4096x4352, .f32⟩
  | 119 => ⟨S4x3x4096x4352, .f32⟩
  | 120 => ⟨S_, .f32⟩
  | 121 => ⟨S4x3x4096, .f32⟩
  | 122 => ⟨S4x3x4096x4352, .f32⟩
  | 123 => ⟨S4x3x4096x4352, .f32⟩
  | 124 => ⟨S4x3x4096x4352, .f32⟩
  | 125 => ⟨S_, .f32⟩
  | 126 => ⟨S4x3x4096x4352, .f32⟩
  | 127 => ⟨S4x3x4096x4352, .f32⟩
  | _ => ⟨S4352x1536, .f32⟩

abbrev hbmTy0_1 (i : Nat) : BufTy := match i % 128 with
  | 0 => ⟨S4x4352x4096x3, .f32⟩
  | 1 => ⟨S4x4096x3x128, .f32⟩
  | 2 => ⟨S4096x4x3x128, .f32⟩
  | 3 => ⟨S4x4352x128, .f32⟩
  | 4 => ⟨S4352x4x128, .f32⟩
  | 5 => ⟨S_, .f32⟩
  | 6 => ⟨S4352x4x3x128, .f32⟩
  | 7 => ⟨S4x128x3x256, .f32⟩
  | 8 => ⟨S4x3x256x256, .f32⟩
  | 9 => ⟨S4x128x256, .f32⟩
  | 10 => ⟨S256x4x128, .f32⟩
  | 11 => ⟨S4x3x256x256, .f32⟩
  | 12 => ⟨S4x3x256x256, .f32⟩
  | 13 => ⟨S4x3x256x256, .f32⟩
  | 14 => ⟨S_, .f32⟩
  | 15 => ⟨S4x3x256, .f32⟩
  | 16 => ⟨S4x3x256x1, .f32⟩
  | 17 => ⟨S4x3x256x1, .f32⟩
  | 18 => ⟨S4x3x256x256, .f32⟩
  | 19 => ⟨S4x3x256x256, .f32⟩
  | 20 => ⟨S_, .f32⟩
  | 21 => ⟨S4x3x256, .f32⟩
  | 22 => ⟨S4x3x256x256, .f32⟩
  | 23 => ⟨S4x3x256x256, .f32⟩
  | 24 => ⟨S4x3x256x256, .f32⟩
  | 25 => ⟨S_, .f32⟩
  | 26 => ⟨S4x3x256x256, .f32⟩
  | 27 => ⟨S4x3x256x256, .f32⟩
  | 28 => ⟨S4x256x256x3, .f32⟩
  | 29 => ⟨S4x256x3x128, .f32⟩
  | 30 => ⟨S256x4x3x128, .f32⟩
  | 31 => ⟨S4x256x128, .f32⟩
  | 32 => ⟨S256x4x128, .f32⟩
  | 33 => ⟨S_, .f32⟩
  | 34 => ⟨S4352x4x128, .f32⟩
  | 35 => ⟨S4352x4x128, .f32⟩
  | 36 => ⟨S_, .f32⟩
  | 37 => ⟨S4352x4x128, .f32⟩
  | 38 => ⟨S4352x4x128, .f32⟩
  | 39 => ⟨S_, .f32⟩
  | 40 => ⟨S4352x4x3x128, .f32⟩
  | 41 => ⟨S4352x4x3x128, .f32⟩
  | 42 => ⟨S4352x512, .f32⟩
  | 43 => ⟨S4352x512, .f32⟩
  | 44 => ⟨S4352x1536, .f32⟩
  | 45 => ⟨S_, .f32⟩
  | 46 => ⟨S4352x1536, .f32⟩
  | 47 => ⟨S4352x1536, .f32⟩
  | 48 => ⟨S_, .f32⟩
  | 49 => ⟨S_, .f32⟩
  | 50 => ⟨S4352x512, .f32⟩
  | 51 => ⟨S4352x512, .f32⟩
  | _ => ⟨S4352x1536, .f32⟩

abbrev hbmTy (i : Nat) : BufTy := match i / 128 with
  | 0 => hbmTy0_0 i
  | 1 => hbmTy0_1 i
  | _ => ⟨S4352x1536, .f32⟩

abbrev bufTy : (tb : Table) → Fin (tcTables nBuf tb) → BufTy
  | .hbm, ⟨i, _⟩ => hbmTy i
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_v57 : Ref sig .tc := ⟨.hbm, 79, rfl⟩
abbrev main_cst_17 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_20 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_22 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_25 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_26 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_27 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_28 : Ref sig .tc := ⟨.hbm, 161, rfl⟩
abbrev main_v128 : Ref sig .tc := ⟨.hbm, 162, rfl⟩
abbrev main_v129 : Ref sig .tc := ⟨.hbm, 163, rfl⟩
abbrev main_cst_29 : Ref sig .tc := ⟨.hbm, 164, rfl⟩
abbrev main_v130 : Ref sig .tc := ⟨.hbm, 165, rfl⟩
abbrev main_v131 : Ref sig .tc := ⟨.hbm, 166, rfl⟩
abbrev main_cst_30 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_31 : Ref sig .tc := ⟨.hbm, 173, rfl⟩
abbrev main_v137 : Ref sig .tc := ⟨.hbm, 174, rfl⟩
abbrev main_v138 : Ref sig .tc := ⟨.hbm, 175, rfl⟩
abbrev main_cst_32 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩

abbrev nD : Nat := 1
abbrev τ : Topo := Topo.v7x

variable {F : FTy → Type} [FloatOps F]
-- ==== SavedIdeal.lean ====
abbrev S4352x1536 : Shape := ⟨2, ![4352, 1536]⟩
abbrev S4352x512 : Shape := ⟨2, ![4352, 512]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S256x4x3x1 : Shape := ⟨4, ![256, 4, 3, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4096x4x3x1 : Shape := ⟨4, ![4096, 4, 3, 1]⟩
abbrev S4x128x3x4096 : Shape := ⟨4, ![4, 128, 3, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4352x1536, .f32⟩
  | .hbm, ⟨1, _⟩ => ⟨S4352x512, .f32⟩
  | .hbm, ⟨2, _⟩ => ⟨S4352x512, .f32⟩
  | .hbm, ⟨3, _⟩ => ⟨S4352x4x3x128, .f32⟩
  | .hbm, ⟨4, _⟩ => ⟨S4352x4x128, .f32⟩
  | .hbm, ⟨5, _⟩ => ⟨S4352x4x128, .f32⟩
  | .hbm, ⟨6, _⟩ => ⟨S256x4x3x128, .f32⟩
  | .hbm, ⟨7, _⟩ => ⟨S256x4x128, .f32⟩
  | .hbm, ⟨8, _⟩ => ⟨S256x4x128, .f32⟩
  | .hbm, ⟨9, _⟩ => ⟨S4x256x256x3, .f32⟩
  | .hbm, ⟨10, _⟩ => ⟨S4x3x256x256, .f32⟩
  | .hbm, ⟨11, _⟩ => ⟨S_, .f32⟩
  | .hbm, ⟨12, _⟩ => ⟨S4x3x256x256, .f32⟩
  | .hbm, ⟨13, _⟩ => ⟨S4x3x256x256, .f32⟩
  | .hbm, ⟨14, _⟩ => ⟨S_, .f32⟩
  | .hbm, ⟨15, _⟩ => ⟨S4x3x256, .f32⟩
  | .hbm, ⟨16, _⟩ => ⟨S4x3x256x1, .f32⟩
  | .hbm, ⟨17, _⟩ => ⟨S4x3x256x256, .f32⟩
  | .hbm, ⟨18, _⟩ => ⟨S4x3x256x256, .f32⟩
  | .hbm, ⟨19, _⟩ => ⟨S4x3x256x256, .f32⟩
  | .hbm, ⟨20, _⟩ => ⟨S_, .f32⟩
  | .hbm, ⟨21, _⟩ => ⟨S4x3x256, .f32⟩
  | .hbm, ⟨22, _⟩ => ⟨S4x3x256x1, .f32⟩
  | .hbm, ⟨23, _⟩ => ⟨S4x3x256x1, .f32⟩
  | .hbm, ⟨24, _⟩ => ⟨S4x3x256x1, .f32⟩
  | .hbm, ⟨25, _⟩ => ⟨S_, .f32⟩
  | .hbm, ⟨26, _⟩ => ⟨S_, .f32⟩
  | .hbm, ⟨27, _⟩ => ⟨S4x3x256x1, .f32⟩
  | .hbm, ⟨28, _⟩ => ⟨S4x3x256x1, .f32⟩
  | .hbm, ⟨29, _⟩ => ⟨S256x4x3x1, .f32⟩
  | .hbm, ⟨30, _⟩ => ⟨S4x3x256x256, .f32⟩
  | .hbm, ⟨31, _⟩ => ⟨S4x3x256x256, .f32⟩
  | .hbm, ⟨32, _⟩ => ⟨S4x128x3x256, .f32⟩
  | .hbm, ⟨33, _⟩ => ⟨S256x4x3x128, .f32⟩
  | .hbm, ⟨34, _⟩ => ⟨S256x4x3x128, .f32⟩
  | .hbm, ⟨35, _⟩ => ⟨S4096x4x3x128, .f32⟩
  | .hbm, ⟨36, _⟩ => ⟨S4x4352x4096x3, .f32⟩
  | .hbm, ⟨37, _⟩ => ⟨S4x3x4096x4352, .f32⟩
  | .hbm, ⟨38, _⟩ => ⟨S_, .f32⟩
  | .hbm, ⟨39, _⟩ => ⟨S4x3x4096x4352, .f32⟩
  | .hbm, ⟨40, _⟩ => ⟨S4x3x4096x4352, .f32⟩
  | .hbm, ⟨41, _⟩ => ⟨S_, .f32⟩
  | .hbm, ⟨42, _⟩ => ⟨S4x3x4096, .f32⟩
  | .hbm, ⟨43, _⟩ => ⟨S4x3x4096x1, .f32⟩
  | .hbm, ⟨44, _⟩ => ⟨S4x3x4096x4352, .f32⟩
  | .hbm, ⟨45, _⟩ => ⟨S4x3x4096x4352, .f32⟩
  | .hbm, ⟨46, _⟩ => ⟨S4x3x4096x4352, .f32⟩
  | .hbm, ⟨47, _⟩ => ⟨S_, .f32⟩
  | .hbm, ⟨48, _⟩ => ⟨S4x3x4096, .f32⟩
  | .hbm, ⟨49, _⟩ => ⟨S4x3x4096x1, .f32⟩
  | .hbm, ⟨50, _⟩ => ⟨S4x3x4096x1, .f32⟩
  | .hbm, ⟨51, _⟩ => ⟨S4x3x4096x1, .f32⟩
  | .hbm, ⟨52, _⟩ => ⟨S_, .f32⟩
  | .hbm, ⟨53, _⟩ => ⟨S_, .f32⟩
  | .hbm, ⟨54, _⟩ => ⟨S4x3x4096x1, .f32⟩
  | .hbm, ⟨55, _⟩ => ⟨S4x3x4096x1, .f32⟩
  | .hbm, ⟨56, _⟩ => ⟨S4096x4x3x1, .f32⟩
  | .hbm, ⟨57, _⟩ => ⟨S4x3x4096x4352, .f32⟩
  | .hbm, ⟨58, _⟩ => ⟨S4x3x4096x4352, .f32⟩
  | .hbm, ⟨59, _⟩ => ⟨S4x128x3x4096, .f32⟩
  | .hbm, ⟨60, _⟩ => ⟨S4096x4x3x128, .f32⟩
  | .hbm, ⟨61, _⟩ => ⟨S4096x4x3x128, .f32⟩
  | .hbm, ⟨62, _⟩ => ⟨S4352x4x3x128, .f32⟩
  | .hbm, ⟨63, _⟩ => ⟨S4352x1536, .f32⟩
  | .hbm, ⟨64, _⟩ => ⟨S4352x4x3x128, .f32⟩
  | .hbm, ⟨65, _⟩ => ⟨S4352x1536, .f32⟩
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Attn.lean ====
abbrev S4352x1536 : Shape := ⟨2, ![4352, 1536]⟩
abbrev S4352x512 : Shape := ⟨2, ![4352, 512]⟩
abbrev S_ : Shape := ⟨0, ![]⟩
abbrev S4352x2048 : Shape := ⟨2, ![4352, 2048]⟩
abbrev S256x384 : Shape := ⟨2, ![256, 384]⟩
abbrev S4352x128 : Shape := ⟨2, ![4352, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x4352 : Shape := ⟨2, ![256, 4352]⟩

abbrev nBuf : Space → Nat
  | .hbm => 16
  | .vmem => 12
  | .smem => 0
  | _ => 0

abbrev bufTy : (tb : Table) → Fin (tcTables nBuf tb) → BufTy
  | .hbm, ⟨0, _⟩ => ⟨S4352x1536, .f32⟩
  | .hbm, ⟨1, _⟩ => ⟨S4352x512, .f32⟩
  | .hbm, ⟨2, _⟩ => ⟨S4352x512, .f32⟩
  | .hbm, ⟨3, _⟩ => ⟨S_, .f32⟩
  | .hbm, ⟨4, _⟩ => ⟨S4352x1536, .f32⟩
  | .hbm, ⟨5, _⟩ => ⟨S4352x1536, .f32⟩
  | .hbm, ⟨6, _⟩ => ⟨S_, .f32⟩
  | .hbm, ⟨7, _⟩ => ⟨S_, .f32⟩
  | .hbm, ⟨8, _⟩ => ⟨S4352x1536, .f32⟩
  | .hbm, ⟨9, _⟩ => ⟨S4352x1536, .f32⟩
  | .hbm, ⟨10, _⟩ => ⟨S4352x1536, .bf16⟩
  | .hbm, ⟨11, _⟩ => ⟨S4352x512, .bf16⟩
  | .hbm, ⟨12, _⟩ => ⟨S4352x512, .bf16⟩
  | .hbm, ⟨13, _⟩ => ⟨S4352x1536, .f32⟩
  | .hbm, ⟨14, _⟩ => ⟨S4352x1536, .f32⟩
  | .hbm, ⟨15, _⟩ => ⟨S4352x2048, .bf16⟩
  | .local _ .vmem, ⟨0, _⟩ => ⟨S256x384, .bf16⟩
  | .local _ .vmem, ⟨1, _⟩ => ⟨S256x384, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .bf16⟩
  | .local _ .vmem, ⟨11, _⟩ => ⟨S256x384, .bf16⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "inv_log_2" => some (((Real.log 2)⁻¹ : ℝ) : EReal)
  | _ => none
-- ==== Act.lean ====
abbrev S4352x2048 : Shape := ⟨2, ![4352, 2048]⟩
abbrev S2048x5632 : Shape := ⟨2, ![2048, 5632]⟩
abbrev S5632x2048 : Shape := ⟨2, ![5632, 2048]⟩
abbrev S4352x5632 : Shape := ⟨2, ![4352, 5632]⟩
abbrev S_ : Shape := ⟨0, ![]⟩
abbrev S8x704x2048 : Shape := ⟨3, ![8, 704, 2048]⟩
abbrev S4352x8x704 : Shape := ⟨3, ![4352, 8, 704]⟩
abbrev S8x4352x704 : Shape := ⟨3, ![8, 4352, 704]⟩
abbrev S1x704x2048 : Shape := ⟨3, ![1, 704, 2048]⟩
abbrev S1x1088x704 : Shape := ⟨3, ![1, 1088, 704]⟩
abbrev S1088x2048 : Shape := ⟨2, ![1088, 2048]⟩
abbrev S704x2048 : Shape := ⟨2, ![704, 2048]⟩
abbrev S1088x704 : Shape := ⟨2, ![1088, 704]⟩

abbrev nBuf : Space → Nat
  | .hbm => 36
  | .vmem => 11
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4352x2048, .f32⟩
  | .hbm, ⟨5, _⟩ => ⟨S4352x5632, .f32⟩
  | .hbm, ⟨6, _⟩ => ⟨S4352x5632, .f32⟩
  | .hbm, ⟨7, _⟩ => ⟨S4352x5632, .f32⟩
  | .hbm, ⟨8, _⟩ => ⟨S4352x5632, .f32⟩
  | .hbm, ⟨9, _⟩ => ⟨S_, .f32⟩
  | .hbm, ⟨10, _⟩ => ⟨S4352x5632, .f32⟩
  | .hbm, ⟨11, _⟩ => ⟨S4352x5632, .f32⟩
  | .hbm, ⟨12, _⟩ => ⟨S_, .f32⟩
  | .hbm, ⟨13, _⟩ => ⟨S4352x5632, .f32⟩
  | .hbm, ⟨14, _⟩ => ⟨S4352x5632, .f32⟩
  | .hbm, ⟨15, _⟩ => ⟨S4352x5632, .f32⟩
  | .hbm, ⟨16, _⟩ => ⟨S_, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S_, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x2048, .bf16⟩
  | .hbm, ⟨26, _⟩ => ⟨S5632x2048, .bf16⟩
  | .hbm, ⟨27, _⟩ => ⟨S8x704x2048, .bf16⟩
  | .hbm, ⟨28, _⟩ => ⟨S4352x8x704, .f32⟩
  | .hbm, ⟨29, _⟩ => ⟨S8x4352x704, .f32⟩
  | .hbm, ⟨30, _⟩ => ⟨S8x4352x704, .bf16⟩
  | .hbm, ⟨31, _⟩ => ⟨S4352x8x704, .f32⟩
  | .hbm, ⟨32, _⟩ => ⟨S8x4352x704, .f32⟩
  | .hbm, ⟨33, _⟩ => ⟨S8x4352x704, .bf16⟩
  | .hbm, ⟨34, _⟩ => ⟨S8x4352x704, .bf16⟩
  | .hbm, ⟨35, _⟩ => ⟨S8x4352x704, .bf16⟩
  | .local _ .vmem, ⟨0, _⟩ => ⟨S4352x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x1088x704, .bf16⟩
  | .local _ .vmem, ⟨4, _⟩ => ⟨S1x1088x704, .bf16⟩
  | .local _ .vmem, ⟨5, _⟩ => ⟨S1x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1088_i32 : BitVec 32 := 1088#32
  let v0 : BitVec 32 := Scalar.muli arg1 c1088_i32
  v0
def k0_off1 (i : grid0.Coords) : Fin 2 → Nat :=
  let arg1 : BitVec 32 := BitVec.ofNat 32 (i 1).val
  let c1088_i32 : BitVec 32 := 1088#32
  let v0 : BitVec 32 := Scalar.muli arg1 c1088_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActReferenceIdeal.lean ====
abbrev S4352x2048 : Shape := ⟨2, ![4352, 2048]⟩
abbrev S2048x5632 : Shape := ⟨2, ![2048, 5632]⟩
abbrev S5632x2048 : Shape := ⟨2, ![5632, 2048]⟩
abbrev S4352x5632 : Shape := ⟨2, ![4352, 5632]⟩
abbrev S_ : Shape := ⟨0, ![]⟩
abbrev S4352x8x704 : Shape := ⟨3, ![4352, 8, 704]⟩
abbrev S8x4352x704 : Shape := ⟨3, ![8, 4352, 704]⟩

abbrev nBuf : Space → Nat
  | .hbm => 37
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4352x2048, .f32⟩
  | .hbm, ⟨5, _⟩ => ⟨S4352x5632, .f32⟩
  | .hbm, ⟨6, _⟩ => ⟨S4352x5632, .f32⟩
  | .hbm, ⟨7, _⟩ => ⟨S4352x5632, .f32⟩
  | .hbm, ⟨8, _⟩ => ⟨S4352x5632, .f32⟩
  | .hbm, ⟨9, _⟩ => ⟨S_, .f32⟩
  | .hbm, ⟨10, _⟩ => ⟨S4352x5632, .f32⟩
  | .hbm, ⟨11, _⟩ => ⟨S4352x5632, .f32⟩
  | .hbm, ⟨12, _⟩ => ⟨S_, .f32⟩
  | .hbm, ⟨13, _⟩ => ⟨S4352x5632, .f32⟩
  | .hbm, ⟨14, _⟩ => ⟨S4352x5632, .f32⟩
  | .hbm, ⟨15, _⟩ => ⟨S_, .f32⟩
  | .hbm, ⟨16, _⟩ => ⟨S4352x5632, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x2048, .f32⟩
  | .hbm, ⟨22, _⟩ => ⟨S2048x5632, .f32⟩
  | .hbm, ⟨23, _⟩ => ⟨S5632x2048, .f32⟩
  | .hbm, ⟨24, _⟩ => ⟨S4352x5632, .f32⟩
  | .hbm, ⟨25, _⟩ => ⟨S4352x5632, .f32⟩
  | .hbm, ⟨26, _⟩ => ⟨S4352x5632, .f32⟩
  | .hbm, ⟨27, _⟩ => ⟨S4352x5632, .f32⟩
  | .hbm, ⟨28, _⟩ => ⟨S4352x5632, .f32⟩
  | .hbm, ⟨29, _⟩ => ⟨S4352x5632, .f32⟩
  | .hbm, ⟨30, _⟩ => ⟨S4352x5632, .f32⟩
  | .hbm, ⟨31, _⟩ => ⟨S4352x8x704, .f32⟩
  | .hbm, ⟨32, _⟩ => ⟨S8x4352x704, .f32⟩
  | .hbm, ⟨33, _⟩ => ⟨S8x4352x704, .bf16⟩
  | .hbm, ⟨34, _⟩ => ⟨S4352x8x704, .f32⟩
  | .hbm, ⟨35, _⟩ => ⟨S8x4352x704, .f32⟩
  | .hbm, ⟨36, _⟩ => ⟨S8x4352x704, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Up.lean ====
abbrev S4352x2048 : Shape := ⟨2, ![4352, 2048]⟩
abbrev S8x704x2048 : Shape := ⟨3, ![8, 704, 2048]⟩
abbrev S8x4352x704 : Shape := ⟨3, ![8, 4352, 704]⟩
abbrev S1x704x2048 : Shape := ⟨3, ![1, 704, 2048]⟩
abbrev S1x1088x704 : Shape := ⟨3, ![1, 1088, 704]⟩
abbrev S1088x2048 : Shape := ⟨2, ![1088, 2048]⟩
abbrev S704x2048 : Shape := ⟨2, ![704, 2048]⟩
abbrev S1088x704 : Shape := ⟨2, ![1088, 704]⟩

abbrev nBuf : Space → Nat
  | .hbm => 6
  | .vmem => 11
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S8x704x2048, .bf16⟩
  | .hbm, ⟨3, _⟩ => ⟨S8x4352x704, .bf16⟩
  | .hbm, ⟨4, _⟩ => ⟨S8x4352x704, .bf16⟩
  | .hbm, ⟨5, _⟩ => ⟨S8x4352x704, .bf16⟩
  | .local _ .vmem, ⟨0, _⟩ => ⟨S4352x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1088_i32 : BitVec 32 := 1088#32
  let v0 : BitVec 32 := Scalar.muli arg1 c1088_i32
  v0
def k0_off1 (i : grid0.Coords) : Fin 2 → Nat :=
  let arg1 : BitVec 32 := BitVec.ofNat 32 (i 1).val
  let c1088_i32 : BitVec 32 := 1088#32
  let v0 : BitVec 32 := Scalar.muli arg1 c1088_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4352x2048 : Shape := ⟨2, ![4352, 2048]⟩
abbrev S8x704x2048 : Shape := ⟨3, ![8, 704, 2048]⟩
abbrev S5632x2048 : Shape := ⟨2, ![5632, 2048]⟩
abbrev S2048x5632 : Shape := ⟨2, ![2048, 5632]⟩
abbrev S4352x5632 : Shape := ⟨2, ![4352, 5632]⟩
abbrev S_ : Shape := ⟨0, ![]⟩
abbrev S4352x8x704 : Shape := ⟨3, ![4352, 8, 704]⟩
abbrev S8x4352x704 : Shape := ⟨3, ![8, 4352, 704]⟩

abbrev nBuf : Space → Nat
  | .hbm => 51
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x704x2048, .bf16⟩
  | .hbm, ⟨2, _⟩ => ⟨S8x704x2048, .bf16⟩
  | .hbm, ⟨3, _⟩ => ⟨S4352x2048, .f32⟩
  | .hbm, ⟨4, _⟩ => ⟨S5632x2048, .bf16⟩
  | .hbm, ⟨5, _⟩ => ⟨S2048x5632, .bf16⟩
  | .hbm, ⟨6, _⟩ => ⟨S2048x5632, .f32⟩
  | .hbm, ⟨7, _⟩ => ⟨S4352x5632, .f32⟩
  | .hbm, ⟨8, _⟩ => ⟨S5632x2048, .bf16⟩
  | .hbm, ⟨9, _⟩ => ⟨S2048x5632, .bf16⟩
  | .hbm, ⟨10, _⟩ => ⟨S2048x5632, .f32⟩
  | .hbm, ⟨11, _⟩ => ⟨S4352x5632, .f32⟩
  | .hbm, ⟨12, _⟩ => ⟨S4352x5632, .f32⟩
  | .hbm, ⟨13, _⟩ => ⟨S4352x5632, .f32⟩
  | .hbm, ⟨14, _⟩ => ⟨S_, .f32⟩
  | .hbm, ⟨15, _⟩ => ⟨S4352x5632, .f32⟩
  | .hbm, ⟨16, _⟩ => ⟨S4352x5632, .f32⟩
  | .hbm, ⟨17, _⟩ => ⟨S_, .f32⟩
  | .hbm, ⟨18, _⟩ => ⟨S4352x5632, .f32⟩
  | .hbm, ⟨19, _⟩ => ⟨S4352x5632, .f32⟩
  | .hbm, ⟨20, _⟩ => ⟨S_, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x5632, .f32⟩
  | .hbm, ⟨26, _⟩ => ⟨S4352x5632, .f32⟩
  | .hbm, ⟨27, _⟩ => ⟨S4352x5632, .f32⟩
  | .hbm, ⟨28, _⟩ => ⟨S_, .f32⟩
  | .hbm, ⟨29, _⟩ => ⟨S4352x5632, .f32⟩
  | .hbm, ⟨30, _⟩ => ⟨S4352x5632, .f32⟩
  | .hbm, ⟨31, _⟩ => ⟨S_, .f32⟩
  | .hbm, ⟨32, _⟩ => ⟨S4352x5632, .f32⟩
  | .hbm, ⟨33, _⟩ => ⟨S4352x5632, .f32⟩
  | .hbm, ⟨34, _⟩ => ⟨S4352x5632, .f32⟩
  | .hbm, ⟨35, _⟩ => ⟨S_, .f32⟩
  | .hbm, ⟨36, _⟩ => ⟨S4352x5632, .f32⟩
  | .hbm, ⟨37, _⟩ => ⟨S4352x5632, .f32⟩
  | .hbm, ⟨38, _⟩ => ⟨S4352x5632, .f32⟩
  | .hbm, ⟨39, _⟩ => ⟨S4352x5632, .f32⟩
  | .hbm, ⟨40, _⟩ => ⟨S4352x5632, .f32⟩
  | .hbm, ⟨41, _⟩ => ⟨S4352x5632, .f32⟩
  | .hbm, ⟨42, _⟩ => ⟨S4352x8x704, .f32⟩
  | .hbm, ⟨43, _⟩ => ⟨S8x4352x704, .f32⟩
  | .hbm, ⟨44, _⟩ => ⟨S8x4352x704, .bf16⟩
  | .hbm, ⟨45, _⟩ => ⟨S4352x8x704, .f32⟩
  | .hbm, ⟨46, _⟩ => ⟨S8x4352x704, .f32⟩
  | .hbm, ⟨47, _⟩ => ⟨S8x4352x704, .bf16⟩
  | .hbm, ⟨48, _⟩ => ⟨S4352x8x704, .f32⟩
  | .hbm, ⟨49, _⟩ => ⟨S8x4352x704, .f32⟩
  | .hbm, ⟨50, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]
-- ==== Down.lean ====
abbrev S8x4352x704 : Shape := ⟨3, ![8, 4352, 704]⟩
abbrev S4352x2048 : Shape := ⟨2, ![4352, 2048]⟩
abbrev S8x704x2048 : Shape := ⟨3, ![8, 704, 2048]⟩
abbrev S1x4352x704 : Shape := ⟨3, ![1, 4352, 704]⟩
abbrev S1x704x2048 : Shape := ⟨3, ![1, 704, 2048]⟩
abbrev S4352x704 : Shape := ⟨2, ![4352, 704]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S8x704x2048, .bf16⟩
  | .local _ .vmem, ⟨0, _⟩ => ⟨S1x4352x704, .bf16⟩
  | .local _ .vmem, ⟨1, _⟩ => ⟨S1x4352x704, .bf16⟩
  | .local _ .vmem, ⟨2, _⟩ => ⟨S4352x2048, .bf16⟩
  | .local _ .vmem, ⟨3, _⟩ => ⟨S1x704x2048, .bf16⟩
  | .local _ .vmem, ⟨4, _⟩ => ⟨S1x704x2048, .bf16⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4352x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S8x4352x704 : Shape := ⟨3, ![8, 4352, 704]⟩
abbrev S4352x2048 : Shape := ⟨2, ![4352, 2048]⟩
abbrev S4352x8x704 : Shape := ⟨3, ![4352, 8, 704]⟩
abbrev S4352x5632 : Shape := ⟨2, ![4352, 5632]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S4352x8x704, .bf16⟩
  | .hbm, ⟨3, _⟩ => ⟨S4352x5632, .bf16⟩
  | .hbm, ⟨4, _⟩ => ⟨S4352x5632, .f32⟩
  | .hbm, ⟨5, _⟩ => ⟨S_, .f32⟩
  | .hbm, ⟨6, _⟩ => ⟨S5632x2048, .f32⟩
  | .hbm, ⟨7, _⟩ => ⟨S4352x2048, .f32⟩
  | .hbm, ⟨8, _⟩ => ⟨S4352x2048, .f32⟩
  | .hbm, ⟨9, _⟩ => ⟨S2048x5632, .f32⟩
  | .hbm, ⟨10, _⟩ => ⟨S5632x2048, .f32⟩
  | .hbm, ⟨11, _⟩ => ⟨S8x704x2048, .f32⟩
  | .hbm, ⟨12, _⟩ => ⟨S8x704x2048, .bf16⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Gate.lean ====
abbrev S8x4352x704 : Shape := ⟨3, ![8, 4352, 704]⟩
abbrev S4352x2048 : Shape := ⟨2, ![4352, 2048]⟩
abbrev S8x704x2048 : Shape := ⟨3, ![8, 704, 2048]⟩
abbrev S1x4352x704 : Shape := ⟨3, ![1, 4352, 704]⟩
abbrev S1x704x2048 : Shape := ⟨3, ![1, 704, 2048]⟩
abbrev S4352x704 : Shape := ⟨2, ![4352, 704]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S8x704x2048, .bf16⟩
  | .local _ .vmem, ⟨0, _⟩ => ⟨S1x4352x704, .bf16⟩
  | .local _ .vmem, ⟨1, _⟩ => ⟨S1x4352x704, .bf16⟩
  | .local _ .vmem, ⟨2, _⟩ => ⟨S4352x2048, .bf16⟩
  | .local _ .vmem, ⟨3, _⟩ => ⟨S1x704x2048, .bf16⟩
  | .local _ .vmem, ⟨4, _⟩ => ⟨S1x704x2048, .bf16⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4352x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateReferenceIdeal.lean ====
abbrev S8x4352x704 : Shape := ⟨3, ![8, 4352, 704]⟩
abbrev S4352x2048 : Shape := ⟨2, ![4352, 2048]⟩
abbrev S_ : Shape := ⟨0, ![]⟩
abbrev S2048x5632 : Shape := ⟨2, ![2048, 5632]⟩
abbrev S4352x5632 : Shape := ⟨2, ![4352, 5632]⟩
abbrev S4352x8x704 : Shape := ⟨3, ![4352, 8, 704]⟩
abbrev S5632x2048 : Shape := ⟨2, ![5632, 2048]⟩
abbrev S8x704x2048 : Shape := ⟨3, ![8, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S2048x5632, .f32⟩
  | .hbm, ⟨5, _⟩ => ⟨S4352x5632, .f32⟩
  | .hbm, ⟨6, _⟩ => ⟨S4352x8x704, .bf16⟩
  | .hbm, ⟨7, _⟩ => ⟨S4352x5632, .bf16⟩
  | .hbm, ⟨8, _⟩ => ⟨S4352x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dhn.lean ====
abbrev S8x4352x704 : Shape := ⟨3, ![8, 4352, 704]⟩
abbrev S8x704x2048 : Shape := ⟨3, ![8, 704, 2048]⟩
abbrev S4352x2048 : Shape := ⟨2, ![4352, 2048]⟩
abbrev S8x544x704 : Shape := ⟨3, ![8, 544, 704]⟩
abbrev S8x704x512 : Shape := ⟨3, ![8, 704, 512]⟩
abbrev S544x512 : Shape := ⟨2, ![544, 512]⟩
abbrev S1x544x704 : Shape := ⟨3, ![1, 544, 704]⟩
abbrev S544x704 : Shape := ⟨2, ![544, 704]⟩
abbrev S1x704x512 : Shape := ⟨3, ![1, 704, 512]⟩
abbrev S704x512 : Shape := ⟨2, ![704, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S8x4352x704, .bf16⟩
  | .hbm, ⟨3, _⟩ => ⟨S8x704x2048, .bf16⟩
  | .hbm, ⟨4, _⟩ => ⟨S4352x2048, .f32⟩
  | .local _ .vmem, ⟨0, _⟩ => ⟨S8x544x704, .bf16⟩
  | .local _ .vmem, ⟨1, _⟩ => ⟨S8x544x704, .bf16⟩
  | .local _ .vmem, ⟨2, _⟩ => ⟨S8x704x512, .bf16⟩
  | .local _ .vmem, ⟨3, _⟩ => ⟨S8x704x512, .bf16⟩
  | .local _ .vmem, ⟨4, _⟩ => ⟨S8x544x704, .bf16⟩
  | .local _ .vmem, ⟨5, _⟩ => ⟨S8x544x704, .bf16⟩
  | .local _ .vmem, ⟨6, _⟩ => ⟨S8x704x512, .bf16⟩
  | .local _ .vmem, ⟨7, _⟩ => ⟨S8x704x512, .bf16⟩
  | .local _ .vmem, ⟨8, _⟩ => ⟨S544x512, .f32⟩
  | .local _ .vmem, ⟨9, _⟩ => ⟨S544x512, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x544x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DhnReferenceIdeal.lean ====
abbrev S8x4352x704 : Shape := ⟨3, ![8, 4352, 704]⟩
abbrev S8x704x2048 : Shape := ⟨3, ![8, 704, 2048]⟩
abbrev S5632x2048 : Shape := ⟨2, ![5632, 2048]⟩
abbrev S2048x5632 : Shape := ⟨2, ![2048, 5632]⟩
abbrev S_ : Shape := ⟨0, ![]⟩
abbrev S4352x2048 : Shape := ⟨2, ![4352, 2048]⟩
abbrev S4352x5632 : Shape := ⟨2, ![4352, 5632]⟩
abbrev S4352x8x704 : Shape := ⟨3, ![4352, 8, 704]⟩

abbrev nBuf : Space → Nat
  | .hbm => 23
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S8x4352x704, .bf16⟩
  | .hbm, ⟨3, _⟩ => ⟨S8x704x2048, .bf16⟩
  | .hbm, ⟨4, _⟩ => ⟨S5632x2048, .bf16⟩
  | .hbm, ⟨5, _⟩ => ⟨S2048x5632, .bf16⟩
  | .hbm, ⟨6, _⟩ => ⟨S2048x5632, .f32⟩
  | .hbm, ⟨7, _⟩ => ⟨S5632x2048, .bf16⟩
  | .hbm, ⟨8, _⟩ => ⟨S2048x5632, .bf16⟩
  | .hbm, ⟨9, _⟩ => ⟨S2048x5632, .f32⟩
  | .hbm, ⟨10, _⟩ => ⟨S_, .f32⟩
  | .hbm, ⟨11, _⟩ => ⟨S4352x2048, .f32⟩
  | .hbm, ⟨12, _⟩ => ⟨S4352x5632, .f32⟩
  | .hbm, ⟨13, _⟩ => ⟨S4352x5632, .f32⟩
  | .hbm, ⟨14, _⟩ => ⟨S4352x8x704, .bf16⟩
  | .hbm, ⟨15, _⟩ => ⟨S4352x5632, .bf16⟩
  | .hbm, ⟨16, _⟩ => ⟨S4352x5632, .f32⟩
  | .hbm, ⟨17, _⟩ => ⟨S4352x8x704, .bf16⟩
  | .hbm, ⟨18, _⟩ => ⟨S4352x5632, .bf16⟩
  | .hbm, ⟨19, _⟩ => ⟨S4352x5632, .f32⟩
  | .hbm, ⟨20, _⟩ => ⟨S4352x2048, .f32⟩
  | .hbm, ⟨21, _⟩ => ⟨S4352x2048, .f32⟩
  | .hbm, ⟨22, _⟩ => ⟨S4352x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Dmix.lean ====
abbrev S4352x2048 : Shape := ⟨2, ![4352, 2048]⟩
abbrev S2048x2048 : Shape := ⟨2, ![2048, 2048]⟩
abbrev S512x2048 : Shape := ⟨2, ![512, 2048]⟩
abbrev S4352x512 : Shape := ⟨2, ![4352, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S4352x2048, .bf16⟩
  | .local _ .vmem, ⟨1, _⟩ => ⟨S512x2048, .bf16⟩
  | .local _ .vmem, ⟨2, _⟩ => ⟨S512x2048, .bf16⟩
  | .local _ .vmem, ⟨3, _⟩ => ⟨S4352x512, .f32⟩
  | .local _ .vmem, ⟨4, _⟩ => ⟨S4352x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DmixReferenceIdeal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S4352x2048 : Shape := ⟨2, ![4352, 2048]⟩
abbrev S2048x2048 : Shape := ⟨2, ![2048, 2048]⟩
abbrev S4352x512 : Shape := ⟨2, ![4352, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x2048, .bf16⟩
  | .local _ .vmem, ⟨3, _⟩ => ⟨S512x2048, .bf16⟩
  | .local _ .vmem, ⟨4, _⟩ => ⟨S512x2048, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4352x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutReferenceIdeal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S2048x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dxn.lean ====
abbrev S4352x4096 : Shape := ⟨2, ![4352, 4096]⟩
abbrev S8x2048x512 : Shape := ⟨3, ![8, 2048, 512]⟩
abbrev S4352x2048 : Shape := ⟨2, ![4352, 2048]⟩
abbrev S544x4096 : Shape := ⟨2, ![544, 4096]⟩
abbrev S8x1024x512 : Shape := ⟨3, ![8, 1024, 512]⟩
abbrev S544x1024 : Shape := ⟨2, ![544, 1024]⟩
abbrev S1x1024x512 : Shape := ⟨3, ![1, 1024, 512]⟩
abbrev S1024x512 : Shape := ⟨2, ![1024, 512]⟩
abbrev S544x512 : Shape := ⟨2, ![544, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x4096, .bf16⟩
  | .hbm, ⟨1, _⟩ => ⟨S8x2048x512, .bf16⟩
  | .hbm, ⟨2, _⟩ => ⟨S4352x2048, .f32⟩
  | .local _ .vmem, ⟨0, _⟩ => ⟨S544x4096, .bf16⟩
  | .local _ .vmem, ⟨1, _⟩ => ⟨S544x4096, .bf16⟩
  | .local _ .vmem, ⟨2, _⟩ => ⟨S8x1024x512, .bf16⟩
  | .local _ .vmem, ⟨3, _⟩ => ⟨S544x1024, .f32⟩
  | .local _ .vmem, ⟨4, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxnIdeal.lean ====
abbrev S4352x4096 : Shape := ⟨2, ![4352, 4096]⟩
abbrev S8x2048x512 : Shape := ⟨3, ![8, 2048, 512]⟩
abbrev S4352x2048 : Shape := ⟨2, ![4352, 2048]⟩
abbrev S544x4096 : Shape := ⟨2, ![544, 4096]⟩
abbrev S8x1024x512 : Shape := ⟨3, ![8, 1024, 512]⟩
abbrev S544x1024 : Shape := ⟨2, ![544, 1024]⟩
abbrev S1x1024x512 : Shape := ⟨3, ![1, 1024, 512]⟩
abbrev S1024x512 : Shape := ⟨2, ![1024, 512]⟩
abbrev S544x512 : Shape := ⟨2, ![544, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x4096, .bf16⟩
  | .hbm, ⟨1, _⟩ => ⟨S8x2048x512, .bf16⟩
  | .hbm, ⟨2, _⟩ => ⟨S4352x2048, .f32⟩
  | .local _ .vmem, ⟨0, _⟩ => ⟨S544x4096, .bf16⟩
  | .local _ .vmem, ⟨1, _⟩ => ⟨S544x4096, .bf16⟩
  | .local _ .vmem, ⟨2, _⟩ => ⟨S8x1024x512, .bf16⟩
  | .local _ .vmem, ⟨3, _⟩ => ⟨S544x1024, .f32⟩
  | .local _ .vmem, ⟨4, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxnReferenceIdeal.lean ====
abbrev S4352x4096 : Shape := ⟨2, ![4352, 4096]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S4352x2048 : Shape := ⟨2, ![4352, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S8x2048x512, .bf16⟩
  | .hbm, ⟨2, _⟩ => ⟨S2048x8x512, .bf16⟩
  | .hbm, ⟨3, _⟩ => ⟨S2048x4096, .bf16⟩
  | .hbm, ⟨4, _⟩ => ⟨S2048x4096, .f32⟩
  | .hbm, ⟨5, _⟩ => ⟨S_, .f32⟩
  | .hbm, ⟨6, _⟩ => ⟨S4352x2048, .f32⟩
  | .hbm, ⟨7, _⟩ => ⟨S4352x4096, .f32⟩
  | .hbm, ⟨8, _⟩ => ⟨S4352x4096, .f32⟩
  | .hbm, ⟨9, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4352x2048 : Shape := ⟨2, ![4352, 2048]⟩
abbrev S4352x4096 : Shape := ⟨2, ![4352, 4096]⟩
abbrev S8x2048x512 : Shape := ⟨3, ![8, 2048, 512]⟩
abbrev S4352x512 : Shape := ⟨2, ![4352, 512]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S8x2048x512, .bf16⟩
  | .local _ .vmem, ⟨0, _⟩ => ⟨S4352x2048, .bf16⟩
  | .local _ .vmem, ⟨1, _⟩ => ⟨S4352x512, .bf16⟩
  | .local _ .vmem, ⟨2, _⟩ => ⟨S4352x512, .bf16⟩
  | .local _ .vmem, ⟨3, _⟩ => ⟨S1x2048x512, .bf16⟩
  | .local _ .vmem, ⟨4, _⟩ => ⟨S1x2048x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InIdeal.lean ====
abbrev S4352x2048 : Shape := ⟨2, ![4352, 2048]⟩
abbrev S4352x4096 : Shape := ⟨2, ![4352, 4096]⟩
abbrev S8x2048x512 : Shape := ⟨3, ![8, 2048, 512]⟩
abbrev S4352x512 : Shape := ⟨2, ![4352, 512]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S8x2048x512, .bf16⟩
  | .local _ .vmem, ⟨0, _⟩ => ⟨S4352x2048, .bf16⟩
  | .local _ .vmem, ⟨1, _⟩ => ⟨S4352x512, .bf16⟩
  | .local _ .vmem, ⟨2, _⟩ => ⟨S4352x512, .bf16⟩
  | .local _ .vmem, ⟨3, _⟩ => ⟨S1x2048x512, .bf16⟩
  | .local _ .vmem, ⟨4, _⟩ => ⟨S1x2048x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InReferenceIdeal.lean ====
abbrev S4352x2048 : Shape := ⟨2, ![4352, 2048]⟩
abbrev S4352x4096 : Shape := ⟨2, ![4352, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S4352x2048, .f32⟩
  | .hbm, ⟨3, _⟩ => ⟨S_, .f32⟩
  | .hbm, ⟨4, _⟩ => ⟨S2048x4096, .f32⟩
  | .hbm, ⟨5, _⟩ => ⟨S4352x4096, .f32⟩
  | .hbm, ⟨6, _⟩ => ⟨S4352x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxnB.lean ====
abbrev S4352x3072 : Shape := ⟨2, ![4352, 3072]⟩
abbrev S8x2048x384 : Shape := ⟨3, ![8, 2048, 384]⟩
abbrev S4352x2048 : Shape := ⟨2, ![4352, 2048]⟩
abbrev S544x3072 : Shape := ⟨2, ![544, 3072]⟩
abbrev S8x1024x384 : Shape := ⟨3, ![8, 1024, 384]⟩
abbrev S544x1024 : Shape := ⟨2, ![544, 1024]⟩
abbrev S1x1024x384 : Shape := ⟨3, ![1, 1024, 384]⟩
abbrev S1024x384 : Shape := ⟨2, ![1024, 384]⟩
abbrev S1024x768 : Shape := ⟨2, ![1024, 768]⟩
abbrev S544x768 : Shape := ⟨2, ![544, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S8x2048x384, .bf16⟩
  | .hbm, ⟨2, _⟩ => ⟨S4352x2048, .f32⟩
  | .local _ .vmem, ⟨0, _⟩ => ⟨S544x3072, .bf16⟩
  | .local _ .vmem, ⟨1, _⟩ => ⟨S544x3072, .bf16⟩
  | .local _ .vmem, ⟨2, _⟩ => ⟨S8x1024x384, .bf16⟩
  | .local _ .vmem, ⟨3, _⟩ => ⟨S544x1024, .f32⟩
  | .local _ .vmem, ⟨4, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxnBReferenceIdeal.lean ====
abbrev S4352x3072 : Shape := ⟨2, ![4352, 3072]⟩
abbrev S8x2048x384 : Shape := ⟨3, ![8, 2048, 384]⟩
abbrev S2048x8x384 : Shape := ⟨3, ![2048, 8, 384]⟩
abbrev S2048x3072 : Shape := ⟨2, ![2048, 3072]⟩
abbrev S_ : Shape := ⟨0, ![]⟩
abbrev S4352x2048 : Shape := ⟨2, ![4352, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S8x2048x384, .bf16⟩
  | .hbm, ⟨2, _⟩ => ⟨S2048x8x384, .bf16⟩
  | .hbm, ⟨3, _⟩ => ⟨S2048x3072, .bf16⟩
  | .hbm, ⟨4, _⟩ => ⟨S2048x3072, .f32⟩
  | .hbm, ⟨5, _⟩ => ⟨S_, .f32⟩
  | .hbm, ⟨6, _⟩ => ⟨S4352x2048, .f32⟩
  | .hbm, ⟨7, _⟩ => ⟨S4352x3072, .f32⟩
  | .hbm, ⟨8, _⟩ => ⟨S4352x3072, .f32⟩
  | .hbm, ⟨9, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InB.lean ====
abbrev S4352x2048 : Shape := ⟨2, ![4352, 2048]⟩
abbrev S4352x3072 : Shape := ⟨2, ![4352, 3072]⟩
abbrev S8x2048x384 : Shape := ⟨3, ![8, 2048, 384]⟩
abbrev S4352x384 : Shape := ⟨2, ![4352, 384]⟩
abbrev S1x2048x384 : Shape := ⟨3, ![1, 2048, 384]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S8x2048x384, .bf16⟩
  | .local _ .vmem, ⟨0, _⟩ => ⟨S4352x2048, .bf16⟩
  | .local _ .vmem, ⟨1, _⟩ => ⟨S4352x384, .bf16⟩
  | .local _ .vmem, ⟨2, _⟩ => ⟨S4352x384, .bf16⟩
  | .local _ .vmem, ⟨3, _⟩ => ⟨S1x2048x384, .bf16⟩
  | .local _ .vmem, ⟨4, _⟩ => ⟨S1x2048x384, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4352x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InBReferenceIdeal.lean ====
abbrev S4352x2048 : Shape := ⟨2, ![4352, 2048]⟩
abbrev S4352x3072 : Shape := ⟨2, ![4352, 3072]⟩
abbrev S_ : Shape := ⟨0, ![]⟩
abbrev S2048x3072 : Shape := ⟨2, ![2048, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S4352x2048, .f32⟩
  | .hbm, ⟨3, _⟩ => ⟨S_, .f32⟩
  | .hbm, ⟨4, _⟩ => ⟨S2048x3072, .f32⟩
  | .hbm, ⟨5, _⟩ => ⟨S4352x3072, .f32⟩
  | .hbm, ⟨6, _⟩ => ⟨S4352x3072, .f32⟩
  | .hbm, ⟨7, _⟩ => ⟨S3072x2048, .f32⟩
  | .hbm, ⟨8, _⟩ => ⟨S2048x3072, .f32⟩
  | .hbm, ⟨9, _⟩ => ⟨S2048x8x384, .f32⟩
  | .hbm, ⟨10, _⟩ => ⟨S8x2048x384, .f32⟩
  | .hbm, ⟨11, _⟩ => ⟨S8x2048x384, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4352x2048 : Shape := ⟨2, ![4352, 2048]⟩
abbrev S8x2048x512 : Shape := ⟨3, ![8, 2048, 512]⟩
abbrev S4352x4096 : Shape := ⟨2, ![4352, 4096]⟩
abbrev S1x2048x512 : Shape := ⟨3, ![1, 2048, 512]⟩
abbrev S4352x512 : Shape := ⟨2, ![4352, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S8x2048x512, .bf16⟩
  | .hbm, ⟨2, _⟩ => ⟨S4352x4096, .f32⟩
  | .local _ .vmem, ⟨0, _⟩ => ⟨S4352x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S4352x512, .f32⟩
  | .local _ .vmem, ⟨4, _⟩ => ⟨S4352x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjIdeal.lean ====
abbrev S4352x2048 : Shape := ⟨2, ![4352, 2048]⟩
abbrev S8x2048x512 : Shape := ⟨3, ![8, 2048, 512]⟩
abbrev S4352x4096 : Shape := ⟨2, ![4352, 4096]⟩
abbrev S1x2048x512 : Shape := ⟨3, ![1, 2048, 512]⟩
abbrev S4352x512 : Shape := ⟨2, ![4352, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S8x2048x512, .bf16⟩
  | .hbm, ⟨2, _⟩ => ⟨S4352x4096, .f32⟩
  | .local _ .vmem, ⟨0, _⟩ => ⟨S4352x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S4352x512, .f32⟩
  | .local _ .vmem, ⟨4, _⟩ => ⟨S4352x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S4352x2048 : Shape := ⟨2, ![4352, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4352x4096 : Shape := ⟨2, ![4352, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x512, .bf16⟩
  | .hbm, ⟨2, _⟩ => ⟨S4352x2048, .f32⟩
  | .hbm, ⟨3, _⟩ => ⟨S2048x8x512, .bf16⟩
  | .hbm, ⟨4, _⟩ => ⟨S2048x4096, .bf16⟩
  | .hbm, ⟨5, _⟩ => ⟨S2048x4096, .f32⟩
  | .hbm, ⟨6, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjB.lean ====
abbrev S4352x2048 : Shape := ⟨2, ![4352, 2048]⟩
abbrev S8x2048x384 : Shape := ⟨3, ![8, 2048, 384]⟩
abbrev S4352x3072 : Shape := ⟨2, ![4352, 3072]⟩
abbrev S2x2048x384 : Shape := ⟨3, ![2, 2048, 384]⟩
abbrev S2176x768 : Shape := ⟨2, ![2176, 768]⟩
abbrev S1x2048x384 : Shape := ⟨3, ![1, 2048, 384]⟩
abbrev S2048x384 : Shape := ⟨2, ![2048, 384]⟩
abbrev S2048x768 : Shape := ⟨2, ![2048, 768]⟩
abbrev S2176x2048 : Shape := ⟨2, ![2176, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S8x2048x384, .bf16⟩
  | .hbm, ⟨2, _⟩ => ⟨S4352x3072, .f32⟩
  | .local _ .vmem, ⟨0, _⟩ => ⟨S4352x2048, .bf16⟩
  | .local _ .vmem, ⟨1, _⟩ => ⟨S2x2048x384, .bf16⟩
  | .local _ .vmem, ⟨2, _⟩ => ⟨S2x2048x384, .bf16⟩
  | .local _ .vmem, ⟨3, _⟩ => ⟨S2176x768, .f32⟩
  | .local _ .vmem, ⟨4, _⟩ => ⟨S2176x768, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c2176_i32 : BitVec 32 := 2176#32
  let v5 : BitVec 32 := Scalar.muli arg1 c2176_i32
  v5
def k0_off1 (i : grid0.Coords) : Fin 2 → Nat :=
  let arg1 : BitVec 32 := BitVec.ofNat 32 (i 1).val
  let c2176_i32 : BitVec 32 := 2176#32
  let v5 : BitVec 32 := Scalar.muli arg1 c2176_i32
  let v6 : BitVec 32 := v5
  let v7 : Index := Scalar.indexCast v6
  let c0_4 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBReferenceIdeal.lean ====
abbrev S4352x2048 : Shape := ⟨2, ![4352, 2048]⟩
abbrev S8x2048x384 : Shape := ⟨3, ![8, 2048, 384]⟩
abbrev S2048x8x384 : Shape := ⟨3, ![2048, 8, 384]⟩
abbrev S2048x3072 : Shape := ⟨2, ![2048, 3072]⟩
abbrev S4352x3072 : Shape := ⟨2, ![4352, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x384, .bf16⟩
  | .hbm, ⟨2, _⟩ => ⟨S4352x2048, .f32⟩
  | .hbm, ⟨3, _⟩ => ⟨S2048x8x384, .bf16⟩
  | .hbm, ⟨4, _⟩ => ⟨S2048x3072, .bf16⟩
  | .hbm, ⟨5, _⟩ => ⟨S2048x3072, .f32⟩
  | .hbm, ⟨6, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wout.lean ====
abbrev S4352x2048 : Shape := ⟨2, ![4352, 2048]⟩
abbrev S2048x2048 : Shape := ⟨2, ![2048, 2048]⟩
abbrev S2x8x2048 : Shape := ⟨3, ![2, 8, 2048]⟩
abbrev S2048x512 : Shape := ⟨2, ![2048, 512]⟩
abbrev S1088x512 : Shape := ⟨2, ![1088, 512]⟩
abbrev S2x8x512 : Shape := ⟨3, ![2, 8, 512]⟩
abbrev S1088x2048 : Shape := ⟨2, ![1088, 2048]⟩
abbrev S1088x1 : Shape := ⟨2, ![1088, 1]⟩
abbrev S1x1x512 : Shape := ⟨3, ![1, 1, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x8x2048, .f32⟩
  | .hbm, ⟨4, _⟩ => ⟨S4352x2048, .f32⟩
  | .hbm, ⟨5, _⟩ => ⟨S4352x2048, .f32⟩
  | .local _ .vmem, ⟨0, _⟩ => ⟨S4352x2048, .bf16⟩
  | .local _ .vmem, ⟨1, _⟩ => ⟨S2048x512, .bf16⟩
  | .local _ .vmem, ⟨2, _⟩ => ⟨S2048x512, .bf16⟩
  | .local _ .vmem, ⟨3, _⟩ => ⟨S1088x512, .f32⟩
  | .local _ .vmem, ⟨4, _⟩ => ⟨S1088x512, .f32⟩
  | .local _ .vmem, ⟨5, _⟩ => ⟨S2x8x512, .f32⟩
  | .local _ .vmem, ⟨6, _⟩ => ⟨S2x8x512, .f32⟩
  | .local _ .vmem, ⟨7, _⟩ => ⟨S1088x512, .f32⟩
  | .local _ .vmem, ⟨8, _⟩ => ⟨S1088x512, .f32⟩
  | .local _ .vmem, ⟨9, _⟩ => ⟨S1088x512, .f32⟩
  | .local _ .vmem, ⟨10, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1088_i32 : BitVec 32 := 1088#32
  let v0 : BitVec 32 := Scalar.muli arg1 c1088_i32
  v0
def k0_off1 (i : grid0.Coords) : Fin 2 → Nat :=
  let arg1 : BitVec 32 := BitVec.ofNat 32 (i 1).val
  let c1088_i32 : BitVec 32 := 1088#32
  let v0 : BitVec 32 := Scalar.muli arg1 c1088_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WoutReferenceIdeal.lean ====
abbrev S4352x2048 : Shape := ⟨2, ![4352, 2048]⟩
abbrev S2048x2048 : Shape := ⟨2, ![2048, 2048]⟩
abbrev S2x8x2048 : Shape := ⟨3, ![2, 8, 2048]⟩
abbrev S1x1x2048 : Shape := ⟨3, ![1, 1, 2048]⟩
abbrev S2048 : Shape := ⟨1, ![2048]⟩
abbrev S256x2048 : Shape := ⟨2, ![256, 2048]⟩
abbrev S1x2048 : Shape := ⟨2, ![1, 2048]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x8x2048, .f32⟩
  | .hbm, ⟨4, _⟩ => ⟨S4352x2048, .f32⟩
  | .hbm, ⟨5, _⟩ => ⟨S2048x2048, .f32⟩
  | .hbm, ⟨6, _⟩ => ⟨S4352x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Wdown.lean ====
abbrev S8x4352x704 : Shape := ⟨3, ![8, 4352, 704]⟩
abbrev S8x704x2048 : Shape := ⟨3, ![8, 704, 2048]⟩
abbrev S4352x2048 : Shape := ⟨2, ![4352, 2048]⟩
abbrev S2x8x2048 : Shape := ⟨3, ![2, 8, 2048]⟩
abbrev S8x544x704 : Shape := ⟨3, ![8, 544, 704]⟩
abbrev S8x704x1024 : Shape := ⟨3, ![8, 704, 1024]⟩
abbrev S544x1024 : Shape := ⟨2, ![544, 1024]⟩
abbrev S2x8x1024 : Shape := ⟨3, ![2, 8, 1024]⟩
abbrev S1x544x704 : Shape := ⟨3, ![1, 544, 704]⟩
abbrev S544x704 : Shape := ⟨2, ![544, 704]⟩
abbrev S1x704x1024 : Shape := ⟨3, ![1, 704, 1024]⟩
abbrev S704x1024 : Shape := ⟨2, ![704, 1024]⟩
abbrev S544x1 : Shape := ⟨2, ![544, 1]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S4352x2048, .f32⟩
  | .hbm, ⟨3, _⟩ => ⟨S2x8x2048, .f32⟩
  | .hbm, ⟨4, _⟩ => ⟨S4352x2048, .f32⟩
  | .hbm, ⟨5, _⟩ => ⟨S4352x2048, .f32⟩
  | .local _ .vmem, ⟨0, _⟩ => ⟨S8x544x704, .bf16⟩
  | .local _ .vmem, ⟨1, _⟩ => ⟨S8x544x704, .bf16⟩
  | .local _ .vmem, ⟨2, _⟩ => ⟨S8x704x1024, .bf16⟩
  | .local _ .vmem, ⟨3, _⟩ => ⟨S544x1024, .f32⟩
  | .local _ .vmem, ⟨4, _⟩ => ⟨S544x1024, .f32⟩
  | .local _ .vmem, ⟨5, _⟩ => ⟨S2x8x1024, .f32⟩
  | .local _ .vmem, ⟨6, _⟩ => ⟨S2x8x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | _, _ => ⟨S8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WdownReferenceIdeal.lean ====
abbrev S8x4352x704 : Shape := ⟨3, ![8, 4352, 704]⟩
abbrev S8x704x2048 : Shape := ⟨3, ![8, 704, 2048]⟩
abbrev S4352x2048 : Shape := ⟨2, ![4352, 2048]⟩
abbrev S2x8x2048 : Shape := ⟨3, ![2, 8, 2048]⟩
abbrev S4352x8x704 : Shape := ⟨3, ![4352, 8, 704]⟩
abbrev S4352x5632 : Shape := ⟨2, ![4352, 5632]⟩
abbrev S5632x2048 : Shape := ⟨2, ![5632, 2048]⟩
abbrev S1x1x2048 : Shape := ⟨3, ![1, 1, 2048]⟩
abbrev S2048 : Shape := ⟨1, ![2048]⟩
abbrev S256x2048 : Shape := ⟨2, ![256, 2048]⟩
abbrev S1x2048 : Shape := ⟨2, ![1, 2048]⟩
abbrev S4096x2048 : Shape := ⟨2, ![4096, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x4352x704, .bf16⟩
  | .hbm, ⟨1, _⟩ => ⟨S8x704x2048, .bf16⟩
  | .hbm, ⟨2, _⟩ => ⟨S4352x2048, .f32⟩
  | .hbm, ⟨3, _⟩ => ⟨S2x8x2048, .f32⟩
  | .hbm, ⟨4, _⟩ => ⟨S4352x8x704, .bf16⟩
  | .hbm, ⟨5, _⟩ => ⟨S4352x5632, .bf16⟩
  | .hbm, ⟨6, _⟩ => ⟨S4352x5632, .f32⟩
  | .hbm, ⟨7, _⟩ => ⟨S5632x2048, .bf16⟩
  | .hbm, ⟨8, _⟩ => ⟨S5632x2048, .f32⟩
  | .hbm, ⟨9, _⟩ => ⟨S4352x2048, .f32⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4352x2048, .f32⟩
  | _, _ => ⟨S8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Proof.Softmax.lean ====
/- The softmax of a row of real scores and the gradient that goes back through it, as the extended reals compute them: the
   weight from a saved logarithm of the row's sum in base two, and the gradient of `e / Σ e` term by term. -/
module

public import Idealize.ShloMosaic.PureOps.Ideal.Laws
public import Idealize.ShloMosaic.Lib.IdealHost

@[expose] public section

noncomputable section

open Idealize.ShloMosaic

namespace Cert.Softmax

variable {ι : Type} [Fintype ι]

theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A product of two lists of reals. -/
theorem coe_dot (f g : ι → ℝ) : ∑ i, (f i : EReal) * (g i : EReal) = ((∑ i, f i * g i : ℝ) : EReal) := by
  rw [coe_sum]; simp [EReal.coe_mul]

theorem div_real {y : ℝ} (h : y ≠ 0) (x : ℝ) : Ideal.div (x : EReal) (y : EReal) = ((x / y : ℝ) : EReal) := by
  rw [Ideal.div_coe h, ← EReal.coe_mul, mul_one_div]

/-- The greatest of finitely many reals, started at minus infinity, is a real. -/
theorem fold_max_real [Nonempty ι] (f : ι → ℝ) : ∃ M : ℝ, Finset.univ.fold max (⊥ : EReal) (fun i => (f i : EReal)) = (M : EReal) := by
  classical
  have key : ∀ s : Finset ι, s.Nonempty → ∃ M : ℝ, s.fold max (⊥ : EReal) (fun i => (f i : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-- The softmax of the scores `s`. -/
def soft (s : ι → ℝ) (n : ι) : ℝ := Real.exp (s n) / ∑ i, Real.exp (s i)

/-- The gradient of the scores, `D` being the gradient of the weights. -/
def back (s D : ι → ℝ) (n : ι) : ℝ := soft s n * (D n - ∑ i, soft s i * D i)

variable (s D : ι → ℝ) (M : ℝ)

theorem exp_sub (n : ι) : Ideal.exp ((s n : EReal) - (M : EReal)) = ((Real.exp (s n - M) : ℝ) : EReal) := by
  rw [← EReal.coe_sub, Ideal.exp_coe]

theorem sum_exp : ∑ i, Ideal.exp ((s i : EReal) - (M : EReal)) = ((∑ i, Real.exp (s i - M) : ℝ) : EReal) := by
  rw [coe_sum]; exact Finset.sum_congr rfl fun i _ => exp_sub s M i

theorem sum_pos [Nonempty ι] : 0 < ∑ i, Real.exp (s i - M) :=
  Finset.sum_pos (fun i _ => Real.exp_pos _) Finset.univ_nonempty

/-- The shift by the greatest score cancels. -/
theorem soft_shift (n : ι) : Real.exp (s n - M) / ∑ i, Real.exp (s i - M) = soft s n := by
  have e : ∀ i, Real.exp (s i - M) = Real.exp (s i) * Real.exp (-M) := fun i => by rw [← Real.exp_add, sub_eq_add_neg]
  unfold soft
  simp only [e, ← Finset.sum_mul]
  exact mul_div_mul_right _ _ (Real.exp_ne_zero _)

variable [Nonempty ι]

theorem ratio (n : ι) :
    Ideal.div (Ideal.exp ((s n : EReal) - (M : EReal))) (∑ i, Ideal.exp ((s i : EReal) - (M : EReal))) = (soft s n : EReal) := by
  rw [sum_exp, exp_sub, div_real (sum_pos s M).ne', soft_shift]

theorem log_two_ne : Real.log 2 ≠ 0 := (Real.log_pos (by norm_num)).ne'

/-- The weight from the row's sum saved as a logarithm in base two. -/
theorem weight (n : ι) :
    Ideal.exp2 (((s n / Real.log 2 : ℝ) : EReal)
      - Ideal.div ((M : EReal) + Ideal.log (∑ i, Ideal.exp ((s i : EReal) - (M : EReal)))) ((Real.log 2 : ℝ) : EReal)) = (soft s n : EReal) := by
  rw [sum_exp, Ideal.log_coe, if_neg (not_le.mpr (sum_pos s M)), ← EReal.coe_add, div_real log_two_ne, ← EReal.coe_sub, Ideal.exp2_coe]
  congr 1
  rw [← soft_shift s M]
  show (2 : ℝ) ^ (_ : ℝ) = _
  rw [Real.rpow_def_of_pos (by norm_num), ← sub_div, mul_div_cancel₀ _ log_two_ne, ← sub_sub, Real.exp_sub, Real.exp_log (sum_pos s M)]

/-- The gradient through `e / Σ e`, with `e` and its sum's inverse square kept from the forward pass. -/
theorem slope (n : ι) :
    (Ideal.div (D n : EReal) (∑ i, Ideal.exp ((s i : EReal) - (M : EReal)))
      + -(∑ i, (D i : EReal) * Ideal.div 1 ((∑ i, Ideal.exp ((s i : EReal) - (M : EReal))) * (∑ i, Ideal.exp ((s i : EReal) - (M : EReal))))
          * Ideal.exp ((s i : EReal) - (M : EReal))))
      * Ideal.exp ((s n : EReal) - (M : EReal)) = (back s D n : EReal) := by
  have hz := (sum_pos s M).ne'
  have e1 : ∀ i, (D i : EReal) * Ideal.div 1 ((∑ i, Ideal.exp ((s i : EReal) - (M : EReal))) * (∑ i, Ideal.exp ((s i : EReal) - (M : EReal))))
          * Ideal.exp ((s i : EReal) - (M : EReal))
      = ((D i * (1 / ((∑ i, Real.exp (s i - M)) * ∑ i, Real.exp (s i - M))) * Real.exp (s i - M) : ℝ) : EReal) := fun i => by
    rw [sum_exp, exp_sub, ← EReal.coe_mul, ← EReal.coe_one, div_real (mul_ne_zero hz hz), ← EReal.coe_mul, ← EReal.coe_mul]
  simp only [e1]
  rw [← coe_sum, sum_exp, exp_sub, div_real hz, ← EReal.coe_neg, ← EReal.coe_add, ← EReal.coe_mul]
  congr 1
  unfold back
  simp only [← soft_shift s M]
  have e2 : ∑ i, Real.exp (s i - M) / (∑ i, Real.exp (s i - M)) * D i
      = (∑ i, D i * (1 / ((∑ i, Real.exp (s i - M)) * ∑ i, Real.exp (s i - M))) * Real.exp (s i - M)) * ∑ i, Real.exp (s i - M) := by
    rw [Finset.sum_mul]
    refine Finset.sum_congr rfl fun i _ => ?_
    field_simp
  rw [e2]
  field_simp
  ring

end Cert.Softmax

end
-- ==== Proof.Spec.lean ====
/- Grouped-query attention over 4352 rows, 256 of context and 4096 of latents, and the gradients of its queries, keys and
   values, on real numbers: context rows see the context's keys, latent rows see all. -/
module

public import proofs.«01_k».proof.Proof.Softmax

@[expose] public section

noncomputable section

open Idealize.ShloMosaic Cert.Softmax

namespace Cert.Spec

/-- The query's column: key head `h`, query head `g` of its three, coordinate `d`. -/
def qc (h : Fin 4) (g : Fin 3) (d : Fin 128) : Fin 1536 := ⟨384 * h.val + (128 * g.val + d.val), by omega⟩
/-- The key's column. -/
def kc (h : Fin 4) (d : Fin 128) : Fin 512 := ⟨128 * h.val + d.val, by omega⟩
/-- The column of the output's gradient, an array wider than the heads. -/
def oc (h : Fin 4) (g : Fin 3) (d : Fin 128) : Fin 2048 := ⟨384 * h.val + (128 * g.val + d.val), by omega⟩
/-- A row of the context. -/
def ctx (r : Fin 256) : Fin 4352 := Fin.castLE (by decide) r
/-- A row of the latents. -/
def lat (r : Fin 4096) : Fin 4352 := ⟨256 + r.val, by omega⟩

/-- The scale of the scores, the single-precision number nearest to one over the root of 128. -/
def scale : ℝ := 11863283 * (2 : ℝ) ^ (-27 : Int)

theorem scale_ne : scale ≠ 0 := by unfold scale; positivity

theorem scale_bits : Ideal.ofBits .f32 0x3DB504F3#32 = (scale : EReal) := by
  show Ideal.ieee 8 23 0x3DB504F3#32 = _
  unfold Ideal.ieee scale
  simp

theorem two_bits : Ideal.ofBits .f32 0x40000000#32 = ((2 : ℝ) : EReal) := by
  show Ideal.ieee 8 23 0x40000000#32 = _
  unfold Ideal.ieee
  simp
  rw [← EReal.coe_mul]
  norm_num

theorem bottom_bits : Ideal.ofBits .f32 0xFF800000#32 = ⊥ := by
  show Ideal.ieee 8 23 0xFF800000#32 = _
  unfold Ideal.ieee
  simp

variable (q : Fin 4352 → Fin 1536 → ℝ) (k v : Fin 4352 → Fin 512 → ℝ) (δ : Fin 4352 → Fin 2048 → ℝ)

/-- The score of row `R` with key `n`. -/
def score (h : Fin 4) (g : Fin 3) (R n : Fin 4352) : ℝ := (∑ d, k n (kc h d) * q R (qc h g d)) * scale
/-- The gradient of the weight of key `n` in row `R`. -/
def pull (h : Fin 4) (g : Fin 3) (R n : Fin 4352) : ℝ := ∑ d, δ R (oc h g d) * v n (kc h d)

def weightC (h : Fin 4) (g : Fin 3) (R n : Fin 256) : ℝ := soft (fun i => score q k h g (ctx R) (ctx i)) n
def weightL (h : Fin 4) (g : Fin 3) (R : Fin 4096) (n : Fin 4352) : ℝ := soft (fun i => score q k h g (lat R) i) n
def slopeC (h : Fin 4) (g : Fin 3) (R n : Fin 256) : ℝ :=
  back (fun i => score q k h g (ctx R) (ctx i)) (fun i => pull v δ h g (ctx R) (ctx i)) n
def slopeL (h : Fin 4) (g : Fin 3) (R : Fin 4096) (n : Fin 4352) : ℝ :=
  back (fun i => score q k h g (lat R) i) (fun i => pull v δ h g (lat R) i) n

/-- The queries' gradient, before the factor `scale`. -/
def queryC (h : Fin 4) (g : Fin 3) (R : Fin 256) (d : Fin 128) : ℝ := ∑ n, slopeC q k v δ h g R n * k (ctx n) (kc h d)
def queryL (h : Fin 4) (g : Fin 3) (R : Fin 4096) (d : Fin 128) : ℝ := ∑ n, slopeL q k v δ h g R n * k n (kc h d)
/-- The keys' gradient over `log 2`: the rows and their three query heads, added up. -/
def keyOf (h : Fin 4) (n : Fin 4352) (d : Fin 128) : ℝ :=
  ((if hn : n.val < 256 then ∑ r, ∑ g, slopeC q k v δ h g r ⟨n.val, hn⟩ * q (ctx r) (qc h g d) else 0)
    + ∑ r, ∑ g, slopeL q k v δ h g r n * q (lat r) (qc h g d)) * scale / Real.log 2
/-- The values' gradient. -/
def valueOf (h : Fin 4) (n : Fin 4352) (d : Fin 128) : ℝ :=
  (if hn : n.val < 256 then ∑ r, ∑ g, weightC q k h g r ⟨n.val, hn⟩ * δ (ctx r) (oc h g d) else 0)
    + ∑ r, ∑ g, weightL q k h g r n * δ (lat r) (oc h g d)

end Cert.Spec

end
-- ==== Proof.Finite.lean ====
/- The precondition, element by element: every element of the four arguments is a real number. -/
module

public import proofs.«01_k».proof.Defs
public import proofs.«01_k».proof.Proof.Spec
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite.Real

open Cert.Pre_finite

theorem facts : Facts where
  bcast_S_S4352x1536 := by decide
  reducesTo_S4352x1536_S_d0_1 := by decide
  h_S_ := by decide
  bcast_S_S4352x512 := by decide
  reducesTo_S4352x512_S_d0_1 := by decide
  bcast_S_S4352x2048 := by decide
  reducesTo_S4352x2048_S_d0_1 := by decide

theorem top_bits : Ideal.ofBits .f32 0x7F800000#32 = ⊤ := by
  show Ideal.ieee 8 23 0x7F800000#32 = _
  unfold Ideal.ieee
  simp

theorem real_of_abs (x : EReal) (h : max x (-x) < ⊤) : ∃ r : ℝ, x = (r : EReal) := by
  induction x using EReal.rec with
  | bot => simp at h
  | top => simp at h
  | coe r => exact ⟨r, rfl⟩

theorem below {S : Shape} (X : FVec Ideal S .f32) (hb : S_.BroadcastsInDim S (![] : Fin 0 → Fin S.rank)) (i : S.Idx)
    (h : cmpf .olt (Host.absf X) (broadcastInDim S ![] hb (constant (F := Ideal) S_ .f32 0x7F800000#32)) i = 1#1) : ∃ r : ℝ, X i = (r : EReal) := by
  have e : (cmpf .olt (Host.absf X) (broadcastInDim S ![] hb (constant (F := Ideal) S_ .f32 0x7F800000#32)) i : BitVec 1)
      = BitVec.ofBool (decide (max (X i) (-(X i)) < Ideal.ofBits .f32 0x7F800000#32)) := rfl
  rw [e, top_bits] at h
  refine real_of_abs _ ?_
  by_contra hn
  rw [decide_eq_false hn] at h
  exact absurd h (by decide)

variable [Facts]

theorem and_one (a b : BitVec 1) (h : IntOp.andi a b = 1#1) : a = 1#1 ∧ b = 1#1 := by
  revert a b; decide

theorem reals (x0 : FVec Ideal S4352x1536 .f32) (x1 x2 : FVec Ideal S4352x512 .f32) (x3 : FVec Ideal S4352x2048 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ ∀ i, ∃ r : ℝ, x3 i = (r : EReal) := by
  have h0 := congrFun h ix0
  dsimp only [fn, fn_part1] at h0
  obtain ⟨h0, e3⟩ := and_one _ _ h0
  obtain ⟨h0, e2⟩ := and_one _ _ h0
  obtain ⟨e0, e1⟩ := and_one _ _ h0
  exact ⟨fun i => below x0 _ i (Host.reduce_andi_all _ _ _ _ _ e0 i), fun i => below x1 _ i (Host.reduce_andi_all _ _ _ _ _ e1 i),
    fun i => below x2 _ i (Host.reduce_andi_all _ _ _ _ _ e2 i), fun i => below x3 _ i (Host.reduce_andi_all _ _ _ _ _ e3 i)⟩

end Cert.Pre_finite.Real

end
-- ==== Proof.Body.lean ====
/- What one grid point of the attention's backward kernel leaves in its three output blocks, element by element: sums
   over the rows of the block (gradients of keys and values) or over the keys (gradient of the queries). -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

section Terms

variable (Q : FVec Ideal S256x384 .bf16) (K V : FVec Ideal S4352x128 .bf16) (O L D : FVec Ideal S256x384 .f32)

/-- The softmax weight of key `n` in row `r`, recomputed in base 2 from the saved log-sum, for the head whose columns
    begin at `o`. -/
def weight (o : ℕ) (ho : o + 128 ≤ 384) (r : Fin 256) (n : Fin 4352) : EReal :=
  Ideal.exp2 ((∑ d : Fin 128, Q (ix2 r ⟨o + d.val, by omega⟩) * K (ix2 n d)) - L (ix2 r ⟨o, by omega⟩))

/-- The gradient of the score of key `n` in row `r`: the weight times (its own gradient minus the row's mean of it). -/
def slope (o : ℕ) (ho : o + 128 ≤ 384) (r : Fin 256) (n : Fin 4352) : EReal :=
  weight Q K L o ho r n * ((∑ d : Fin 128, D (ix2 r ⟨o + d.val, by omega⟩) * V (ix2 n d))
    - ∑ d : Fin 128, D (ix2 r ⟨o + d.val, by omega⟩) * O (ix2 r ⟨o + d.val, by omega⟩))

end Terms

/-- Off the last store's rectangle the buffer holds what the earlier stores left. -/
theorem canon_skip (r : Rect S4352x128) (w : r.shape.Idx → Elt Ideal .f32) (W : List (View.Piece (Elt Ideal) S4352x128 .f32)) {y : S4352x128.Idx}
    (h : y ∉ r.set) : View.canon (⟨r, w⟩ :: W) y = View.canon W y :=
  View.canon_cons_of_not_mem ⟨r, w⟩ W h

variable (m : (ℓ : Loc nD τ sig) → Buf (Elt Ideal) ℓ)

/-- A row tile of the latent adds its three heads' parts to the gradient of the keys. -/
theorem step7 (c : Dev nD) (t : Fin cfg0.N) (h0 : ¬ t.val % 17 = 0) (h2 : 1 ≤ t.val % 17) (n : Fin 4352) (d : Fin 128) :
    (outsAt0 m c t.val t.isLt).2.1 (ix2 n d) = (((show EReal from (outsAt0 m c (t.val - 1) (Nat.lt_of_le_of_lt (Nat.sub_le _ _) t.isLt)).2.1 (ix2 n d))
      + ∑ r : Fin 256, slope (iblk m c 0 t) (iblk m c 1 t) (iblk m c 2 t) (iblk m c 3 t) (iblk m c 4 t) (X0_5 m c t) 0 (by decide) r n * (show FVec Ideal S256x384 .bf16 from iblk m c 0 t) (ix2 r ⟨0 + d.val, by omega⟩))
      + ∑ r : Fin 256, slope (iblk m c 0 t) (iblk m c 1 t) (iblk m c 2 t) (iblk m c 3 t) (iblk m c 4 t) (X0_5 m c t) 128 (by decide) r n * (show FVec Ideal S256x384 .bf16 from iblk m c 0 t) (ix2 r ⟨128 + d.val, by omega⟩))
      + ∑ r : Fin 256, slope (iblk m c 0 t) (iblk m c 1 t) (iblk m c 2 t) (iblk m c 3 t) (iblk m c 4 t) (X0_5 m c t) 256 (by decide) r n * (show FVec Ideal S256x384 .bf16 from iblk m c 0 t) (ix2 r ⟨256 + d.val, by omega⟩) := by
  rw [outsAt0_B m c t h0 h0 h2]
  frame_out
  generalize (outsAt0 m c (t.val - 1) _).2.1 = acc
  pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay4, slope, weight]
  rfl

/-- The context's row tile starts the gradient of the keys: three heads' parts at the context's own keys, zero
    elsewhere. -/
theorem start7 (c : Dev nD) (t : Fin cfg0.N) (h0 : t.val % 17 = 0) (h2 : ¬ 1 ≤ t.val % 17) (n : Fin 4352) (d : Fin 128) :
    (outsAt0 m c t.val t.isLt).2.1 (ix2 n d) = if n.val < 256 then
      (((0 : EReal)
      + ∑ r : Fin 256, slope (iblk m c 0 t) (iblk m c 1 t) (iblk m c 2 t) (iblk m c 3 t) (iblk m c 4 t) (X0_5 m c t) 0 (by decide) r n * (show FVec Ideal S256x384 .bf16 from iblk m c 0 t) (ix2 r ⟨0 + d.val, by omega⟩))
      + ∑ r : Fin 256, slope (iblk m c 0 t) (iblk m c 1 t) (iblk m c 2 t) (iblk m c 3 t) (iblk m c 4 t) (X0_5 m c t) 128 (by decide) r n * (show FVec Ideal S256x384 .bf16 from iblk m c 0 t) (ix2 r ⟨128 + d.val, by omega⟩))
      + ∑ r : Fin 256, slope (iblk m c 0 t) (iblk m c 1 t) (iblk m c 2 t) (iblk m c 3 t) (iblk m c 4 t) (X0_5 m c t) 256 (by decide) r n * (show FVec Ideal S256x384 .bf16 from iblk m c 0 t) (ix2 r ⟨256 + d.val, by omega⟩) else 0 := by
  rw [outsAt0_A m c t h0 h0 h2]
  frame_out
  by_cases hn : n.val < 256
  · rw [if_pos hn]
    have e : (ix2 n d : S4352x128.Idx) = (Rect.unit (s := S4352x128) ![0, 0] ![256, 128] inb_S4352x128_S256x128_0_0).emb (ix2 (⟨n.val, hn⟩ : Fin 256) d : S256x128.Idx) := by
      blk_ext
    rw [e, View.canon_cons_emb]
    simp only [View.readCov_cons_toLoadRect]
    rw [View.readCov_fill]
    rotate_left
    · intro a; fin_cases a <;> rfl
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, slope, weight]
    rfl
  · rw [if_neg hn]
    have e : (ix2 n d : S4352x128.Idx) ∉ (Rect.unit (s := S4352x128) ![0, 0] ![256, 128] inb_S4352x128_S256x128_0_0).set := by
      rw [Rect.mem_set_unit]
      intro h
      exact hn (by simpa using (h 0).2)
    rw [canon_skip _ _ _ e, canon_skip _ _ _ e, canon_skip _ _ _ e, View.canon_cons_unit_lit]
    rotate_left
    · intro a; fin_cases a <;> rfl
    pointwise [k0_pay1, k0_pay2]

/-- A row tile of the latent adds its three heads' parts to the gradient of the values. -/
theorem step8 (c : Dev nD) (t : Fin cfg0.N) (h0 : ¬ t.val % 17 = 0) (h2 : 1 ≤ t.val % 17) (n : Fin 4352) (d : Fin 128) :
    (outsAt0 m c t.val t.isLt).2.2 (ix2 n d) = (((show EReal from (outsAt0 m c (t.val - 1) (Nat.lt_of_le_of_lt (Nat.sub_le _ _) t.isLt)).2.2 (ix2 n d))
      + ∑ r : Fin 256, weight (iblk m c 0 t) (iblk m c 1 t) (iblk m c 4 t) 0 (by decide) r n * (show FVec Ideal S256x384 .f32 from X0_5 m c t) (ix2 r ⟨0 + d.val, by omega⟩))
      + ∑ r : Fin 256, weight (iblk m c 0 t) (iblk m c 1 t) (iblk m c 4 t) 128 (by decide) r n * (show FVec Ideal S256x384 .f32 from X0_5 m c t) (ix2 r ⟨128 + d.val, by omega⟩))
      + ∑ r : Fin 256, weight (iblk m c 0 t) (iblk m c 1 t) (iblk m c 4 t) 256 (by decide) r n * (show FVec Ideal S256x384 .f32 from X0_5 m c t) (ix2 r ⟨256 + d.val, by omega⟩) := by
  rw [outsAt0_B m c t h0 h0 h2]
  frame_out
  generalize (outsAt0 m c (t.val - 1) _).2.2 = acc
  pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay4, slope, weight]
  rfl

/-- The context's row tile starts the gradient of the values: three heads' parts at the context's own values, zero
    elsewhere. -/
theorem start8 (c : Dev nD) (t : Fin cfg0.N) (h0 : t.val % 17 = 0) (h2 : ¬ 1 ≤ t.val % 17) (n : Fin 4352) (d : Fin 128) :
    (outsAt0 m c t.val t.isLt).2.2 (ix2 n d) = if n.val < 256 then
      (((0 : EReal)
      + ∑ r : Fin 256, weight (iblk m c 0 t) (iblk m c 1 t) (iblk m c 4 t) 0 (by decide) r n * (show FVec Ideal S256x384 .f32 from X0_5 m c t) (ix2 r ⟨0 + d.val, by omega⟩))
      + ∑ r : Fin 256, weight (iblk m c 0 t) (iblk m c 1 t) (iblk m c 4 t) 128 (by decide) r n * (show FVec Ideal S256x384 .f32 from X0_5 m c t) (ix2 r ⟨128 + d.val, by omega⟩))
      + ∑ r : Fin 256, weight (iblk m c 0 t) (iblk m c 1 t) (iblk m c 4 t) 256 (by decide) r n * (show FVec Ideal S256x384 .f32 from X0_5 m c t) (ix2 r ⟨256 + d.val, by omega⟩) else 0 := by
  rw [outsAt0_A m c t h0 h0 h2]
  frame_out
  by_cases hn : n.val < 256
  · rw [if_pos hn]
    have e : (ix2 n d : S4352x128.Idx) = (Rect.unit (s := S4352x128) ![0, 0] ![256, 128] inb_S4352x128_S256x128_0_0).emb (ix2 (⟨n.val, hn⟩ : Fin 256) d : S256x128.Idx) := by
      blk_ext
    rw [e, View.canon_cons_emb]
    simp only [View.readCov_cons_toLoadRect]
    rw [View.readCov_fill]
    rotate_left
    · intro a; fin_cases a <;> rfl
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, slope, weight]
    rfl
  · rw [if_neg hn]
    have e : (ix2 n d : S4352x128.Idx) ∉ (Rect.unit (s := S4352x128) ![0, 0] ![256, 128] inb_S4352x128_S256x128_0_0).set := by
      rw [Rect.mem_set_unit]
      intro h
      exact hn (by simpa using (h 0).2)
    rw [canon_skip _ _ _ e, canon_skip _ _ _ e, canon_skip _ _ _ e, View.canon_cons_unit_lit]
    rotate_left
    · intro a; fin_cases a <;> rfl
    pointwise [k0_pay1, k0_pay2]

/-- The gradient of the queries in a row tile that attends to the context's keys. -/
theorem queryA (c : Dev nD) (t : Fin cfg0.N) (h0 : t.val % 17 = 0) (h2 : ¬ 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).1 (ix2 r l) = ∑ n : Fin 256, slope (iblk m c 0 t) (iblk m c 1 t) (iblk m c 2 t) (iblk m c 3 t) (iblk m c 4 t) (X0_5 m c t) o ho r (Fin.castLE (by decide) n)
      * (show FVec Ideal S4352x128 .bf16 from iblk m c 1 t) (ix2 (Fin.castLE (by decide) n) d) := by
  rw [outsAt0_A m c t h0 h0 h2]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, slope, weight]
    rfl
  · idx_vars x
    have h1' : l.val = 128 + x1.val := (by simpa using h1)
    obtain rfl : o = 128 := by omega
    obtain rfl : r = x0 := Fin.ext h0
    obtain rfl : d = x1 := Fin.ext (by omega)
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, slope, weight]
    rfl
  · idx_vars x
    have h1' : l.val = 0 + x1.val := (by simpa using h1)
    obtain rfl : o = 0 := by omega
    obtain rfl : r = x0 := Fin.ext h0
    obtain rfl : d = x1 := Fin.ext (by omega)
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, slope, weight]
    rfl

/-- The gradient of the queries in a row tile that attends to all keys. -/
theorem queryB (c : Dev nD) (t : Fin cfg0.N) (h0 : ¬ t.val % 17 = 0) (h2 : 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).1 (ix2 r l) = ∑ n : Fin 4352, slope (iblk m c 0 t) (iblk m c 1 t) (iblk m c 2 t) (iblk m c 3 t) (iblk m c 4 t) (X0_5 m c t) o ho r n
      * (show FVec Ideal S4352x128 .bf16 from iblk m c 1 t) (ix2 n d) := by
  rw [outsAt0_B m c t h0 h0 h2]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay4, slope, weight]
    rfl
  · idx_vars x
    have h1' : l.val = 128 + x1.val := (by simpa using h1)
    obtain rfl : o = 128 := by omega
    obtain rfl : r = x0 := Fin.ext h0
    obtain rfl : d = x1 := Fin.ext (by omega)
    pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay4, slope, weight]
    rfl
  · idx_vars x
    have h1' : l.val = 0 + x1.val := (by simpa using h1)
    obtain rfl : o = 0 := by omega
    obtain rfl : r = x0 := Fin.ext h0
    obtain rfl : d = x1 := Fin.ext (by omega)
    pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay4, slope, weight]
    rfl

end Cert.KernelIdeal.Body

end
-- ==== Proof.Arrays.lean ====
/- The kernel's three result arrays in terms of the arrays its grid reads: the queries' gradient block by block, the keys'
   and values' as one sum over the rows. -/
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Body

section Terms

variable (Q : FVec Ideal S4352x1536 .bf16) (K V : FVec Ideal S4352x512 .bf16) (O L : FVec Ideal S4352x1536 .f32) (D : FVec Ideal S4352x2048 .f32)

/-- The softmax weight of key `n` in row `R`, for query head `g` of key head `h`. -/
def weightAt (h : Fin 4) (g : Fin 3) (R n : Fin 4352) : EReal :=
  Ideal.exp2 ((∑ d : Fin 128, Q (ix2 R ⟨384 * h.val + (128 * g.val + d.val), by omega⟩) * K (ix2 n ⟨128 * h.val + d.val, by omega⟩))
    - L (ix2 R ⟨384 * h.val + 128 * g.val, by omega⟩))

/-- The gradient of that key's score. -/
def slopeAt (h : Fin 4) (g : Fin 3) (R n : Fin 4352) : EReal :=
  weightAt Q K L h g R n
    * ((∑ d : Fin 128, D (ix2 R ⟨384 * h.val + (128 * g.val + d.val), by omega⟩) * V (ix2 n ⟨128 * h.val + d.val, by omega⟩))
      - ∑ d : Fin 128, D (ix2 R ⟨384 * h.val + (128 * g.val + d.val), by omega⟩) * O (ix2 R ⟨384 * h.val + (128 * g.val + d.val), by omega⟩))

/-- Row `R`'s part in the gradient of key `n`, coordinate `d`: its three query heads. -/
def keyPart (h : Fin 4) (n : Fin 4352) (d : Fin 128) (R : Fin 4352) : EReal :=
  ∑ g : Fin 3, slopeAt Q K V O L D h g R n * Q (ix2 R ⟨384 * h.val + (128 * g.val + d.val), by omega⟩)

/-- Row `R`'s part in the gradient of value `n`. -/
def valuePart (h : Fin 4) (n : Fin 4352) (d : Fin 128) (R : Fin 4352) : EReal :=
  ∑ g : Fin 3, weightAt Q K L h g R n * D (ix2 R ⟨384 * h.val + (128 * g.val + d.val), by omega⟩)

end Terms

/-- Rows gathered for key `n`: the context's rows see the context's keys only, the latent's rows see all. -/
def gather (P : Fin 4352 → EReal) (n : Fin 4352) : EReal :=
  (if n.val < 256 then ∑ r : Fin 256, P (Fin.castLE (by decide) r) else 0) + ∑ r : Fin 4096, P ⟨256 + r.val, by omega⟩

/-- The row tiles of one key head, added up. -/
theorem gather_eq (P : Fin 4352 → EReal) (n : Fin 4352) (F : Fin 17 → EReal)
    (h0 : F 0 = if n.val < 256 then ∑ r : Fin 256, P (Fin.castLE (by decide) r) else 0)
    (hs : ∀ s : Fin 16, F s.succ = ∑ r : Fin 256, P ⟨256 * (s.val + 1) + r.val, by omega⟩) :
    ∑ s, F s = gather P n := by
  rw [Fin.sum_univ_succ, h0]
  unfold gather
  congr 1
  rw [Finset.sum_congr rfl fun s _ => hs s]
  refine Fin.sum_mul_add_congr (S := 16) (n := 256) (f := fun l : Fin 4096 => P ⟨256 + l.val, by omega⟩) (fun s k hl => ?_)
  exact congrArg P (Fin.ext (by show 256 * (s.val + 1) + k.val = 256 + (s.val * 256 + k.val); omega))

variable (m : (ℓ : Loc nD τ sig) → Buf (Elt Ideal) ℓ)

theorem idx : ∀ t : Fin cfg0.N, win0_0.index t = ![t.val % 17, t.val / 17] ∧ win0_1.index t = ![0, t.val / 17] ∧ win0_2.index t = ![0, t.val / 17]
    ∧ win0_3.index t = ![t.val % 17, t.val / 17] ∧ win0_4.index t = ![t.val % 17, t.val / 17] ∧ win0_5.index t = ![t.val % 17, t.val / 17]
    ∧ win0_6.index t = ![t.val % 17, t.val / 17] ∧ win0_7.index t = ![0, t.val / 17] ∧ win0_8.index t = ![0, t.val / 17] :=
  (by decide +kernel : ∀ t : Fin grid0.N, _)

theorem read0 (c : Dev nD) (t : Fin cfg0.N) (r : Fin 256) (l : Fin 384) (R : Fin 4352) (C : Fin 1536) (hR : R.val = t.val % 17 * 256 + r.val) (hC : C.val = t.val / 17 * 384 + l.val) :
    (show FVec Ideal S256x384 .bf16 from iblk m c 0 t) (ix2 r l) = (show FVec Ideal S4352x1536 .bf16 from V m c main_v60) (ix2 R C) := by
  blk_ext [iblk, idx t]

theorem read3 (c : Dev nD) (t : Fin cfg0.N) (r : Fin 256) (l : Fin 384) (R : Fin 4352) (C : Fin 1536) (hR : R.val = t.val % 17 * 256 + r.val) (hC : C.val = t.val / 17 * 384 + l.val) :
    (show FVec Ideal S256x384 .f32 from iblk m c 3 t) (ix2 r l) = (show FVec Ideal S4352x1536 .f32 from V m c main_v52) (ix2 R C) := by
  blk_ext [iblk, idx t]

theorem read4 (c : Dev nD) (t : Fin cfg0.N) (r : Fin 256) (l : Fin 384) (R : Fin 4352) (C : Fin 1536) (hR : R.val = t.val % 17 * 256 + r.val) (hC : C.val = t.val / 17 * 384 + l.val) :
    (show FVec Ideal S256x384 .f32 from iblk m c 4 t) (ix2 r l) = (show FVec Ideal S4352x1536 .f32 from V m c main_v54) (ix2 R C) := by
  blk_ext [iblk, idx t]

theorem read1 (c : Dev nD) (t : Fin cfg0.N) (r : Fin 4352) (l : Fin 128) (C : Fin 512) (hC : C.val = t.val / 17 * 128 + l.val) :
    (show FVec Ideal S4352x128 .bf16 from iblk m c 1 t) (ix2 r l) = (show FVec Ideal S4352x512 .bf16 from V m c main_v61) (ix2 r C) := by
  blk_ext [iblk, idx t]

theorem read2 (c : Dev nD) (t : Fin cfg0.N) (r : Fin 4352) (l : Fin 128) (C : Fin 512) (hC : C.val = t.val / 17 * 128 + l.val) :
    (show FVec Ideal S4352x128 .bf16 from iblk m c 2 t) (ix2 r l) = (show FVec Ideal S4352x512 .bf16 from V m c main_v62) (ix2 r C) := by
  blk_ext [iblk, idx t]

theorem read5 (c : Dev nD) (t : Fin cfg0.N) (r : Fin 256) (l : Fin 384) (R : Fin 4352) (C : Fin 2048) (hR : R.val = t.val % 17 * 256 + r.val) (hC : C.val = t.val / 17 * 384 + l.val) :
    (show FVec Ideal S256x384 .f32 from X0_5 m c t) (ix2 r l) = (show FVec Ideal S4352x2048 .f32 from V m c main_arg3) (ix2 R C) := by
  show (X0_5 m c t : _) _ = _
  unfold X0_5 Pipeline.Window.fill
  rw [dif_pos (moved0_5 t _)]
  blk_ext [iblk, idx t]

section Tiles

variable (c : Dev nD) (t : Fin cfg0.N) (h : Fin 4) (g : Fin 3) (o : ℕ) (ho : o + 128 ≤ 384) (r : Fin 256) (R : Fin 4352) (n : Fin 4352)

/-- A block's weights are the array's. -/
theorem weight_eq (hh : h.val = t.val / 17) (hg : o = 128 * g.val) (hR : R.val = t.val % 17 * 256 + r.val) :
    weight (iblk m c 0 t) (iblk m c 1 t) (iblk m c 4 t) o ho r n = weightAt (V m c main_v60) (V m c main_v61) (V m c main_v54) h g R n := by
  unfold weight weightAt
  refine congrArg Ideal.exp2 (congrArg₂ (· - ·) (Finset.sum_congr rfl fun d _ => congrArg₂ (· * ·) ?_ ?_) ?_)
  · exact read0 m c t r _ R _ hR (by show 384 * h.val + (128 * g.val + d.val) = t.val / 17 * 384 + (o + d.val); omega)
  · exact read1 m c t n d _ (by show 128 * h.val + d.val = t.val / 17 * 128 + d.val; omega)
  · exact read4 m c t r _ R _ hR (by show 384 * h.val + 128 * g.val = t.val / 17 * 384 + o; omega)

/-- A block's score gradients are the array's. -/
theorem slope_eq (hh : h.val = t.val / 17) (hg : o = 128 * g.val) (hR : R.val = t.val % 17 * 256 + r.val) :
    slope (iblk m c 0 t) (iblk m c 1 t) (iblk m c 2 t) (iblk m c 3 t) (iblk m c 4 t) (X0_5 m c t) o ho r n
      = slopeAt (V m c main_v60) (V m c main_v61) (V m c main_v62) (V m c main_v52) (V m c main_v54) (V m c main_arg3) h g R n := by
  unfold Body.slope slopeAt
  have e5 (d : Fin 128) : (show FVec Ideal S256x384 .f32 from X0_5 m c t) (ix2 r ⟨o + d.val, by omega⟩)
      = (show FVec Ideal S4352x2048 .f32 from V m c main_arg3) (ix2 R ⟨384 * h.val + (128 * g.val + d.val), by omega⟩) :=
    read5 m c t r _ R _ hR (by show 384 * h.val + (128 * g.val + d.val) = t.val / 17 * 384 + (o + d.val); omega)
  refine congrArg₂ (· * ·) (weight_eq m c t h g o ho r R n hh hg hR)
    (congrArg₂ (· - ·) (Finset.sum_congr rfl fun d _ => congrArg₂ (· * ·) (e5 d) ?_) (Finset.sum_congr rfl fun d _ => congrArg₂ (· * ·) (e5 d) ?_))
  · exact read2 m c t n d _ (by show 128 * h.val + d.val = t.val / 17 * 128 + d.val; omega)
  · exact read3 m c t r _ R _ hR (by show 384 * h.val + (128 * g.val + d.val) = t.val / 17 * 384 + (o + d.val); omega)

end Tiles

/-- The rows of point `t`'s tile, added up for the keys. -/
def tile7 (c : Dev nD) (t : Fin cfg0.N) (j : S4352x128.Idx) : EReal :=
  have ht : t.val < 68 := lt_of_lt_of_eq t.isLt (show cfg0.N = 68 from N_0)
  ∑ r : Fin 256, keyPart (V m c main_v60) (V m c main_v61) (V m c main_v62) (V m c main_v52) (V m c main_v54) (V m c main_arg3) ⟨t.val / 17, by omega⟩ (j 0) (j 1) ⟨t.val % 17 * 256 + r.val, by omega⟩

/-- What point `t` adds. -/
def term7 (c : Dev nD) (t : Fin cfg0.N) (j : S4352x128.Idx) : EReal :=
  if t.val % 17 = 0 then (if (j 0 : ℕ) < 256 then tile7 m c t j else 0) else tile7 m c t j

theorem three7 (c : Dev nD) (t : Fin cfg0.N) (n : Fin 4352) (d : Fin 128) (a : EReal) :
    ((a + ∑ r : Fin 256, slope (iblk m c 0 t) (iblk m c 1 t) (iblk m c 2 t) (iblk m c 3 t) (iblk m c 4 t) (X0_5 m c t) 0 (by decide) r n * (show FVec Ideal S256x384 .bf16 from iblk m c 0 t) (ix2 r ⟨0 + d.val, by omega⟩))
      + ∑ r : Fin 256, slope (iblk m c 0 t) (iblk m c 1 t) (iblk m c 2 t) (iblk m c 3 t) (iblk m c 4 t) (X0_5 m c t) 128 (by decide) r n * (show FVec Ideal S256x384 .bf16 from iblk m c 0 t) (ix2 r ⟨128 + d.val, by omega⟩))
      + ∑ r : Fin 256, slope (iblk m c 0 t) (iblk m c 1 t) (iblk m c 2 t) (iblk m c 3 t) (iblk m c 4 t) (X0_5 m c t) 256 (by decide) r n * (show FVec Ideal S256x384 .bf16 from iblk m c 0 t) (ix2 r ⟨256 + d.val, by omega⟩)
      = a + tile7 m c t (ix2 n d) := by
  have ht : t.val < 68 := lt_of_lt_of_eq t.isLt (show cfg0.N = 68 from N_0)
  unfold tile7 keyPart
  rw [Finset.sum_comm, Fin.sum_univ_three, add_assoc, add_assoc, add_assoc]
  refine congrArg (a + ·) (congrArg₂ (· + ·) (Finset.sum_congr rfl fun r _ => ?_) (congrArg₂ (· + ·) (Finset.sum_congr rfl fun r _ => ?_) (Finset.sum_congr rfl fun r _ => ?_)))
  · exact congrArg₂ (· * ·) (slope_eq m c t ⟨t.val / 17, by omega⟩ 0 _ _ r _ n rfl rfl rfl)
      (read0 m c t r _ _ _ rfl (by show 384 * (t.val / 17) + (128 * 0 + d.val) = t.val / 17 * 384 + (0 + d.val); omega))
  · exact congrArg₂ (· * ·) (slope_eq m c t ⟨t.val / 17, by omega⟩ 1 _ _ r _ n rfl rfl rfl)
      (read0 m c t r _ _ _ rfl (by show 384 * (t.val / 17) + (128 * 1 + d.val) = t.val / 17 * 384 + (128 + d.val); omega))
  · exact congrArg₂ (· * ·) (slope_eq m c t ⟨t.val / 17, by omega⟩ 2 _ _ r _ n rfl rfl rfl)
      (read0 m c t r _ _ _ rfl (by show 384 * (t.val / 17) + (128 * 2 + d.val) = t.val / 17 * 384 + (256 + d.val); omega))

theorem sum7 (c : Dev nD) (t : Fin cfg0.N) (n : Fin 4352) (d : Fin 128) (h : Fin 4) (hh : h.val = t.val / 17)
    (hs : ∀ s : Fin 17, 17 * (t.val / 17) + s.val < cfg0.N) :
    ∑ s : Fin 17, term7 m c ⟨17 * (t.val / 17) + s.val, hs s⟩ (ix2 n d) = gather (keyPart (V m c main_v60) (V m c main_v61) (V m c main_v62) (V m c main_v52) (V m c main_v54) (V m c main_arg3) h n d) n := by
  have ht : t.val < 68 := lt_of_lt_of_eq t.isLt (show cfg0.N = 68 from N_0)
  have e (s : Fin 17) (r : Fin 256) : keyPart (V m c main_v60) (V m c main_v61) (V m c main_v62) (V m c main_v52) (V m c main_v54) (V m c main_arg3) (⟨(17 * (t.val / 17) + s.val) / 17, by omega⟩ : Fin 4) n d ⟨(17 * (t.val / 17) + s.val) % 17 * 256 + r.val, by omega⟩
      = keyPart (V m c main_v60) (V m c main_v61) (V m c main_v62) (V m c main_v52) (V m c main_v54) (V m c main_arg3) h n d ⟨s.val * 256 + r.val, by omega⟩ := by
    have e1 : (⟨(17 * (t.val / 17) + s.val) / 17, by omega⟩ : Fin 4) = h := Fin.ext (by show _ = h.val; rw [hh]; show (17 * (t.val / 17) + s.val) / 17 = _; omega)
    have e2 : (17 * (t.val / 17) + s.val) % 17 = s.val := by omega
    rw [e1]
    exact congrArg _ (Fin.ext (by show (17 * (t.val / 17) + s.val) % 17 * 256 + r.val = s.val * 256 + r.val; rw [e2]))
  refine gather_eq _ n _ ?_ fun s => ?_
  · unfold term7
    rw [if_pos (by show (17 * (t.val / 17) + 0) % 17 = 0; omega)]
    refine if_congr Iff.rfl (Finset.sum_congr rfl fun r _ => (e 0 r).trans (congrArg _ (Fin.ext ?_))) rfl
    show 0 * 256 + r.val = r.val
    omega
  · unfold term7
    rw [if_neg (by show ¬ (17 * (t.val / 17) + (s.val + 1)) % 17 = 0; omega)]
    refine Finset.sum_congr rfl fun r _ => (e s.succ r).trans (congrArg _ (Fin.ext ?_))
    show (s.val + 1) * 256 + r.val = 256 * (s.val + 1) + r.val
    omega

/-- The gradient of the keys after the run: every row's part, gathered. -/
theorem final7 (c : Dev nD) : (dats m 0 c).arrAt 7 (cfgs 0).N = fun y : S4352x512.Idx =>
    gather (keyPart (V m c main_v60) (V m c main_v61) (V m c main_v62) (V m c main_v52) (V m c main_v54) (V m c main_arg3) ⟨(y 1).val / 128, by have := (y 1).isLt; change (y 1).val < 512 at this; omega⟩ (y 0) ⟨(y 1).val % 128, by omega⟩) (y 0) := by
  refine (dats m 0 c).arrAt_eq_of_covers 7 _ (by decide +kernel) fun t hf y => ?_
  have ht : t.val < 68 := lt_of_lt_of_eq t.isLt (show cfg0.N = 68 from N_0)
  have hr := (flush0_7 t).mp hf
  blk_simp
  rw [after0_7, Pipeline.eq_sum_fin_of_reset_step_apply_of_flush (fun n h => (outsAt0 m c n h).2.1) 17 (fun _ => (0 : EReal)) (term7 m c)
    (fun t h j => by
      idx_vars j
      rw [start7 m c t h (by omega), three7 m c t j0 j1 0]
      unfold term7
      rw [if_pos h]
      show (if j0.val < 256 then _ else _) = (0 : EReal) + (if j0.val < 256 then _ else _)
      split <;> simp)
    (fun t h j => by
      idx_vars j
      rw [step7 m c t h (by omega), three7 m c t j0 j1]
      unfold term7
      rw [if_neg h])
    t hr _, zero_add]
  idx_vars y
  have hx := idx t
  have e0 : (((cfg0.win 7).blk t).view.emb (ix2 y0 y1)) 0 = y0 := Fin.ext (by blk_simp [hx])
  simp only [e0]
  have e1 : (win0_7.index t 1 * 128 + y1.val) = t.val / 17 * 128 + y1.val := by simp [hx]
  exact (sum7 m c t y0 y1 ⟨t.val / 17, by omega⟩ rfl _).trans
    (congrArg₂ (fun h d => gather (keyPart (V m c main_v60) (V m c main_v61) (V m c main_v62) (V m c main_v52) (V m c main_v54) (V m c main_arg3) h y0 d) y0)
      (Fin.ext (by show t.val / 17 = (win0_7.index t 1 * 128 + y1.val) / 128; rw [e1]; omega))
      (Fin.ext (by show y1.val = (win0_7.index t 1 * 128 + y1.val) % 128; rw [e1]; omega)))

/-- The rows of point `t`'s tile, added up for the values. -/
def tile8 (c : Dev nD) (t : Fin cfg0.N) (j : S4352x128.Idx) : EReal :=
  have ht : t.val < 68 := lt_of_lt_of_eq t.isLt (show cfg0.N = 68 from N_0)
  ∑ r : Fin 256, valuePart (V m c main_v60) (V m c main_v61) (V m c main_v54) (V m c main_arg3) ⟨t.val / 17, by omega⟩ (j 0) (j 1) ⟨t.val % 17 * 256 + r.val, by omega⟩

/-- What point `t` adds. -/
def term8 (c : Dev nD) (t : Fin cfg0.N) (j : S4352x128.Idx) : EReal :=
  if t.val % 17 = 0 then (if (j 0 : ℕ) < 256 then tile8 m c t j else 0) else tile8 m c t j

theorem three8 (c : Dev nD) (t : Fin cfg0.N) (n : Fin 4352) (d : Fin 128) (a : EReal) :
    ((a + ∑ r : Fin 256, weight (iblk m c 0 t) (iblk m c 1 t) (iblk m c 4 t) 0 (by decide) r n * (show FVec Ideal S256x384 .f32 from X0_5 m c t) (ix2 r ⟨0 + d.val, by omega⟩))
      + ∑ r : Fin 256, weight (iblk m c 0 t) (iblk m c 1 t) (iblk m c 4 t) 128 (by decide) r n * (show FVec Ideal S256x384 .f32 from X0_5 m c t) (ix2 r ⟨128 + d.val, by omega⟩))
      + ∑ r : Fin 256, weight (iblk m c 0 t) (iblk m c 1 t) (iblk m c 4 t) 256 (by decide) r n * (show FVec Ideal S256x384 .f32 from X0_5 m c t) (ix2 r ⟨256 + d.val, by omega⟩)
      = a + tile8 m c t (ix2 n d) := by
  have ht : t.val < 68 := lt_of_lt_of_eq t.isLt (show cfg0.N = 68 from N_0)
  unfold tile8 valuePart
  rw [Finset.sum_comm, Fin.sum_univ_three, add_assoc, add_assoc, add_assoc]
  refine congrArg (a + ·) (congrArg₂ (· + ·) (Finset.sum_congr rfl fun r _ => ?_) (congrArg₂ (· + ·) (Finset.sum_congr rfl fun r _ => ?_) (Finset.sum_congr rfl fun r _ => ?_)))
  · exact congrArg₂ (· * ·) (weight_eq m c t ⟨t.val / 17, by omega⟩ 0 _ _ r _ n rfl rfl rfl)
      (read5 m c t r _ _ _ rfl (by show 384 * (t.val / 17) + (128 * 0 + d.val) = t.val / 17 * 384 + (0 + d.val); omega))
  · exact congrArg₂ (· * ·) (weight_eq m c t ⟨t.val / 17, by omega⟩ 1 _ _ r _ n rfl rfl rfl)
      (read5 m c t r _ _ _ rfl (by show 384 * (t.val / 17) + (128 * 1 + d.val) = t.val / 17 * 384 + (128 + d.val); omega))
  · exact congrArg₂ (· * ·) (weight_eq m c t ⟨t.val / 17, by omega⟩ 2 _ _ r _ n rfl rfl rfl)
      (read5 m c t r _ _ _ rfl (by show 384 * (t.val / 17) + (128 * 2 + d.val) = t.val / 17 * 384 + (256 + d.val); omega))

theorem sum8 (c : Dev nD) (t : Fin cfg0.N) (n : Fin 4352) (d : Fin 128) (h : Fin 4) (hh : h.val = t.val / 17)
    (hs : ∀ s : Fin 17, 17 * (t.val / 17) + s.val < cfg0.N) :
    ∑ s : Fin 17, term8 m c ⟨17 * (t.val / 17) + s.val, hs s⟩ (ix2 n d) = gather (valuePart (V m c main_v60) (V m c main_v61) (V m c main_v54) (V m c main_arg3) h n d) n := by
  have ht : t.val < 68 := lt_of_lt_of_eq t.isLt (show cfg0.N = 68 from N_0)
  have e (s : Fin 17) (r : Fin 256) : valuePart (V m c main_v60) (V m c main_v61) (V m c main_v54) (V m c main_arg3) (⟨(17 * (t.val / 17) + s.val) / 17, by omega⟩ : Fin 4) n d ⟨(17 * (t.val / 17) + s.val) % 17 * 256 + r.val, by omega⟩
      = valuePart (V m c main_v60) (V m c main_v61) (V m c main_v54) (V m c main_arg3) h n d ⟨s.val * 256 + r.val, by omega⟩ := by
    have e1 : (⟨(17 * (t.val / 17) + s.val) / 17, by omega⟩ : Fin 4) = h := Fin.ext (by show _ = h.val; rw [hh]; show (17 * (t.val / 17) + s.val) / 17 = _; omega)
    have e2 : (17 * (t.val / 17) + s.val) % 17 = s.val := by omega
    rw [e1]
    exact congrArg _ (Fin.ext (by show (17 * (t.val / 17) + s.val) % 17 * 256 + r.val = s.val * 256 + r.val; rw [e2]))
  refine gather_eq _ n _ ?_ fun s => ?_
  · unfold term8
    rw [if_pos (by show (17 * (t.val / 17) + 0) % 17 = 0; omega)]
    refine if_congr Iff.rfl (Finset.sum_congr rfl fun r _ => (e 0 r).trans (congrArg _ (Fin.ext ?_))) rfl
    show 0 * 256 + r.val = r.val
    omega
  · unfold term8
    rw [if_neg (by show ¬ (17 * (t.val / 17) + (s.val + 1)) % 17 = 0; omega)]
    refine Finset.sum_congr rfl fun r _ => (e s.succ r).trans (congrArg _ (Fin.ext ?_))
    show (s.val + 1) * 256 + r.val = 256 * (s.val + 1) + r.val
    omega

/-- The gradient of the values after the run: every row's part, gathered. -/
theorem final8 (c : Dev nD) : (dats m 0 c).arrAt 8 (cfgs 0).N = fun y : S4352x512.Idx =>
    gather (valuePart (V m c main_v60) (V m c main_v61) (V m c main_v54) (V m c main_arg3) ⟨(y 1).val / 128, by have := (y 1).isLt; change (y 1).val < 512 at this; omega⟩ (y 0) ⟨(y 1).val % 128, by omega⟩) (y 0) := by
  refine (dats m 0 c).arrAt_eq_of_covers 8 _ (by decide +kernel) fun t hf y => ?_
  have ht : t.val < 68 := lt_of_lt_of_eq t.isLt (show cfg0.N = 68 from N_0)
  have hr := (flush0_8 t).mp hf
  blk_simp
  rw [after0_8, Pipeline.eq_sum_fin_of_reset_step_apply_of_flush (fun n h => (outsAt0 m c n h).2.2) 17 (fun _ => (0 : EReal)) (term8 m c)
    (fun t h j => by
      idx_vars j
      rw [start8 m c t h (by omega), three8 m c t j0 j1 0]
      unfold term8
      rw [if_pos h]
      show (if j0.val < 256 then _ else _) = (0 : EReal) + (if j0.val < 256 then _ else _)
      split <;> simp)
    (fun t h j => by
      idx_vars j
      rw [step8 m c t h (by omega), three8 m c t j0 j1]
      unfold term8
      rw [if_neg h])
    t hr _, zero_add]
  idx_vars y
  have hx := idx t
  have e0 : (((cfg0.win 8).blk t).view.emb (ix2 y0 y1)) 0 = y0 := Fin.ext (by blk_simp [hx])
  simp only [e0]
  have e1 : (win0_8.index t 1 * 128 + y1.val) = t.val / 17 * 128 + y1.val := by simp [hx]
  exact (sum8 m c t y0 y1 ⟨t.val / 17, by omega⟩ rfl _).trans
    (congrArg₂ (fun h d => gather (valuePart (V m c main_v60) (V m c main_v61) (V m c main_v54) (V m c main_arg3) h y0 d) y0)
      (Fin.ext (by show t.val / 17 = (win0_8.index t 1 * 128 + y1.val) / 128; rw [e1]; omega))
      (Fin.ext (by show y1.val = (win0_8.index t 1 * 128 + y1.val) % 128; rw [e1]; omega)))

/-- The gradient of a query: its row's score gradients over the keys it sees, the context's rows the context's keys only. -/
def queryAt (Q : FVec Ideal S4352x1536 .bf16) (K V : FVec Ideal S4352x512 .bf16) (O L : FVec Ideal S4352x1536 .f32) (D : FVec Ideal S4352x2048 .f32)
    (h : Fin 4) (g : Fin 3) (R : Fin 4352) (d : Fin 128) : EReal :=
  if R.val < 256 then ∑ n : Fin 256, slopeAt Q K V O L D h g R (Fin.castLE (by decide) n) * K (ix2 (Fin.castLE (by decide) n) ⟨128 * h.val + d.val, by omega⟩)
  else ∑ n : Fin 4352, slopeAt Q K V O L D h g R n * K (ix2 n ⟨128 * h.val + d.val, by omega⟩)

/-- The gradient of the queries after the run. -/
theorem final6 (c : Dev nD) : (dats m 0 c).arrAt 6 (cfgs 0).N = fun y : S4352x1536.Idx =>
    queryAt (V m c main_v60) (V m c main_v61) (V m c main_v62) (V m c main_v52) (V m c main_v54) (V m c main_arg3) ⟨(y 1).val / 384, by have := (y 1).isLt; change (y 1).val < 1536 at this; omega⟩
      ⟨(y 1).val % 384 / 128, by omega⟩ (y 0) ⟨(y 1).val % 384 % 128, by omega⟩ := by
  refine (dats m 0 c).arrAt_eq_of_covers 6 _ (by decide +kernel) fun t hf y => ?_
  have ht : t.val < 68 := lt_of_lt_of_eq t.isLt (show cfg0.N = 68 from N_0)
  blk_simp
  rw [after0_6]
  idx_vars y
  have hx := idx t
  have hb : t.val % 17 * 256 + y0.val < 4352 := by omega
  have e0 : @Eq (Fin 4352) ((((cfg0.win 6).blk t).view.emb (ix2 y0 y1)) 0) ⟨t.val % 17 * 256 + y0.val, hb⟩ := Fin.ext (by blk_simp [hx])
  simp only [e0]
  have e1 : (win0_6.index t 1 * 384 + y1.val) = t.val / 17 * 384 + y1.val := by simp [hx]
  refine Eq.trans (b := queryAt (V m c main_v60) (V m c main_v61) (V m c main_v62) (V m c main_v52) (V m c main_v54) (V m c main_arg3) ⟨t.val / 17, by omega⟩ ⟨y1.val / 128, by omega⟩ ⟨t.val % 17 * 256 + y0.val, by omega⟩ ⟨y1.val % 128, by omega⟩) ?_ ?_
  · unfold queryAt
    by_cases h0 : t.val % 17 = 0
    · rw [queryA m c t h0 (by omega) y0 y1 (128 * (y1.val / 128)) (by omega) ⟨y1.val % 128, by omega⟩ (by show y1.val = 128 * (y1.val / 128) + y1.val % 128; omega) (by omega),
        if_pos (by show t.val % 17 * 256 + y0.val < 256; omega)]
      refine Finset.sum_congr rfl fun n _ => congrArg₂ (· * ·) ?_ ?_
      · exact slope_eq m c t ⟨t.val / 17, by omega⟩ ⟨y1.val / 128, by omega⟩ _ _ y0 _ _ rfl rfl rfl
      · exact read1 m c t _ _ _ (by show 128 * (t.val / 17) + y1.val % 128 = t.val / 17 * 128 + y1.val % 128; omega)
    · rw [queryB m c t h0 (by omega) y0 y1 (128 * (y1.val / 128)) (by omega) ⟨y1.val % 128, by omega⟩ (by show y1.val = 128 * (y1.val / 128) + y1.val % 128; omega) (by omega),
        if_neg (by show ¬ t.val % 17 * 256 + y0.val < 256; omega)]
      refine Finset.sum_congr rfl fun n _ => congrArg₂ (· * ·) ?_ ?_
      · exact slope_eq m c t ⟨t.val / 17, by omega⟩ ⟨y1.val / 128, by omega⟩ _ _ y0 _ _ rfl rfl rfl
      · exact read1 m c t _ _ _ (by show 128 * (t.val / 17) + y1.val % 128 = t.val / 17 * 128 + y1.val % 128; omega)
  · have q1 : (⟨t.val / 17, by omega⟩ : Fin 4) = ⟨(win0_6.index t 1 * 384 + y1.val) / 384, by omega⟩ := Fin.ext (by show t.val / 17 = (win0_6.index t 1 * 384 + y1.val) / 384; rw [e1]; omega)
    have q2 : (⟨y1.val / 128, by omega⟩ : Fin 3) = ⟨(win0_6.index t 1 * 384 + y1.val) % 384 / 128, by omega⟩ := Fin.ext (by show y1.val / 128 = (win0_6.index t 1 * 384 + y1.val) % 384 / 128; rw [e1]; omega)
    have q3 : (⟨y1.val % 128, by omega⟩ : Fin 128) = ⟨(win0_6.index t 1 * 384 + y1.val) % 384 % 128, by omega⟩ := Fin.ext (by show y1.val % 128 = (win0_6.index t 1 * 384 + y1.val) % 384 % 128; rw [e1]; omega)
    rw [q1, q2, q3]

end Cert.KernelIdeal.Arrays

end
-- ==== Proof.Element.lean ====
/- The kernel's three results at an element, on arguments that are real numbers. -/
module

public import proofs.«01_k».proof.Proof.Arrays
public import proofs.«01_k».proof.Proof.Spec

@[expose] public section

noncomputable section

open Idealize.ShloMosaic Idealize.ShloMosaic.TcCoe Idealize.SL.Sem
open Cert.Spec Cert.Softmax

namespace Cert.KernelIdeal.Element

open Cert.KernelIdeal Cert.KernelIdeal.Arrays

variable (Q : FVec Ideal S4352x1536 .bf16) (K V : FVec Ideal S4352x512 .bf16) (O L : FVec Ideal S4352x1536 .f32) (D : FVec Ideal S4352x2048 .f32)
variable (q : Fin 4352 → Fin 1536 → ℝ) (k v : Fin 4352 → Fin 512 → ℝ) (δ : Fin 4352 → Fin 2048 → ℝ)

theorem weight_ctx (hQ : ∀ R c, Q (ix2 R c) = ((q R c * scale / Real.log 2 : ℝ) : EReal)) (hK : ∀ R c, K (ix2 R c) = (k R c : EReal))
    (hL : ∀ h g R d, ∃ M : ℝ, L (ix2 (ctx R) (qc h g d))
      = Ideal.div ((M : EReal) + Ideal.log (∑ i : Fin 256, Ideal.exp ((score q k h g (ctx R) (ctx i) : EReal) - (M : EReal)))) ((Real.log 2 : ℝ) : EReal))
    (h : Fin 4) (g : Fin 3) (R : Fin 256) (n : Fin 256) : weightAt Q K L h g (ctx R) (ctx n) = (weightC q k h g R n : EReal) := by
  obtain ⟨M, hM⟩ := hL h g R 0
  have e0 : (⟨384 * h.val + 128 * g.val, by omega⟩ : Fin 1536) = qc h g 0 := Fin.ext (by simp [qc])
  have e1 : (∑ d : Fin 128, Q (ix2 (ctx R) ⟨384 * h.val + (128 * g.val + d.val), by omega⟩) * K (ix2 (ctx n) ⟨128 * h.val + d.val, by omega⟩))
      = ((score q k h g (ctx R) (ctx n) / Real.log 2 : ℝ) : EReal) := by
    simp only [hQ, hK]
    rw [coe_dot, score, Finset.sum_mul, Finset.sum_div]
    refine congrArg _ (Finset.sum_congr rfl fun d _ => ?_)
    show q (ctx R) (qc h g d) * scale / Real.log 2 * k (ctx n) (kc h d) = _
    ring
  unfold weightAt
  rw [e0, hM, e1]
  exact weight (fun i : Fin 256 => score q k h g (ctx R) (ctx i)) M n

theorem slope_ctx (hQ : ∀ R c, Q (ix2 R c) = ((q R c * scale / Real.log 2 : ℝ) : EReal)) (hK : ∀ R c, K (ix2 R c) = (k R c : EReal))
    (hV : ∀ R c, V (ix2 R c) = (v R c : EReal)) (hD : ∀ R c, D (ix2 R c) = (δ R c : EReal))
    (hO : ∀ h g R d, O (ix2 (ctx R) (qc h g d)) = ((∑ n : Fin 256, v (ctx n) (kc h d) * weightC q k h g R n : ℝ) : EReal))
    (hL : ∀ h g R d, ∃ M : ℝ, L (ix2 (ctx R) (qc h g d))
      = Ideal.div ((M : EReal) + Ideal.log (∑ i : Fin 256, Ideal.exp ((score q k h g (ctx R) (ctx i) : EReal) - (M : EReal)))) ((Real.log 2 : ℝ) : EReal))
    (h : Fin 4) (g : Fin 3) (R : Fin 256) (n : Fin 256) : slopeAt Q K V O L D h g (ctx R) (ctx n) = (slopeC q k v δ h g R n : EReal) := by
  have e1 : (∑ d : Fin 128, D (ix2 (ctx R) ⟨384 * h.val + (128 * g.val + d.val), by omega⟩) * V (ix2 (ctx n) ⟨128 * h.val + d.val, by omega⟩))
      = ((pull v δ h g (ctx R) (ctx n) : ℝ) : EReal) := by
    simp only [hD, hV]
    exact coe_dot _ _
  have e2 : (∑ d : Fin 128, D (ix2 (ctx R) ⟨384 * h.val + (128 * g.val + d.val), by omega⟩) * O (ix2 (ctx R) ⟨384 * h.val + (128 * g.val + d.val), by omega⟩))
      = ((∑ i : Fin 256, weightC q k h g R i * pull v δ h g (ctx R) (ctx i) : ℝ) : EReal) := by
    have e3 : ∀ d : Fin 128, O (ix2 (ctx R) ⟨384 * h.val + (128 * g.val + d.val), by omega⟩) = ((∑ n : Fin 256, v (ctx n) (kc h d) * weightC q k h g R n : ℝ) : EReal) :=
      fun d => hO h g R d
    simp only [hD, e3]
    rw [coe_dot]
    refine congrArg _ ?_
    simp only [Finset.mul_sum, pull]
    rw [Finset.sum_comm]
    refine Finset.sum_congr rfl fun i _ => Finset.sum_congr rfl fun d _ => ?_
    show δ (ctx R) (oc h g d) * _ = _
    ring
  unfold slopeAt
  rw [weight_ctx Q K L q k hQ hK hL, e1, e2, ← EReal.coe_sub, ← EReal.coe_mul]
  rfl

theorem weight_lat (hQ : ∀ R c, Q (ix2 R c) = ((q R c * scale / Real.log 2 : ℝ) : EReal)) (hK : ∀ R c, K (ix2 R c) = (k R c : EReal))
    (hL : ∀ h g R d, ∃ M : ℝ, L (ix2 (lat R) (qc h g d))
      = Ideal.div ((M : EReal) + Ideal.log (∑ i : Fin 4352, Ideal.exp ((score q k h g (lat R) i : EReal) - (M : EReal)))) ((Real.log 2 : ℝ) : EReal))
    (h : Fin 4) (g : Fin 3) (R : Fin 4096) (n : Fin 4352) : weightAt Q K L h g (lat R) n = (weightL q k h g R n : EReal) := by
  obtain ⟨M, hM⟩ := hL h g R 0
  have e0 : (⟨384 * h.val + 128 * g.val, by omega⟩ : Fin 1536) = qc h g 0 := Fin.ext (by simp [qc])
  have e1 : (∑ d : Fin 128, Q (ix2 (lat R) ⟨384 * h.val + (128 * g.val + d.val), by omega⟩) * K (ix2 n ⟨128 * h.val + d.val, by omega⟩))
      = ((score q k h g (lat R) n / Real.log 2 : ℝ) : EReal) := by
    simp only [hQ, hK]
    rw [coe_dot, score, Finset.sum_mul, Finset.sum_div]
    refine congrArg _ (Finset.sum_congr rfl fun d _ => ?_)
    show q (lat R) (qc h g d) * scale / Real.log 2 * k n (kc h d) = _
    ring
  unfold weightAt
  rw [e0, hM, e1]
  exact weight (fun i : Fin 4352 => score q k h g (lat R) i) M n

theorem slope_lat (hQ : ∀ R c, Q (ix2 R c) = ((q R c * scale / Real.log 2 : ℝ) : EReal)) (hK : ∀ R c, K (ix2 R c) = (k R c : EReal))
    (hV : ∀ R c, V (ix2 R c) = (v R c : EReal)) (hD : ∀ R c, D (ix2 R c) = (δ R c : EReal))
    (hO : ∀ h g R d, O (ix2 (lat R) (qc h g d)) = ((∑ n : Fin 4352, v n (kc h d) * weightL q k h g R n : ℝ) : EReal))
    (hL : ∀ h g R d, ∃ M : ℝ, L (ix2 (lat R) (qc h g d))
      = Ideal.div ((M : EReal) + Ideal.log (∑ i : Fin 4352, Ideal.exp ((score q k h g (lat R) i : EReal) - (M : EReal)))) ((Real.log 2 : ℝ) : EReal))
    (h : Fin 4) (g : Fin 3) (R : Fin 4096) (n : Fin 4352) : slopeAt Q K V O L D h g (lat R) n = (slopeL q k v δ h g R n : EReal) := by
  have e1 : (∑ d : Fin 128, D (ix2 (lat R) ⟨384 * h.val + (128 * g.val + d.val), by omega⟩) * V (ix2 n ⟨128 * h.val + d.val, by omega⟩))
      = ((pull v δ h g (lat R) n : ℝ) : EReal) := by
    simp only [hD, hV]
    exact coe_dot _ _
  have e2 : (∑ d : Fin 128, D (ix2 (lat R) ⟨384 * h.val + (128 * g.val + d.val), by omega⟩) * O (ix2 (lat R) ⟨384 * h.val + (128 * g.val + d.val), by omega⟩))
      = ((∑ i : Fin 4352, weightL q k h g R i * pull v δ h g (lat R) i : ℝ) : EReal) := by
    have e3 : ∀ d : Fin 128, O (ix2 (lat R) ⟨384 * h.val + (128 * g.val + d.val), by omega⟩) = ((∑ n : Fin 4352, v n (kc h d) * weightL q k h g R n : ℝ) : EReal) :=
      fun d => hO h g R d
    simp only [hD, e3]
    rw [coe_dot]
    refine congrArg _ ?_
    simp only [Finset.mul_sum, pull]
    rw [Finset.sum_comm]
    refine Finset.sum_congr rfl fun i _ => Finset.sum_congr rfl fun d _ => ?_
    show δ (lat R) (oc h g d) * _ = _
    ring
  unfold slopeAt
  rw [weight_lat Q K L q k hQ hK hL, e1, e2, ← EReal.coe_sub, ← EReal.coe_mul]
  rfl

theorem ctx_of (n : Fin 4352) (hn : n.val < 256) : n = ctx ⟨n.val, hn⟩ := Fin.ext rfl

theorem query_ctx (hK : ∀ R c, K (ix2 R c) = (k R c : EReal))
    (hS : ∀ h g R n, slopeAt Q K V O L D h g (ctx R) (ctx n) = (slopeC q k v δ h g R n : EReal))
    (h : Fin 4) (g : Fin 3) (R : Fin 256) (d : Fin 128) : queryAt Q K V O L D h g (ctx R) d = (queryC q k v δ h g R d : EReal) := by
  unfold queryAt
  rw [if_pos (show (ctx R).val < 256 from R.isLt)]
  unfold queryC
  rw [← coe_dot]
  exact Finset.sum_congr rfl fun n _ => congrArg₂ (· * ·) (hS h g R n) (hK _ _)

theorem query_lat (hK : ∀ R c, K (ix2 R c) = (k R c : EReal))
    (hS : ∀ h g R n, slopeAt Q K V O L D h g (lat R) n = (slopeL q k v δ h g R n : EReal))
    (h : Fin 4) (g : Fin 3) (R : Fin 4096) (d : Fin 128) : queryAt Q K V O L D h g (lat R) d = (queryL q k v δ h g R d : EReal) := by
  unfold queryAt
  rw [if_neg (show ¬ (lat R).val < 256 by simp only [lat]; omega)]
  unfold queryL
  rw [← coe_dot]
  exact Finset.sum_congr rfl fun n _ => congrArg₂ (· * ·) (hS h g R n) (hK _ _)

theorem key_of (hQ : ∀ R c, Q (ix2 R c) = ((q R c * scale / Real.log 2 : ℝ) : EReal))
    (hC : ∀ h g R n, slopeAt Q K V O L D h g (ctx R) (ctx n) = (slopeC q k v δ h g R n : EReal))
    (hL : ∀ h g R n, slopeAt Q K V O L D h g (lat R) n = (slopeL q k v δ h g R n : EReal))
    (h : Fin 4) (n : Fin 4352) (d : Fin 128) : gather (keyPart Q K V O L D h n d) n = (keyOf q k v δ h n d : EReal) := by
  have eL : ∑ r : Fin 4096, keyPart Q K V O L D h n d ⟨256 + r.val, by omega⟩
      = ((∑ r, ∑ g, slopeL q k v δ h g r n * (q (lat r) (qc h g d) * scale / Real.log 2) : ℝ) : EReal) := by
    rw [coe_sum]
    refine Finset.sum_congr rfl fun r _ => ?_
    rw [← coe_dot]
    exact Finset.sum_congr rfl fun g _ => congrArg₂ (· * ·) (hL h g r n) (hQ _ _)
  unfold gather
  rw [eL]
  unfold keyOf
  by_cases hn : n.val < 256
  · have eC : ∑ r : Fin 256, keyPart Q K V O L D h n d (Fin.castLE (by decide) r)
        = ((∑ r, ∑ g, slopeC q k v δ h g r ⟨n.val, hn⟩ * (q (ctx r) (qc h g d) * scale / Real.log 2) : ℝ) : EReal) := by
      rw [coe_sum]
      refine Finset.sum_congr rfl fun r _ => ?_
      rw [← coe_dot]
      exact Finset.sum_congr rfl fun g _ => congrArg₂ (· * ·) (hC h g r ⟨n.val, hn⟩) (hQ _ _)
    rw [if_pos hn, dif_pos hn, eC, ← EReal.coe_add]
    refine congrArg _ ?_
    simp only [add_mul, add_div, Finset.sum_mul, Finset.sum_div, mul_assoc, mul_div_assoc]
  · rw [if_neg hn, dif_neg hn, zero_add, zero_add]
    refine congrArg _ ?_
    simp only [Finset.sum_mul, Finset.sum_div, mul_assoc, mul_div_assoc]

theorem value_of (hD : ∀ R c, D (ix2 R c) = (δ R c : EReal))
    (hC : ∀ h g R n, weightAt Q K L h g (ctx R) (ctx n) = (weightC q k h g R n : EReal))
    (hL : ∀ h g R n, weightAt Q K L h g (lat R) n = (weightL q k h g R n : EReal))
    (h : Fin 4) (n : Fin 4352) (d : Fin 128) : gather (valuePart Q K L D h n d) n = (valueOf q k δ h n d : EReal) := by
  have eL : ∑ r : Fin 4096, valuePart Q K L D h n d ⟨256 + r.val, by omega⟩
      = ((∑ r, ∑ g, weightL q k h g r n * δ (lat r) (oc h g d) : ℝ) : EReal) := by
    rw [coe_sum]
    refine Finset.sum_congr rfl fun r _ => ?_
    rw [← coe_dot]
    exact Finset.sum_congr rfl fun g _ => congrArg₂ (· * ·) (hL h g r n) (hD _ _)
  unfold gather
  rw [eL]
  unfold valueOf
  by_cases hn : n.val < 256
  · have eC : ∑ r : Fin 256, valuePart Q K L D h n d (Fin.castLE (by decide) r)
        = ((∑ r, ∑ g, weightC q k h g r ⟨n.val, hn⟩ * δ (ctx r) (oc h g d) : ℝ) : EReal) := by
      rw [coe_sum]
      refine Finset.sum_congr rfl fun r _ => ?_
      rw [← coe_dot]
      exact Finset.sum_congr rfl fun g _ => congrArg₂ (· * ·) (hC h g r ⟨n.val, hn⟩) (hD _ _)
    rw [if_pos hn, dif_pos hn, eC, ← EReal.coe_add]
  · rw [if_neg hn, dif_neg hn, zero_add, zero_add]

end Cert.KernelIdeal.Element

end
-- ==== Proof.Host.lean ====
/- The arrays the kernel's grid reads, as the host code before it prepares them from the arguments. -/
module

public import proofs.«01_k».proof.Proof.Gen.KernelIdeal.Value
public import proofs.«01_k».proof.Proof.Gen.SavedIdeal.Read
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelIdeal.Host

open Cert.KernelIdeal Cert.KernelIdeal.Gen
open Cert.SavedIdeal.Read

variable (m : (ℓ : Loc nD τ sig) → Buf (Elt Ideal) ℓ) (c : Dev nD)

theorem out_eq : V m c main_v52 = val_main_v52 (F := Ideal) (m (c.tc.loc main_arg0)) (m (c.tc.loc main_arg1)) (m (c.tc.loc main_arg2)) := by
  unfold V; after_results; try rfl

theorem lse_eq : V m c main_v54 = val_main_v54 (F := Ideal) (m (c.tc.loc main_arg0)) (m (c.tc.loc main_arg1)) := by
  unfold V; after_results; try rfl

theorem query_eq (y : S4352x1536.Idx) :
    V m c main_v60 y = Ideal.div (@HMul.hMul EReal EReal EReal _ (m (c.tc.loc main_arg0) y) (Ideal.ofBits .f32 0x3DB504F3#32)) (Ideal.log (Ideal.ofBits .f32 0x40000000#32)) := by
  unfold V; after_results; pointwise; try rfl

theorem key_eq : V m c main_v61 = fun y => m (c.tc.loc main_arg1) y := by
  unfold V; after_results; try rfl

theorem value_eq : V m c main_v62 = fun y => m (c.tc.loc main_arg2) y := by
  unfold V; after_results; try rfl

end Cert.KernelIdeal.Host

end
-- ==== Proof.Saved.lean ====
/- What the forward pass saves, read at an element: the attention's output and the logarithm of each row's sum. -/
module

public import proofs.«01_k».proof.Proof.Spec
public import proofs.«01_k».proof.Proof.Gen.SavedIdeal.Read
public import Idealize.ShloMosaic.Lib.Pointwise

@[expose] public section

set_option maxRecDepth 16384

noncomputable section

open Idealize.ShloMosaic Idealize.ShloMosaic.TcCoe Idealize.SL.Sem
open Cert.Spec Cert.Softmax

namespace Cert.SavedIdeal.Row

open Cert.SavedIdeal Cert.SavedIdeal.Gen Cert.SavedIdeal.Read

variable (x0 : (⟨S4352x1536, .f32⟩ : BufTy).Contents (Elt Ideal)) (x1 x2 : (⟨S4352x512, .f32⟩ : BufTy).Contents (Elt Ideal))
variable (q : Fin 4352 → Fin 1536 → ℝ) (k v : Fin 4352 → Fin 512 → ℝ)

theorem query_index (R : Fin 4352) (h : Fin 4) (g : Fin 3) (d : Fin 128) {b} :
    x0 (ix2 R ⟨h.val * 384 + g.val * 128 + d.val, b⟩) = x0 (ix2 R (qc h g d)) := by
  congr 2; exact Fin.ext (by simp only [qc]; omega)

theorem key_index (x : (⟨S4352x512, .f32⟩ : BufTy).Contents (Elt Ideal)) (R : Fin 4352) (h : Fin 4) (d : Fin 128) {b} :
    x (ix2 R ⟨h.val * 128 + d.val, b⟩) = x (ix2 R (kc h d)) := by
  congr 2; exact Fin.ext (by simp only [kc]; omega)

theorem out_rows (R : Fin 4352) (h : Fin 4) (g : Fin 3) (d : Fin 128) :
    val_main_v52 x0 x1 x2 (ix2 R (qc h g d)) = if hR : R.val < 256 then val_main_v26 x0 x1 x2 (ix4 ⟨R.val, hR⟩ h g d)
      else val_main_v49 x0 x1 x2 (ix4 ⟨R.val - 256, by omega⟩ h g d) := by
  pointwise [val_main_v52, val_main_v51, qc]

theorem lse_rows (R : Fin 4352) (h : Fin 4) (g : Fin 3) (d : Fin 128) :
    val_main_v54 x0 x1 (ix2 R (qc h g d)) = if hR : R.val < 256 then val_main_v27 x0 x1 (ix4 ⟨R.val, hR⟩ h g d)
      else val_main_v50 x0 x1 (ix4 ⟨R.val - 256, by omega⟩ h g d) := by
  pointwise [val_main_v54, val_main_v53, qc]

theorem log_two : Ideal.log (Ideal.ofBits .f32 0x40000000#32) = ((Real.log 2 : ℝ) : EReal) := by
  rw [two_bits, Ideal.log_coe, if_neg (by norm_num)]

theorem add_read {S : Shape} (A B : FVec Ideal S .f32) (i : S.Idx) : addf A B i = (A i + B i : EReal) := rfl

theorem query_ctx (h0 : ∀ R c, x0 (ix2 R c) = (q R c : EReal)) (h : Fin 4) (g : Fin 3) (R : Fin 256) (d : Fin 128) :
    val_main_v3 x0 (ix4 R h g d) = (q (ctx R) (qc h g d) : EReal) := by
  pointwise [val_main_v3, val_main_v0]
  exact (query_index x0 (ctx R) h g d).trans (h0 _ _)

theorem key_ctx (h1 : ∀ R c, x1 (ix2 R c) = (k R c : EReal)) (h : Fin 4) (R : Fin 256) (d : Fin 128) :
    val_main_v4 x1 (ix3 R h d) = (k (ctx R) (kc h d) : EReal) := by
  pointwise [val_main_v4, val_main_v1]
  exact (key_index x1 (ctx R) h d).trans (h1 _ _)

theorem value_ctx (h2 : ∀ R c, x2 (ix2 R c) = (v R c : EReal)) (h : Fin 4) (R : Fin 256) (d : Fin 128) :
    val_main_v5 x2 (ix3 R h d) = (v (ctx R) (kc h d) : EReal) := by
  pointwise [val_main_v5, val_main_v2]
  exact (key_index x2 (ctx R) h d).trans (h2 _ _)

theorem score_ctx (h0 : ∀ R c, x0 (ix2 R c) = (q R c : EReal)) (h1 : ∀ R c, x1 (ix2 R c) = (k R c : EReal)) (h : Fin 4) (g : Fin 3) (R : Fin 256) (n : Fin 256) :
    val_main_v9 x0 x1 (ix4 h g R n) = (score q k h g (ctx R) (ctx n) : EReal) := by
  pointwise [val_main_v9, val_main_v8, val_main_cst, val_main_v7, val_main_v6]
  rw [scale_bits]
  simp only [query_ctx x0 q h0, key_ctx x1 k h1]
  rw [coe_dot, ← EReal.coe_mul]
  rfl

/-- The largest score of a row is a real number. -/
theorem max_ctx (h0 : ∀ R c, x0 (ix2 R c) = (q R c : EReal)) (h1 : ∀ R c, x1 (ix2 R c) = (k R c : EReal)) (h : Fin 4) (g : Fin 3) (R : Fin 256) :
    ∃ M : ℝ, val_main_v10 x0 x1 (ix3 h g R) = (M : EReal) := by
  obtain ⟨M, hM⟩ := fold_max_real fun i : Fin 256 => score q k h g (ctx R) (ctx i)
  refine ⟨M, ?_⟩
  rw [← hM]
  pointwise [val_main_v10, val_main_cst_0]
  rw [bottom_bits]
  simp only [score_ctx x0 x1 q k h0 h1]

theorem exp_ctx (h0 : ∀ R c, x0 (ix2 R c) = (q R c : EReal)) (h1 : ∀ R c, x1 (ix2 R c) = (k R c : EReal)) (h : Fin 4) (g : Fin 3) (R : Fin 256) (n : Fin 256) (M : ℝ)
    (hM : val_main_v10 x0 x1 (ix3 h g R) = (M : EReal)) :
    val_main_v14 x0 x1 (ix4 h g R n) = Ideal.exp ((score q k h g (ctx R) (ctx n) : EReal) - (M : EReal)) := by
  pointwise [val_main_v14, val_main_v13, val_main_v12, val_main_v11]
  rw [score_ctx x0 x1 q k h0 h1, hM]

theorem sum_ctx (h0 : ∀ R c, x0 (ix2 R c) = (q R c : EReal)) (h1 : ∀ R c, x1 (ix2 R c) = (k R c : EReal)) (h : Fin 4) (g : Fin 3) (R : Fin 256) (M : ℝ) (hM : val_main_v10 x0 x1 (ix3 h g R) = (M : EReal)) :
    val_main_v15 x0 x1 (ix3 h g R) = ∑ i : Fin 256, Ideal.exp ((score q k h g (ctx R) (ctx i) : EReal) - (M : EReal)) := by
  pointwise [val_main_v15, val_main_cst_1]
  exact Finset.sum_congr rfl fun i _ => exp_ctx x0 x1 q k h0 h1 h g R i M hM

theorem soft_ctx (h0 : ∀ R c, x0 (ix2 R c) = (q R c : EReal)) (h1 : ∀ R c, x1 (ix2 R c) = (k R c : EReal)) (h : Fin 4) (g : Fin 3) (R : Fin 256) (n : Fin 256) :
    val_main_v24 x0 x1 (ix4 h g R n) = (weightC q k h g R n : EReal) := by
  obtain ⟨M, hM⟩ := max_ctx x0 x1 q k h0 h1 h g R
  pointwise [val_main_v24, val_main_v23, val_main_v16]
  rw [exp_ctx x0 x1 q k h0 h1 h g R n M hM, sum_ctx x0 x1 q k h0 h1 h g R M hM]
  exact ratio (fun i : Fin 256 => score q k h g (ctx R) (ctx i)) M n

theorem out_ctx (h0 : ∀ R c, x0 (ix2 R c) = (q R c : EReal)) (h1 : ∀ R c, x1 (ix2 R c) = (k R c : EReal)) (h2 : ∀ R c, x2 (ix2 R c) = (v R c : EReal)) (h : Fin 4) (g : Fin 3) (R : Fin 256) (d : Fin 128) :
    val_main_v52 x0 x1 x2 (ix2 (ctx R) (qc h g d)) = ((∑ n : Fin 256, v (ctx n) (kc h d) * weightC q k h g R n : ℝ) : EReal) := by
  have e : val_main_v52 x0 x1 x2 (ix2 (ctx R) (qc h g d)) = val_main_v26 x0 x1 x2 (ix4 R h g d) := by
    rw [out_rows]
    exact dif_pos R.isLt
  rw [e]
  pointwise [val_main_v26, val_main_v25]
  simp only [value_ctx x2 v h2, soft_ctx x0 x1 q k h0 h1]
  rw [coe_dot]

theorem stage_ctx (h : Fin 4) (g : Fin 3) (R : Fin 256) (d : Fin 128) :
    val_main_v27 x0 x1 (ix4 R h g d) = Ideal.div (val_main_v18 x0 x1 (ix4 h g R 0)) (Ideal.log (Ideal.ofBits .f32 0x40000000#32)) := by
  pointwise [val_main_v27, val_main_v22, val_main_v21, val_main_v20, val_main_v19, val_main_cst_2]

theorem column_ctx (h : Fin 4) (g : Fin 3) (R : Fin 256) : val_main_v16 x0 x1 (ix4 h g R 0) = val_main_v15 x0 x1 (ix3 h g R) := by
  unfold val_main_v16; generalize val_main_v15 x0 x1 = X; pointwise

theorem top_ctx (h : Fin 4) (g : Fin 3) (R : Fin 256) : val_main_v11 x0 x1 (ix4 h g R 0) = val_main_v10 x0 x1 (ix3 h g R) := by
  unfold val_main_v11; generalize val_main_v10 x0 x1 = X; pointwise

theorem total_ctx (i) : val_main_v18 x0 x1 i = (val_main_v11 x0 x1 i + Ideal.log (val_main_v16 x0 x1 i) : EReal) := add_read _ _ _

/-- The logarithm of the row's sum, in base two. -/
theorem lse_ctx (h0 : ∀ R c, x0 (ix2 R c) = (q R c : EReal)) (h1 : ∀ R c, x1 (ix2 R c) = (k R c : EReal)) (h : Fin 4) (g : Fin 3) (R : Fin 256) (d : Fin 128) :
    ∃ M : ℝ, val_main_v54 x0 x1 (ix2 (ctx R) (qc h g d))
      = Ideal.div ((M : EReal) + Ideal.log (∑ i : Fin 256, Ideal.exp ((score q k h g (ctx R) (ctx i) : EReal) - (M : EReal)))) ((Real.log 2 : ℝ) : EReal) := by
  obtain ⟨M, hM⟩ := max_ctx x0 x1 q k h0 h1 h g R
  refine ⟨M, ?_⟩
  have e : val_main_v54 x0 x1 (ix2 (ctx R) (qc h g d)) = val_main_v27 x0 x1 (ix4 R h g d) := by
    rw [lse_rows]
    exact dif_pos R.isLt
  rw [e]
  rw [stage_ctx, total_ctx, column_ctx, top_ctx, hM, sum_ctx x0 x1 q k h0 h1 h g R M hM, log_two]

theorem query_lat (h0 : ∀ R c, x0 (ix2 R c) = (q R c : EReal)) (h : Fin 4) (g : Fin 3) (R : Fin 4096) (d : Fin 128) :
    val_main_v28 x0 (ix4 R h g d) = (q (lat R) (qc h g d) : EReal) := by
  pointwise [val_main_v28, val_main_v0]
  exact (query_index x0 (lat R) h g d).trans (h0 _ _)

theorem key_lat (h1 : ∀ R c, x1 (ix2 R c) = (k R c : EReal)) (h : Fin 4) (R : Fin 4352) (d : Fin 128) :
    val_main_v1 x1 (ix3 R h d) = (k R (kc h d) : EReal) := by
  pointwise [val_main_v1]
  exact (key_index x1 R h d).trans (h1 _ _)

theorem value_lat (h2 : ∀ R c, x2 (ix2 R c) = (v R c : EReal)) (h : Fin 4) (R : Fin 4352) (d : Fin 128) :
    val_main_v2 x2 (ix3 R h d) = (v R (kc h d) : EReal) := by
  pointwise [val_main_v2]
  exact (key_index x2 R h d).trans (h2 _ _)

theorem score_lat (h0 : ∀ R c, x0 (ix2 R c) = (q R c : EReal)) (h1 : ∀ R c, x1 (ix2 R c) = (k R c : EReal)) (h : Fin 4) (g : Fin 3) (R : Fin 4096) (n : Fin 4352) :
    val_main_v32 x0 x1 (ix4 h g R n) = (score q k h g (lat R) n : EReal) := by
  pointwise [val_main_v32, val_main_v31, val_main_cst_3, val_main_v30, val_main_v29]
  rw [scale_bits]
  simp only [query_lat x0 q h0, key_lat x1 k h1]
  rw [coe_dot, ← EReal.coe_mul]
  rfl

/-- The largest score of a row is a real number. -/
theorem max_lat (h0 : ∀ R c, x0 (ix2 R c) = (q R c : EReal)) (h1 : ∀ R c, x1 (ix2 R c) = (k R c : EReal)) (h : Fin 4) (g : Fin 3) (R : Fin 4096) :
    ∃ M : ℝ, val_main_v33 x0 x1 (ix3 h g R) = (M : EReal) := by
  obtain ⟨M, hM⟩ := fold_max_real fun i : Fin 4352 => score q k h g (lat R) i
  refine ⟨M, ?_⟩
  rw [← hM]
  pointwise [val_main_v33, val_main_cst_4]
  rw [bottom_bits]
  simp only [score_lat x0 x1 q k h0 h1]

theorem exp_lat (h0 : ∀ R c, x0 (ix2 R c) = (q R c : EReal)) (h1 : ∀ R c, x1 (ix2 R c) = (k R c : EReal)) (h : Fin 4) (g : Fin 3) (R : Fin 4096) (n : Fin 4352) (M : ℝ)
    (hM : val_main_v33 x0 x1 (ix3 h g R) = (M : EReal)) :
    val_main_v37 x0 x1 (ix4 h g R n) = Ideal.exp ((score q k h g (lat R) n : EReal) - (M : EReal)) := by
  pointwise [val_main_v37, val_main_v36, val_main_v35, val_main_v34]
  rw [score_lat x0 x1 q k h0 h1, hM]

theorem sum_lat (h0 : ∀ R c, x0 (ix2 R c) = (q R c : EReal)) (h1 : ∀ R c, x1 (ix2 R c) = (k R c : EReal)) (h : Fin 4) (g : Fin 3) (R : Fin 4096) (M : ℝ) (hM : val_main_v33 x0 x1 (ix3 h g R) = (M : EReal)) :
    val_main_v38 x0 x1 (ix3 h g R) = ∑ i : Fin 4352, Ideal.exp ((score q k h g (lat R) i : EReal) - (M : EReal)) := by
  pointwise [val_main_v38, val_main_cst_5]
  exact Finset.sum_congr rfl fun i _ => exp_lat x0 x1 q k h0 h1 h g R i M hM

theorem soft_lat (h0 : ∀ R c, x0 (ix2 R c) = (q R c : EReal)) (h1 : ∀ R c, x1 (ix2 R c) = (k R c : EReal)) (h : Fin 4) (g : Fin 3) (R : Fin 4096) (n : Fin 4352) :
    val_main_v47 x0 x1 (ix4 h g R n) = (weightL q k h g R n : EReal) := by
  obtain ⟨M, hM⟩ := max_lat x0 x1 q k h0 h1 h g R
  pointwise [val_main_v47, val_main_v46, val_main_v39]
  rw [exp_lat x0 x1 q k h0 h1 h g R n M hM, sum_lat x0 x1 q k h0 h1 h g R M hM]
  exact ratio (fun i : Fin 4352 => score q k h g (lat R) i) M n

theorem out_lat (h0 : ∀ R c, x0 (ix2 R c) = (q R c : EReal)) (h1 : ∀ R c, x1 (ix2 R c) = (k R c : EReal)) (h2 : ∀ R c, x2 (ix2 R c) = (v R c : EReal)) (h : Fin 4) (g : Fin 3) (R : Fin 4096) (d : Fin 128) :
    val_main_v52 x0 x1 x2 (ix2 (lat R) (qc h g d)) = ((∑ n : Fin 4352, v n (kc h d) * weightL q k h g R n : ℝ) : EReal) := by
  have e : val_main_v52 x0 x1 x2 (ix2 (lat R) (qc h g d)) = val_main_v49 x0 x1 x2 (ix4 R h g d) := by
    rw [out_rows]
    rw [dif_neg (by simp only [lat]; omega)]; rw [show (⟨(lat R).val - 256, by simp only [lat]; omega⟩ : Fin 4096) = R from Fin.ext (by simp only [lat]; omega)]
  rw [e]
  pointwise [val_main_v49, val_main_v48]
  simp only [value_lat x2 v h2, soft_lat x0 x1 q k h0 h1]
  rw [coe_dot]

theorem stage_lat (h : Fin 4) (g : Fin 3) (R : Fin 4096) (d : Fin 128) :
    val_main_v50 x0 x1 (ix4 R h g d) = Ideal.div (val_main_v41 x0 x1 (ix4 h g R 0)) (Ideal.log (Ideal.ofBits .f32 0x40000000#32)) := by
  pointwise [val_main_v50, val_main_v45, val_main_v44, val_main_v43, val_main_v42, val_main_cst_6]

theorem column_lat (h : Fin 4) (g : Fin 3) (R : Fin 4096) : val_main_v39 x0 x1 (ix4 h g R 0) = val_main_v38 x0 x1 (ix3 h g R) := by
  unfold val_main_v39; generalize val_main_v38 x0 x1 = X; pointwise

theorem top_lat (h : Fin 4) (g : Fin 3) (R : Fin 4096) : val_main_v34 x0 x1 (ix4 h g R 0) = val_main_v33 x0 x1 (ix3 h g R) := by
  unfold val_main_v34; generalize val_main_v33 x0 x1 = X; pointwise

theorem total_lat (i) : val_main_v41 x0 x1 i = (val_main_v34 x0 x1 i + Ideal.log (val_main_v39 x0 x1 i) : EReal) := add_read _ _ _

/-- The logarithm of the row's sum, in base two. -/
theorem lse_lat (h0 : ∀ R c, x0 (ix2 R c) = (q R c : EReal)) (h1 : ∀ R c, x1 (ix2 R c) = (k R c : EReal)) (h : Fin 4) (g : Fin 3) (R : Fin 4096) (d : Fin 128) :
    ∃ M : ℝ, val_main_v54 x0 x1 (ix2 (lat R) (qc h g d))
      = Ideal.div ((M : EReal) + Ideal.log (∑ i : Fin 4352, Ideal.exp ((score q k h g (lat R) i : EReal) - (M : EReal)))) ((Real.log 2 : ℝ) : EReal) := by
  obtain ⟨M, hM⟩ := max_lat x0 x1 q k h0 h1 h g R
  refine ⟨M, ?_⟩
  have e : val_main_v54 x0 x1 (ix2 (lat R) (qc h g d)) = val_main_v50 x0 x1 (ix4 R h g d) := by
    rw [lse_rows]
    rw [dif_neg (by simp only [lat]; omega)]; rw [show (⟨(lat R).val - 256, by simp only [lat]; omega⟩ : Fin 4096) = R from Fin.ext (by simp only [lat]; omega)]
  rw [e]
  rw [stage_lat, total_lat, column_lat, top_lat, hM, sum_lat x0 x1 q k h0 h1 h g R M hM, log_two]

end Cert.SavedIdeal.Row

end
-- ==== Proof.Grad.lean ====
/- The reference's gradients, read at an element. -/
module

public import proofs.«01_k».proof.Proof.Spec
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Cert.Spec Cert.Softmax

namespace Cert.ReferenceIdeal.Grad

open Cert.ReferenceIdeal Cert.ReferenceIdeal.Gen Cert.ReferenceIdeal.Read

variable (x0 : (⟨S4352x1536, .f32⟩ : BufTy).Contents (Elt Ideal)) (x1 x2 : (⟨S4352x512, .f32⟩ : BufTy).Contents (Elt Ideal))
variable (x3 : (⟨S4352x2048, .f32⟩ : BufTy).Contents (Elt Ideal))
variable (q : Fin 4352 → Fin 1536 → ℝ) (k v : Fin 4352 → Fin 512 → ℝ) (δ : Fin 4352 → Fin 2048 → ℝ)

theorem query_index (R : Fin 4352) (h : Fin 4) (g : Fin 3) (d : Fin 128) {b} :
    x0 (ix2 R ⟨h.val * 384 + g.val * 128 + d.val, b⟩) = x0 (ix2 R (qc h g d)) := by
  congr 2; exact Fin.ext (by simp only [qc]; omega)

theorem key_index (x : (⟨S4352x512, .f32⟩ : BufTy).Contents (Elt Ideal)) (R : Fin 4352) (h : Fin 4) (d : Fin 128) {b} :
    x (ix2 R ⟨h.val * 128 + d.val, b⟩) = x (ix2 R (kc h d)) := by
  congr 2; exact Fin.ext (by simp only [kc]; omega)

theorem log_two : Ideal.log (Ideal.ofBits .f32 0x40000000#32) = ((Real.log 2 : ℝ) : EReal) := by
  rw [two_bits, Ideal.log_coe, if_neg (by norm_num)]

theorem max_read {S : Shape} (A B : FVec Ideal S .f32) (i : S.Idx) : maximumf A B i = (max (A i) (B i) : EReal) := rfl

theorem query_ctx (h0 : ∀ R c, x0 (ix2 R c) = (q R c : EReal)) (h : Fin 4) (g : Fin 3) (R : Fin 256) (d : Fin 128) :
    val_main_v3 x0 (ix4 R h g d) = (q (ctx R) (qc h g d) : EReal) := by
  pointwise [val_main_v3, val_main_v0]
  exact (query_index x0 (ctx R) h g d).trans (h0 _ _)

theorem key_ctx (h1 : ∀ R c, x1 (ix2 R c) = (k R c : EReal)) (h : Fin 4) (R : Fin 256) (d : Fin 128) :
    val_main_v4 x1 (ix3 R h d) = (k (ctx R) (kc h d) : EReal) := by
  pointwise [val_main_v4, val_main_v1]
  exact (key_index x1 (ctx R) h d).trans (h1 _ _)

theorem value_ctx (h2 : ∀ R c, x2 (ix2 R c) = (v R c : EReal)) (h : Fin 4) (R : Fin 256) (d : Fin 128) :
    val_main_v5 x2 (ix3 R h d) = (v (ctx R) (kc h d) : EReal) := by
  pointwise [val_main_v5, val_main_v2]
  exact (key_index x2 (ctx R) h d).trans (h2 _ _)

theorem score_ctx (h0 : ∀ R c, x0 (ix2 R c) = (q R c : EReal)) (h1 : ∀ R c, x1 (ix2 R c) = (k R c : EReal)) (h : Fin 4) (g : Fin 3) (R : Fin 256) (n : Fin 256) :
    val_main_v9 x0 x1 (ix4 h g R n) = (score q k h g (ctx R) (ctx n) : EReal) := by
  pointwise [val_main_v9, val_main_v8, val_main_cst, val_main_v7, val_main_v6]
  rw [scale_bits]
  simp only [query_ctx x0 q h0, key_ctx x1 k h1]
  rw [coe_dot, ← EReal.coe_mul]
  rfl

theorem floor_ctx (i) : val_main_v17 x0 x1 i = (max (val_main_v16 (F := Ideal) i) (val_main_v10 x0 x1 i) : EReal) := max_read _ _ _

theorem bottom_ctx (i) : val_main_v16 (F := Ideal) i = (Ideal.ofBits .f32 0xFF800000#32 : EReal) := by
  unfold val_main_v16 val_main_cst_2; idx_vars i; pointwise

/-- The largest score of a row is a real number. -/
theorem max_ctx (h0 : ∀ R c, x0 (ix2 R c) = (q R c : EReal)) (h1 : ∀ R c, x1 (ix2 R c) = (k R c : EReal)) (h : Fin 4) (g : Fin 3) (R : Fin 256) :
    ∃ M : ℝ, val_main_v17 x0 x1 (ix3 h g R) = (M : EReal) := by
  obtain ⟨M, hM⟩ := fold_max_real fun i : Fin 256 => score q k h g (ctx R) (ctx i)
  refine ⟨M, ?_⟩
  rw [← hM]
  rw [floor_ctx, bottom_ctx, bottom_bits, max_bot_left]
  pointwise [val_main_v10, val_main_cst_0]
  rw [bottom_bits]
  simp only [score_ctx x0 x1 q k h0 h1]

theorem exp_ctx (h0 : ∀ R c, x0 (ix2 R c) = (q R c : EReal)) (h1 : ∀ R c, x1 (ix2 R c) = (k R c : EReal)) (h : Fin 4) (g : Fin 3) (R : Fin 256) (n : Fin 256) (M : ℝ)
    (hM : val_main_v17 x0 x1 (ix3 h g R) = (M : EReal)) :
    val_main_v30 x0 x1 (ix4 h g R n) = Ideal.exp ((score q k h g (ctx R) (ctx n) : EReal) - (M : EReal)) := by
  pointwise [val_main_v30, val_main_v29, val_main_v28, val_main_v27]
  rw [score_ctx x0 x1 q k h0 h1, hM]

theorem sum_ctx (h0 : ∀ R c, x0 (ix2 R c) = (q R c : EReal)) (h1 : ∀ R c, x1 (ix2 R c) = (k R c : EReal)) (h : Fin 4) (g : Fin 3) (R : Fin 256) (M : ℝ) (hM : val_main_v17 x0 x1 (ix3 h g R) = (M : EReal)) :
    val_main_v31 x0 x1 (ix3 h g R) = ∑ i : Fin 256, Ideal.exp ((score q k h g (ctx R) (ctx i) : EReal) - (M : EReal)) := by
  pointwise [val_main_v31, val_main_cst_8]
  exact Finset.sum_congr rfl fun i _ => exp_ctx x0 x1 q k h0 h1 h g R i M hM

theorem soft_ctx (h0 : ∀ R c, x0 (ix2 R c) = (q R c : EReal)) (h1 : ∀ R c, x1 (ix2 R c) = (k R c : EReal)) (h : Fin 4) (g : Fin 3) (R : Fin 256) (n : Fin 256) :
    val_main_v34 x0 x1 (ix4 h g R n) = (weightC q k h g R n : EReal) := by
  obtain ⟨M, hM⟩ := max_ctx x0 x1 q k h0 h1 h g R
  pointwise [val_main_v34, val_main_v33, val_main_v32]
  rw [exp_ctx x0 x1 q k h0 h1 h g R n M hM, sum_ctx x0 x1 q k h0 h1 h g R M hM]
  exact ratio (fun i : Fin 256 => score q k h g (ctx R) (ctx i)) M n

theorem query_lat (h0 : ∀ R c, x0 (ix2 R c) = (q R c : EReal)) (h : Fin 4) (g : Fin 3) (R : Fin 4096) (d : Fin 128) :
    val_main_v40 x0 (ix4 R h g d) = (q (lat R) (qc h g d) : EReal) := by
  pointwise [val_main_v40, val_main_v0]
  exact (query_index x0 (lat R) h g d).trans (h0 _ _)

theorem key_lat (h1 : ∀ R c, x1 (ix2 R c) = (k R c : EReal)) (h : Fin 4) (R : Fin 4352) (d : Fin 128) :
    val_main_v1 x1 (ix3 R h d) = (k R (kc h d) : EReal) := by
  pointwise [val_main_v1]
  exact (key_index x1 R h d).trans (h1 _ _)

theorem value_lat (h2 : ∀ R c, x2 (ix2 R c) = (v R c : EReal)) (h : Fin 4) (R : Fin 4352) (d : Fin 128) :
    val_main_v2 x2 (ix3 R h d) = (v R (kc h d) : EReal) := by
  pointwise [val_main_v2]
  exact (key_index x2 R h d).trans (h2 _ _)

theorem score_lat (h0 : ∀ R c, x0 (ix2 R c) = (q R c : EReal)) (h1 : ∀ R c, x1 (ix2 R c) = (k R c : EReal)) (h : Fin 4) (g : Fin 3) (R : Fin 4096) (n : Fin 4352) :
    val_main_v44 x0 x1 (ix4 h g R n) = (score q k h g (lat R) n : EReal) := by
  pointwise [val_main_v44, val_main_v43, val_main_cst_10, val_main_v42, val_main_v41]
  rw [scale_bits]
  simp only [query_lat x0 q h0, key_lat x1 k h1]
  rw [coe_dot, ← EReal.coe_mul]
  rfl

theorem floor_lat (i) : val_main_v52 x0 x1 i = (max (val_main_v51 (F := Ideal) i) (val_main_v45 x0 x1 i) : EReal) := max_read _ _ _

theorem bottom_lat (i) : val_main_v51 (F := Ideal) i = (Ideal.ofBits .f32 0xFF800000#32 : EReal) := by
  unfold val_main_v51 val_main_cst_13; idx_vars i; pointwise

/-- The largest score of a row is a real number. -/
theorem max_lat (h0 : ∀ R c, x0 (ix2 R c) = (q R c : EReal)) (h1 : ∀ R c, x1 (ix2 R c) = (k R c : EReal)) (h : Fin 4) (g : Fin 3) (R : Fin 4096) :
    ∃ M : ℝ, val_main_v52 x0 x1 (ix3 h g R) = (M : EReal) := by
  obtain ⟨M, hM⟩ := fold_max_real fun i : Fin 4352 => score q k h g (lat R) i
  refine ⟨M, ?_⟩
  rw [← hM]
  rw [floor_lat, bottom_lat, bottom_bits, max_bot_left]
  pointwise [val_main_v45, val_main_cst_11]
  rw [bottom_bits]
  simp only [score_lat x0 x1 q k h0 h1]

theorem exp_lat (h0 : ∀ R c, x0 (ix2 R c) = (q R c : EReal)) (h1 : ∀ R c, x1 (ix2 R c) = (k R c : EReal)) (h : Fin 4) (g : Fin 3) (R : Fin 4096) (n : Fin 4352) (M : ℝ)
    (hM : val_main_v52 x0 x1 (ix3 h g R) = (M : EReal)) :
    val_main_v65 x0 x1 (ix4 h g R n) = Ideal.exp ((score q k h g (lat R) n : EReal) - (M : EReal)) := by
  pointwise [val_main_v65, val_main_v64, val_main_v63, val_main_v62]
  rw [score_lat x0 x1 q k h0 h1, hM]

theorem sum_lat (h0 : ∀ R c, x0 (ix2 R c) = (q R c : EReal)) (h1 : ∀ R c, x1 (ix2 R c) = (k R c : EReal)) (h : Fin 4) (g : Fin 3) (R : Fin 4096) (M : ℝ) (hM : val_main_v52 x0 x1 (ix3 h g R) = (M : EReal)) :
    val_main_v66 x0 x1 (ix3 h g R) = ∑ i : Fin 4352, Ideal.exp ((score q k h g (lat R) i : EReal) - (M : EReal)) := by
  pointwise [val_main_v66, val_main_cst_19]
  exact Finset.sum_congr rfl fun i _ => exp_lat x0 x1 q k h0 h1 h g R i M hM

theorem soft_lat (h0 : ∀ R c, x0 (ix2 R c) = (q R c : EReal)) (h1 : ∀ R c, x1 (ix2 R c) = (k R c : EReal)) (h : Fin 4) (g : Fin 3) (R : Fin 4096) (n : Fin 4352) :
    val_main_v69 x0 x1 (ix4 h g R n) = (weightL q k h g R n : EReal) := by
  obtain ⟨M, hM⟩ := max_lat x0 x1 q k h0 h1 h g R
  pointwise [val_main_v69, val_main_v68, val_main_v67]
  rw [exp_lat x0 x1 q k h0 h1 h g R n M hM, sum_lat x0 x1 q k h0 h1 h g R M hM]
  exact ratio (fun i : Fin 4352 => score q k h g (lat R) i) M n

theorem given_index (R : Fin 4352) (h : Fin 4) (g : Fin 3) (d : Fin 128) {b} :
    x3 (ix2 R ⟨h.val * 384 + g.val * 128 + d.val, b⟩) = x3 (ix2 R (oc h g d)) := by
  congr 2; exact Fin.ext (by simp only [oc]; omega)

theorem given_ctx (h3 : ∀ R c, x3 (ix2 R c) = (δ R c : EReal)) (h : Fin 4) (g : Fin 3) (R : Fin 256) (d : Fin 128) :
    val_main_v105 x3 (ix4 h d g R) = (δ (ctx R) (oc h g d) : EReal) := by
  pointwise [val_main_v105, val_main_v79, val_main_v78, val_main_v77]
  exact (given_index x3 (ctx R) h g d).trans (h3 _ _)

theorem pull_ctx (h2 : ∀ R c, x2 (ix2 R c) = (v R c : EReal)) (h3 : ∀ R c, x3 (ix2 R c) = (δ R c : EReal)) (h : Fin 4) (g : Fin 3) (R : Fin 256) (n : Fin 256) :
    val_main_v106 x2 x3 (ix4 h g R n) = (pull v δ h g (ctx R) (ctx n) : EReal) := by
  pointwise [val_main_v106]
  simp only [given_ctx x3 δ h3, value_ctx x2 v h2]
  exact coe_dot _ _

theorem value_grad_ctx (h0 : ∀ R c, x0 (ix2 R c) = (q R c : EReal)) (h1 : ∀ R c, x1 (ix2 R c) = (k R c : EReal)) (h3 : ∀ R c, x3 (ix2 R c) = (δ R c : EReal)) (h : Fin 4) (n : Fin 256) (d : Fin 128) :
    val_main_v108 x0 x1 x3 (ix3 n h d) = ((∑ r, ∑ g, weightC q k h g r n * δ (ctx r) (oc h g d) : ℝ) : EReal) := by
  pointwise [val_main_v108, val_main_v107]
  simp only [given_ctx x3 δ h3, soft_ctx x0 x1 q k h0 h1, coe_dot]
  rw [← coe_sum, Finset.sum_comm]
  exact congrArg _ (Finset.sum_congr rfl fun r _ => Finset.sum_congr rfl fun g _ => mul_comm _ _)

theorem slope_read_ctx (h : Fin 4) (g : Fin 3) (R : Fin 256) (n : Fin 256) :
    val_main_v122 x0 x1 x2 x3 (ix4 h g R n)
      = (Ideal.div (val_main_v106 x2 x3 (ix4 h g R n)) (val_main_v31 x0 x1 (ix3 h g R))
          + ∑ _i : Fin 1, -(∑ i : Fin 256, @HMul.hMul EReal EReal EReal _ (@HMul.hMul EReal EReal EReal _ (val_main_v106 x2 x3 (ix4 h g R i))
              (Ideal.div 1 (@HMul.hMul EReal EReal EReal _ (val_main_v31 x0 x1 (ix3 h g R)) (val_main_v31 x0 x1 (ix3 h g R))))) (val_main_v30 x0 x1 (ix4 h g R i)) : EReal) : EReal)
        * ((val_main_v30 x0 x1 (ix4 h g R n) : EReal)) * Ideal.ofBits .f32 0x3DB504F3#32 := by
  unfold val_main_v122 val_main_v121 val_main_cst_27 val_main_v120 val_main_v119 val_main_v118 val_main_v117 val_main_cst_26 val_main_v116 val_main_v115 val_main_v114 val_main_v113 val_main_v112 val_main_cst_25 val_main_v111 val_main_v110 val_main_v109 val_main_v37 val_main_v36 val_main_cst_9 val_main_v35 val_main_v32
  generalize val_main_v106 x2 x3 = A
  generalize val_main_v31 x0 x1 = Z
  generalize val_main_v30 x0 x1 = E
  pointwise

theorem slope_ctx (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 256) (n : Fin 256) :
    val_main_v122 x0 x1 x2 x3 (ix4 h g R n) = ((slopeC q k v δ h g R n * scale : ℝ) : EReal) := by
  obtain ⟨M, hM⟩ := max_ctx x0 x1 q k h0 h1 h g R
  rw [slope_read_ctx, sum_ctx x0 x1 q k h0 h1 h g R M hM, scale_bits, EReal.coe_mul, Fin.sum_univ_one]
  simp only [pull_ctx x2 x3 v δ h2 h3, exp_ctx x0 x1 q k h0 h1 h g R _ M hM]
  rw [slope (fun i : Fin 256 => score q k h g (ctx R) (ctx i)) (fun i : Fin 256 => pull v δ h g (ctx R) (ctx i)) M n]
  rfl

theorem query_grad_ctx (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 256) (d : Fin 128) :
    val_main_v125 x0 x1 x2 x3 (ix4 R h g d) = ((∑ n : Fin 256, slopeC q k v δ h g R n * scale * k (ctx n) (kc h d) : ℝ) : EReal) := by
  pointwise [val_main_v125, val_main_v124, val_main_v123]
  simp only [slope_ctx x0 x1 x2 x3 q k v δ h0 h1 h2 h3, key_ctx x1 k h1, coe_dot]

theorem key_grad_ctx (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (n : Fin 256) (d : Fin 128) :
    val_main_v127 x0 x1 x2 x3 (ix3 n h d) = ((∑ r, ∑ g, slopeC q k v δ h g r n * scale * q (ctx r) (qc h g d) : ℝ) : EReal) := by
  pointwise [val_main_v127, val_main_v126, val_main_v123]
  simp only [slope_ctx x0 x1 x2 x3 q k v δ h0 h1 h2 h3, query_ctx x0 q h0, coe_dot]
  rw [← coe_sum]

theorem given_lat (h3 : ∀ R c, x3 (ix2 R c) = (δ R c : EReal)) (h : Fin 4) (g : Fin 3) (R : Fin 4096) (d : Fin 128) :
    val_main_v81 x3 (ix4 h d g R) = (δ (lat R) (oc h g d) : EReal) := by
  pointwise [val_main_v81, val_main_v80, val_main_v78, val_main_v77]
  exact (given_index x3 (lat R) h g d).trans (h3 _ _)

theorem pull_lat (h2 : ∀ R c, x2 (ix2 R c) = (v R c : EReal)) (h3 : ∀ R c, x3 (ix2 R c) = (δ R c : EReal)) (h : Fin 4) (g : Fin 3) (R : Fin 4096) (n : Fin 4352) :
    val_main_v82 x2 x3 (ix4 h g R n) = (pull v δ h g (lat R) n : EReal) := by
  pointwise [val_main_v82]
  simp only [given_lat x3 δ h3, value_lat x2 v h2]
  exact coe_dot _ _

theorem value_grad_lat (h0 : ∀ R c, x0 (ix2 R c) = (q R c : EReal)) (h1 : ∀ R c, x1 (ix2 R c) = (k R c : EReal)) (h3 : ∀ R c, x3 (ix2 R c) = (δ R c : EReal)) (h : Fin 4) (n : Fin 4352) (d : Fin 128) :
    val_main_v84 x0 x1 x3 (ix3 n h d) = ((∑ r, ∑ g, weightL q k h g r n * δ (lat r) (oc h g d) : ℝ) : EReal) := by
  pointwise [val_main_v84, val_main_v83]
  simp only [given_lat x3 δ h3, soft_lat x0 x1 q k h0 h1, coe_dot]
  rw [← coe_sum, Finset.sum_comm]
  exact congrArg _ (Finset.sum_congr rfl fun r _ => Finset.sum_congr rfl fun g _ => mul_comm _ _)

theorem slope_read_lat (h : Fin 4) (g : Fin 3) (R : Fin 4096) (n : Fin 4352) :
    val_main_v98 x0 x1 x2 x3 (ix4 h g R n)
      = (Ideal.div (val_main_v82 x2 x3 (ix4 h g R n)) (val_main_v66 x0 x1 (ix3 h g R))
          + ∑ _i : Fin 1, -(∑ i : Fin 4352, @HMul.hMul EReal EReal EReal _ (@HMul.hMul EReal EReal EReal _ (val_main_v82 x2 x3 (ix4 h g R i))
              (Ideal.div 1 (@HMul.hMul EReal EReal EReal _ (val_main_v66 x0 x1 (ix3 h g R)) (val_main_v66 x0 x1 (ix3 h g R))))) (val_main_v65 x0 x1 (ix4 h g R i)) : EReal) : EReal)
        * ((val_main_v65 x0 x1 (ix4 h g R n) : EReal)) * Ideal.ofBits .f32 0x3DB504F3#32 := by
  unfold val_main_v98 val_main_v97 val_main_cst_23 val_main_v96 val_main_v95 val_main_v94 val_main_v93 val_main_cst_22 val_main_v92 val_main_v91 val_main_v90 val_main_v89 val_main_v88 val_main_cst_21 val_main_v87 val_main_v86 val_main_v85 val_main_v72 val_main_v71 val_main_cst_20 val_main_v70 val_main_v67
  generalize val_main_v82 x2 x3 = A
  generalize val_main_v66 x0 x1 = Z
  generalize val_main_v65 x0 x1 = E
  pointwise

theorem slope_lat (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 4096) (n : Fin 4352) :
    val_main_v98 x0 x1 x2 x3 (ix4 h g R n) = ((slopeL q k v δ h g R n * scale : ℝ) : EReal) := by
  obtain ⟨M, hM⟩ := max_lat x0 x1 q k h0 h1 h g R
  rw [slope_read_lat, sum_lat x0 x1 q k h0 h1 h g R M hM, scale_bits, EReal.coe_mul, Fin.sum_univ_one]
  simp only [pull_lat x2 x3 v δ h2 h3, exp_lat x0 x1 q k h0 h1 h g R _ M hM]
  rw [slope (fun i : Fin 4352 => score q k h g (lat R) i) (fun i : Fin 4352 => pull v δ h g (lat R) i) M n]
  rfl

theorem query_grad_lat (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 4096) (d : Fin 128) :
    val_main_v101 x0 x1 x2 x3 (ix4 R h g d) = ((∑ n : Fin 4352, slopeL q k v δ h g R n * scale * k n (kc h d) : ℝ) : EReal) := by
  pointwise [val_main_v101, val_main_v100, val_main_v99]
  simp only [slope_lat x0 x1 x2 x3 q k v δ h0 h1 h2 h3, key_lat x1 k h1, coe_dot]

theorem key_grad_lat (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (n : Fin 4352) (d : Fin 128) :
    val_main_v103 x0 x1 x2 x3 (ix3 n h d) = ((∑ r, ∑ g, slopeL q k v δ h g r n * scale * q (lat r) (qc h g d) : ℝ) : EReal) := by
  pointwise [val_main_v103, val_main_v102, val_main_v99]
  simp only [slope_lat x0 x1 x2 x3 q k v δ h0 h1 h2 h3, query_lat x0 q h0, coe_dot]
  rw [← coe_sum]

theorem query_rows (R : Fin 4352) (h : Fin 4) (g : Fin 3) (d : Fin 128) :
    val_main_v138 x0 x1 x2 x3 (ix2 R (qc h g d))
      = Ideal.div ((if hR : 256 ≤ R.val ∧ R.val - 256 < 4096 then val_main_v101 x0 x1 x2 x3 (ix4 ⟨R.val - 256, by omega⟩ h g d) else 0 : EReal)
          + (if hR : R.val < 256 then val_main_v125 x0 x1 x2 x3 (ix4 ⟨R.val, hR⟩ h g d) else 0 : EReal)) (Ideal.ofBits .f32 0x3DB504F3#32) := by
  unfold val_main_v138 val_main_v137 val_main_cst_31 val_main_v136 val_main_v133 val_main_v104 val_main_cst_24 val_main_v132 val_main_cst_30
  generalize val_main_v101 x0 x1 x2 x3 = A
  generalize val_main_v125 x0 x1 x2 x3 = C
  pointwise [qc]

theorem query_final_ctx (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 256) (d : Fin 128) :
    val_main_v138 x0 x1 x2 x3 (ix2 (ctx R) (qc h g d)) = (queryC q k v δ h g R d : EReal) := by
  have hR : (ctx R).val < 256 := R.isLt
  rw [query_rows, dif_neg (fun hh => absurd hh.1 (by omega)), dif_pos hR, zero_add, scale_bits]
  rw [show (⟨(ctx R).val, hR⟩ : Fin 256) = R from Fin.ext rfl, query_grad_ctx x0 x1 x2 x3 q k v δ h0 h1 h2 h3, div_real scale_ne]
  refine congrArg _ ?_
  unfold queryC
  rw [Finset.sum_div]
  refine Finset.sum_congr rfl fun n _ => ?_
  have := scale_ne
  field_simp

theorem query_final_lat (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (g : Fin 3) (R : Fin 4096) (d : Fin 128) :
    val_main_v138 x0 x1 x2 x3 (ix2 (lat R) (qc h g d)) = (queryL q k v δ h g R d : EReal) := by
  have hR : (lat R).val = 256 + R.val := rfl
  have hL : 256 ≤ (lat R).val ∧ (lat R).val - 256 < 4096 := by omega
  rw [query_rows, dif_pos hL, dif_neg (by omega), add_zero, scale_bits]
  rw [show (⟨(lat R).val - 256, hL.2⟩ : Fin 4096) = R from Fin.ext (by show (lat R).val - 256 = R.val; omega),
    query_grad_lat x0 x1 x2 x3 q k v δ h0 h1 h2 h3, div_real scale_ne]
  refine congrArg _ ?_
  unfold queryL
  rw [Finset.sum_div]
  refine Finset.sum_congr rfl fun n _ => ?_
  have := scale_ne
  field_simp

theorem key_rows (n : Fin 4352) (h : Fin 4) (d : Fin 128) :
    val_main_v141 x0 x1 x2 x3 (ix2 n (kc h d))
      = Ideal.div (@HAdd.hAdd EReal EReal EReal _ (val_main_v103 x0 x1 x2 x3 (ix3 n h d))
          (if hn : n.val < 256 then val_main_v127 x0 x1 x2 x3 (ix3 ⟨n.val, hn⟩ h d) else 0 : EReal)) (Ideal.log (Ideal.ofBits .f32 0x40000000#32)) := by
  unfold val_main_v141 val_main_v140 val_main_v139 val_main_cst_32 val_main_v135 val_main_v131 val_main_v130 val_main_cst_29
  generalize val_main_v103 x0 x1 x2 x3 = A
  generalize val_main_v127 x0 x1 x2 x3 = C
  pointwise [kc]

theorem key_final (h0 : ∀ R c, x0 (ix2 R c) = (q R c : EReal)) (h1 : ∀ R c, x1 (ix2 R c) = (k R c : EReal)) (h2 : ∀ R c, x2 (ix2 R c) = (v R c : EReal)) (h3 : ∀ R c, x3 (ix2 R c) = (δ R c : EReal)) (h : Fin 4) (n : Fin 4352) (d : Fin 128) :
    val_main_v141 x0 x1 x2 x3 (ix2 n (kc h d)) = (keyOf q k v δ h n d : EReal) := by
  rw [key_rows, key_grad_lat x0 x1 x2 x3 q k v δ h0 h1 h2 h3, log_two]
  unfold keyOf
  by_cases hn : n.val < 256
  · rw [dif_pos hn, dif_pos hn, key_grad_ctx x0 x1 x2 x3 q k v δ h0 h1 h2 h3, ← EReal.coe_add, div_real log_two_ne, add_comm]
    refine congrArg _ ?_
    simp only [add_mul, Finset.sum_mul, mul_right_comm]
  · rw [dif_neg hn, dif_neg hn, add_zero, zero_add, div_real log_two_ne]
    refine congrArg _ ?_
    simp only [Finset.sum_mul, mul_right_comm]

theorem value_rows (n : Fin 4352) (h : Fin 4) (d : Fin 128) :
    val_main_v134 x0 x1 x3 (ix2 n (kc h d))
      = @HAdd.hAdd EReal EReal EReal _ (val_main_v84 x0 x1 x3 (ix3 n h d))
          (if hn : n.val < 256 then val_main_v108 x0 x1 x3 (ix3 ⟨n.val, hn⟩ h d) else 0 : EReal) := by
  unfold val_main_v134 val_main_v129 val_main_v128 val_main_cst_28
  generalize val_main_v84 x0 x1 x3 = A
  generalize val_main_v108 x0 x1 x3 = C
  pointwise [kc]

theorem value_final (h0 : ∀ R c, x0 (ix2 R c) = (q R c : EReal)) (h1 : ∀ R c, x1 (ix2 R c) = (k R c : EReal)) (h3 : ∀ R c, x3 (ix2 R c) = (δ R c : EReal)) (h : Fin 4) (n : Fin 4352) (d : Fin 128) :
    val_main_v134 x0 x1 x3 (ix2 n (kc h d)) = (valueOf q k δ h n d : EReal) := by
  rw [value_rows, value_grad_lat x0 x1 x3 q k δ h0 h1 h3]
  unfold valueOf
  by_cases hn : n.val < 256
  · rw [dif_pos hn, dif_pos hn, value_grad_ctx x0 x1 x3 q k δ h0 h1 h3, ← EReal.coe_add, add_comm]
  · rw [dif_neg hn, dif_neg hn, add_zero, zero_add]

end Cert.ReferenceIdeal.Grad

end
-- ==== Proof.Meet.lean ====
/- The two programs meet: on real arguments the kernel's three arrays are the reference's. -/
module

public import proofs.«01_k».proof.Proof.Element
public import proofs.«01_k».proof.Proof.Host
public import proofs.«01_k».proof.Proof.Saved
public import proofs.«01_k».proof.Proof.Grad

@[expose] public section

set_option maxRecDepth 16384

noncomputable section

open Idealize.ShloMosaic Idealize.ShloMosaic.TcCoe Idealize.SL.Sem
open Cert.Spec Cert.Softmax

namespace Cert.KernelIdeal.Meet

open Cert.KernelIdeal Cert.KernelIdeal.Gen Cert.KernelIdeal.Arrays Cert.KernelIdeal.Element Cert.KernelIdeal.Host

variable (m : (ℓ : Loc nD τ sig) → Buf (Elt Ideal) ℓ) (c : Dev nD)
variable (q : Fin 4352 → Fin 1536 → ℝ) (k v : Fin 4352 → Fin 512 → ℝ) (δ : Fin 4352 → Fin 2048 → ℝ)

/-- The arguments are real numbers. -/
structure Reals : Prop where
  q : ∀ R C, m (c.tc.loc main_arg0) (ix2 R C) = (q R C : EReal)
  k : ∀ R C, m (c.tc.loc main_arg1) (ix2 R C) = (k R C : EReal)
  v : ∀ R C, m (c.tc.loc main_arg2) (ix2 R C) = (v R C : EReal)
  δ : ∀ R C, m (c.tc.loc main_arg3) (ix2 R C) = (δ R C : EReal)

variable {m c q k v δ} (h : Reals m c q k v δ)

include h

theorem hQ (R : Fin 4352) (C : Fin 1536) : V m c main_v60 (ix2 R C) = ((q R C * scale / Real.log 2 : ℝ) : EReal) := by
  rw [query_eq, h.q, scale_bits, Cert.SavedIdeal.Row.log_two, ← EReal.coe_mul, div_real log_two_ne]

theorem hK (R : Fin 4352) (C : Fin 512) : V m c main_v61 (ix2 R C) = (k R C : EReal) := by
  rw [key_eq]; exact h.k R C

theorem hV (R : Fin 4352) (C : Fin 512) : V m c main_v62 (ix2 R C) = (v R C : EReal) := by
  rw [value_eq]; exact h.v R C

theorem hD (R : Fin 4352) (C : Fin 2048) : V m c main_arg3 (ix2 R C) = (δ R C : EReal) := by
  rw [V_main_arg3]; exact h.δ R C

theorem hOC (a g R d) : V m c main_v52 (ix2 (ctx R) (qc a g d)) = ((∑ n : Fin 256, v (ctx n) (kc a d) * weightC q k a g R n : ℝ) : EReal) := by
  rw [out_eq]; exact Cert.SavedIdeal.Row.out_ctx _ _ _ q k v h.q h.k h.v a g R d

theorem hOL (a g R d) : V m c main_v52 (ix2 (lat R) (qc a g d)) = ((∑ n : Fin 4352, v n (kc a d) * weightL q k a g R n : ℝ) : EReal) := by
  rw [out_eq]; exact Cert.SavedIdeal.Row.out_lat _ _ _ q k v h.q h.k h.v a g R d

theorem hLC (a g R d) : ∃ M : ℝ, V m c main_v54 (ix2 (ctx R) (qc a g d))
      = Ideal.div ((M : EReal) + Ideal.log (∑ i : Fin 256, Ideal.exp ((score q k a g (ctx R) (ctx i) : EReal) - (M : EReal)))) ((Real.log 2 : ℝ) : EReal) := by
  rw [lse_eq]; exact Cert.SavedIdeal.Row.lse_ctx _ _ q k h.q h.k a g R d

theorem hLL (a g R d) : ∃ M : ℝ, V m c main_v54 (ix2 (lat R) (qc a g d))
      = Ideal.div ((M : EReal) + Ideal.log (∑ i : Fin 4352, Ideal.exp ((score q k a g (lat R) i : EReal) - (M : EReal)))) ((Real.log 2 : ℝ) : EReal) := by
  rw [lse_eq]; exact Cert.SavedIdeal.Row.lse_lat _ _ q k h.q h.k a g R d

theorem sC (a g R n) : slopeAt (V m c main_v60) (V m c main_v61) (V m c main_v62) (V m c main_v52) (V m c main_v54) (V m c main_arg3) a g (ctx R) (ctx n)
    = (slopeC q k v δ a g R n : EReal) :=
  slope_ctx _ _ _ _ _ _ q k v δ (hQ h) (hK h) (hV h) (hD h) (hOC h) (hLC h) a g R n

theorem sL (a g R n) : slopeAt (V m c main_v60) (V m c main_v61) (V m c main_v62) (V m c main_v52) (V m c main_v54) (V m c main_arg3) a g (lat R) n
    = (slopeL q k v δ a g R n : EReal) :=
  slope_lat _ _ _ _ _ _ q k v δ (hQ h) (hK h) (hV h) (hD h) (hOL h) (hLL h) a g R n

open Cert.ReferenceIdeal.Read

theorem query_meet : (dats m 0 c).arrAt 6 (cfgs 0).N
    = val_main_v138 (F := Ideal) (m (c.tc.loc main_arg0)) (m (c.tc.loc main_arg1)) (m (c.tc.loc main_arg2)) (m (c.tc.loc main_arg3)) := by
  rw [final6]
  funext y
  obtain ⟨R, C, rfl⟩ : ∃ (R : Fin 4352) (C : Fin 1536), y = ix2 R C := ⟨y 0, y 1, eq_ix2 y⟩
  have eC : C = qc ⟨C.val / 384, by omega⟩ ⟨C.val % 384 / 128, by omega⟩ ⟨C.val % 384 % 128, by omega⟩ := Fin.ext (by simp only [qc]; omega)
  by_cases hR : R.val < 256
  · obtain ⟨r, rfl⟩ : ∃ r, R = ctx r := ⟨⟨R.val, hR⟩, Fin.ext rfl⟩
    refine (query_ctx _ _ _ _ _ _ q k v δ (hK h) (sC h) _ _ r _).trans ?_
    conv_rhs => rw [eC]
    exact (Cert.ReferenceIdeal.Grad.query_final_ctx _ _ _ _ q k v δ h.q h.k h.v h.δ _ _ r _).symm
  · obtain ⟨r, rfl⟩ : ∃ r, R = lat r := ⟨⟨R.val - 256, by omega⟩, Fin.ext (by simp only [lat]; omega)⟩
    refine (query_lat _ _ _ _ _ _ q k v δ (hK h) (sL h) _ _ r _).trans ?_
    conv_rhs => rw [eC]
    exact (Cert.ReferenceIdeal.Grad.query_final_lat _ _ _ _ q k v δ h.q h.k h.v h.δ _ _ r _).symm

theorem key_meet : (dats m 0 c).arrAt 7 (cfgs 0).N
    = val_main_v141 (F := Ideal) (m (c.tc.loc main_arg0)) (m (c.tc.loc main_arg1)) (m (c.tc.loc main_arg2)) (m (c.tc.loc main_arg3)) := by
  rw [final7]
  funext y
  obtain ⟨R, C, rfl⟩ : ∃ (R : Fin 4352) (C : Fin 512), y = ix2 R C := ⟨y 0, y 1, eq_ix2 y⟩
  have eC : C = kc ⟨C.val / 128, by omega⟩ ⟨C.val % 128, by omega⟩ := Fin.ext (by simp only [kc]; omega)
  refine (key_of _ _ _ _ _ _ q k v δ (hQ h) (sC h) (sL h) _ R _).trans ?_
  conv_rhs => rw [eC]
  exact (Cert.ReferenceIdeal.Grad.key_final _ _ _ _ q k v δ h.q h.k h.v h.δ _ R _).symm

theorem value_meet : (dats m 0 c).arrAt 8 (cfgs 0).N
    = val_main_v134 (F := Ideal) (m (c.tc.loc main_arg0)) (m (c.tc.loc main_arg1)) (m (c.tc.loc main_arg3)) := by
  rw [final8]
  funext y
  obtain ⟨R, C, rfl⟩ : ∃ (R : Fin 4352) (C : Fin 512), y = ix2 R C := ⟨y 0, y 1, eq_ix2 y⟩
  have eC : C = kc ⟨C.val / 128, by omega⟩ ⟨C.val % 128, by omega⟩ := Fin.ext (by simp only [kc]; omega)
  refine (value_of _ _ _ _ q k δ (hD h) (weight_ctx _ _ _ q k (hQ h) (hK h) (hLC h)) (weight_lat _ _ _ q k (hQ h) (hK h) (hLL h)) _ R _).trans ?_
  conv_rhs => rw [eC]
  exact (Cert.ReferenceIdeal.Grad.value_final _ _ _ q k δ h.q h.k h.δ _ R _).symm

end Cert.KernelIdeal.Meet

end
-- ==== Proof.Act.lean ====
/- The gradients of the feed-forward layer's two hidden pre-activations, from the call. -/
module

public import proofs.«01_k».proof.Proof.Gen.ActIdeal.Value
public import proofs.«01_k».proof.Proof.Gen.ActReferenceIdeal.Run
public import proofs.«01_k».proof.Proof.Gen.ActReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ActIdeal.Final

open Cert.ActIdeal Cert.ActIdeal.Gen Cert.ActReferenceIdeal.Read

variable (m : (ℓ : Loc nD τ sig) → Buf (Elt Ideal) ℓ)

theorem idx : ∀ t : Fin cfg0.N, win0_0.index t = ![0, 0] ∧ win0_1.index t = ![t.val / 4, 0, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] :=
  (by decide +kernel : ∀ t : Fin grid0.N, _)

/-- A point reads its rows of the resident gradient. -/
theorem off : ∀ t : Fin cfg0.N, k0_off1 (grid0.coords t) 0 = t.val % 4 * 1088 ∧ k0_off1 (grid0.coords t) 1 = 0 :=
  (by decide +kernel : ∀ t : Fin grid0.N, _)

/-- A shard's gradient of the hidden columns, times the saved factor. -/
def scaled (d : FVec Ideal S4352x2048 .bf16) (w : FVec Ideal S8x704x2048 .bf16) (f : FVec Ideal S8x4352x704 .bf16) : FVec Ideal S8x4352x704 .bf16 := fun y =>
  ((∑ k : Fin 2048, (d (ix2 (y 1) k) : EReal) * (w (ix3 (y 0) (y 2) k) : EReal)) * (f (ix3 (y 0) (y 1) (y 2)) : EReal) : EReal)

/-- The gate's half takes the saved factor of its gradient. -/
theorem closed4 (c : Dev nD) : (dats m 0 c).arrAt 4 (cfgs 0).N = scaled (V m c main_v16) (V m c main_v18) (V m c main_v24) := by
  refine (dats m 0 c).arrAt_eq_of_covers 4 _ (by decide +kernel) fun t hf y => ?_
  blk_simp
  rw [after0_4]
  unfold outsAt0
  frame_out
  idx_vars y
  unfold scaled
  pointwise [k0_pay3, k0_pay1]
  blk_point [iblk, idx t, off t]

/-- The up projection's half takes the saved silu. -/
theorem closed5 (c : Dev nD) : (dats m 0 c).arrAt 5 (cfgs 0).N = scaled (V m c main_v16) (V m c main_v18) (V m c main_v21) := by
  refine (dats m 0 c).arrAt_eq_of_covers 5 _ (by decide +kernel) fun t hf y => ?_
  blk_simp
  rw [after0_5]
  unfold outsAt0
  frame_out
  idx_vars y
  unfold scaled
  pointwise [k0_pay2, k0_pay1]
  blk_point [iblk, idx t, off t]

end Cert.ActIdeal.Final

end
-- ==== Proof.ActHost.lean ====
/- What the host code before the feed-forward call leaves: the saved halves of the activation, in shards. -/
module

public import proofs.«01_k».proof.Proof.Gen.ActIdeal.Value
public import proofs.«01_k».proof.Proof.Gen.ActReferenceIdeal.Run
public import proofs.«01_k».proof.Proof.Gen.ActReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ActIdeal.Host

open Cert.ActIdeal Cert.ActIdeal.Gen Cert.ActReferenceIdeal.Read

variable (m : (ℓ : Loc nD τ sig) → Buf (Elt Ideal) ℓ)

/-- The hidden columns, cut into the shards. -/
def cut (X : FVec Ideal S4352x5632 .f32) : FVec Ideal S8x4352x704 .f32 := fun y => X (ix2 (y 1) ⟨(y 0).val * 704 + (y 2).val, by have := (y 0).isLt; have := (y 2).isLt; simp only [Matrix.cons_val_zero, Matrix.cons_val_one, Matrix.cons_val] at *; omega⟩)

/-- The gate's gradient, in shards. -/
theorem cut_ref_gate (x0 : FVec Ideal S4352x2048 .f32) (x1 x2 : FVec Ideal S2048x5632 .f32) (x3 : FVec Ideal S5632x2048 .f32) (x4 : FVec Ideal S4352x2048 .f32) :
    val_main_v13 (F := Ideal) x0 x1 x2 x3 x4 = cut (val_main_v10 (F := Ideal) x0 x1 x2 x3 x4) := by
  funext y
  obtain ⟨j, r, q, rfl⟩ : ∃ (j : Fin 8) (r : Fin 4352) (q : Fin 704), y = ix3 j r q := ⟨y 0, y 1, y 2, eq_ix3 y⟩
  unfold val_main_v13 val_main_v12 val_main_v11
  generalize val_main_v10 (F := Ideal) x0 x1 x2 x3 x4 = X
  pointwise [cut]

/-- The up projection's gradient, in shards. -/
theorem cut_ref_up (x0 : FVec Ideal S4352x2048 .f32) (x1 : FVec Ideal S2048x5632 .f32) (x3 : FVec Ideal S5632x2048 .f32) (x4 : FVec Ideal S4352x2048 .f32) :
    val_main_v16 (F := Ideal) x0 x1 x3 x4 = cut (val_main_v8 (F := Ideal) x0 x1 x3 x4) := by
  funext y
  obtain ⟨j, r, q, rfl⟩ : ∃ (j : Fin 8) (r : Fin 4352) (q : Fin 704), y = ix3 j r q := ⟨y 0, y 1, y 2, eq_ix3 y⟩
  unfold val_main_v16 val_main_v15 val_main_v14
  generalize val_main_v8 (F := Ideal) x0 x1 x3 x4 = X
  pointwise [cut]

variable (c : Dev nD)

theorem grad_eq : V m c main_v16 = fun y => m (c.tc.loc main_arg4) y := by
  unfold V; after_results; try rfl

theorem down_eq (j : Fin 8) (q : Fin 704) (k : Fin 2048) : V m c main_v18 (ix3 j q k) = m (c.tc.loc main_arg3) (ix2 ⟨j.val * 704 + q.val, by omega⟩ k) := by
  unfold V; after_results; pointwise; try rfl

/-- The host's cut into shards, as an array of columns. -/
theorem cut_of (X : FVec Ideal S4352x5632 .f32) (y : S8x4352x704.Idx) :
    truncf .bf16 (transpose S8x4352x704 [1, 0, 2] (shapeCast S4352x8x704 X shapeCasts_S4352x5632_S4352x8x704) transposes_S4352x8x704_S8x4352x704_1_0_2) bitsLt_bf16_f32 y = cut X y := by
  obtain ⟨j, r, q, rfl⟩ : ∃ (j : Fin 8) (r : Fin 4352) (q : Fin 704), y = ix3 j r q := ⟨y 0, y 1, y 2, eq_ix3 y⟩
  pointwise [cut]

theorem act_eq (y : S8x4352x704.Idx) : V m c main_v21 y = cut (val_main_v2_0 (F := Ideal) (m (c.tc.loc main_arg0)) (m (c.tc.loc main_arg1))) y := by
  unfold V; after_results
  exact cut_of _ y

/-- One, for every hidden column. -/
def ones : FVec Ideal S4352x5632 .f32 := broadcastInDim S4352x5632 ![] bcast_S_S4352x5632 (constant S_ .f32 0x3F800000#32)

/-- The saved factor of the gate's gradient. -/
def factor (x0 : FVec Ideal S4352x2048 .f32) (x1 x2 : FVec Ideal S2048x5632 .f32) : FVec Ideal S4352x5632 .f32 :=
  mulf (val_main_v1 (F := Ideal) x0 x2) (mulf (val_main_v2_2 (F := Ideal) x0 x1) (addf ones (mulf (val_main_v0 (F := Ideal) x0 x1) (subf ones (val_main_v2_2 (F := Ideal) x0 x1)))))

theorem factor_eq (y : S8x4352x704.Idx) : V m c main_v24 y = cut (factor (m (c.tc.loc main_arg0)) (m (c.tc.loc main_arg1)) (m (c.tc.loc main_arg2))) y := by
  unfold V; after_results
  exact cut_of _ y

end Cert.ActIdeal.Host

end
-- ==== Proof.ActElement.lean ====
/- One element of the gate's gradient: the saved factor and the derivative of the activation agree on real numbers. -/
module

public import Idealize.ShloMosaic.PureOps.Ideal.Laws
public import proofs.«01_k».proof.Proof.Softmax

@[expose] public section

noncomputable section

open Idealize.ShloMosaic

namespace Cert.ActElement

open Cert.Softmax

theorem one_bits : Ideal.ofBits .f32 0x3F800000#32 = ((1 : ℝ) : EReal) := by
  show Ideal.ieee 8 23 0x3F800000#32 = _
  unfold Ideal.ieee
  simp
  rw [← EReal.coe_mul]
  norm_num

/-- The gradient through the gate: the saved factor on the left, the derivative of `g * σ g` on the right. -/
theorem gate (D u g s : ℝ) :
    (D : EReal) * ((u : EReal) * ((s : EReal) * (((1 : ℝ) : EReal) + (g : EReal) * (((1 : ℝ) : EReal) - (s : EReal)))))
      = (D : EReal) * (u : EReal) * (s : EReal) + (g : EReal) * ((D : EReal) * (u : EReal)) * ((s : EReal) * (((1 : ℝ) : EReal) - (s : EReal))) := by
  simp only [← EReal.coe_sub, ← EReal.coe_mul, ← EReal.coe_add]
  congr 1
  ring

/-- The same for any gate, the infinities included: where the gate is infinite, both sides are the pulled-back gradient times the logistic function's limit. -/
theorem gate_any (D u : ℝ) (g : EReal) :
    (D : EReal) * ((u : EReal) * (Ideal.logistic g * (((1 : ℝ) : EReal) + g * (((1 : ℝ) : EReal) - Ideal.logistic g))))
      = (D : EReal) * (u : EReal) * Ideal.logistic g + g * ((D : EReal) * (u : EReal)) * (Ideal.logistic g * (((1 : ℝ) : EReal) - Ideal.logistic g)) := by
  have z : ((1 : ℝ) : EReal) - (1 : EReal) = 0 := by rw [← EReal.coe_one, ← EReal.coe_sub]; simp
  induction g with
  | bot => rw [Ideal.logistic_bot]; simp only [zero_mul, mul_zero, add_zero]
  | top => rw [Ideal.logistic_top, z]; simp only [mul_zero, add_zero, mul_one, one_mul]; rw [EReal.coe_one, mul_one]
  | coe g => rw [Ideal.logistic_coe]; exact gate D u g _

/-- The logistic function, spelled out. -/
theorem logistic_eq (g : EReal) : Ideal.div ((1 : ℝ) : EReal) (((1 : ℝ) : EReal) + Ideal.exp (-g)) = Ideal.logistic g := by
  rw [EReal.coe_one]; rfl

end Cert.ActElement

end
-- ==== Proof.ActMeet.lean ====
/- The call's two halves are the reference's gradients of the hidden pre-activations. -/
module

public import proofs.«01_k».proof.Proof.Gen.ActIdeal.Value
public import proofs.«01_k».proof.Proof.Gen.ActReferenceIdeal.Run
public import proofs.«01_k».proof.Proof.Gen.ActReferenceIdeal.Read
public import proofs.«01_k».proof.Proof.Act
public import proofs.«01_k».proof.Proof.ActHost
public import proofs.«01_k».proof.Proof.ActElement
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ActIdeal.Final

open Cert.ActIdeal Cert.ActIdeal.Gen Cert.ActReferenceIdeal.Read

variable (m : (ℓ : Loc nD τ sig) → Buf (Elt Ideal) ℓ)

open Cert.ActIdeal.Host Cert.ActElement Cert.Softmax

theorem add_read {S : Shape} {f : FTy} (A B : FVec Ideal S f) (i : S.Idx) : addf A B i = (A i + B i : EReal) := rfl
theorem sub_read {S : Shape} {f : FTy} (A B : FVec Ideal S f) (i : S.Idx) : subf A B i = (A i - B i : EReal) := rfl
theorem mul_read {S : Shape} {f : FTy} (A B : FVec Ideal S f) (i : S.Idx) : mulf A B i = (A i * B i : EReal) := rfl
theorem div_read {S : Shape} {f : FTy} (A B : FVec Ideal S f) (i : S.Idx) : Host.divf A B i = Ideal.div (A i) (B i) := rfl
theorem exp_read {S : Shape} {f : FTy} (A : FVec Ideal S f) (i : S.Idx) : Host.exp A i = Ideal.exp (A i) := rfl
theorem neg_read {S : Shape} {f : FTy} (A : FVec Ideal S f) (i : S.Idx) : Host.negf A i = (-(A i) : EReal) := rfl

theorem ones_read (i : S4352x5632.Idx) : ones i = ((1 : ℝ) : EReal) := by
  rw [← one_bits]; rfl
theorem ones2_read (i : S4352x5632.Idx) : val_main_call0_v2 (F := Ideal) i = ((1 : ℝ) : EReal) := by
  rw [← one_bits]; rfl
theorem ones4_read (i : S4352x5632.Idx) : val_main_call0_v4 (F := Ideal) i = ((1 : ℝ) : EReal) := by
  rw [← one_bits]; rfl
theorem ones6_read (i : S4352x5632.Idx) : val_main_call0_v6 (F := Ideal) i = ((1 : ℝ) : EReal) := by
  rw [← one_bits]; rfl

/-- The hidden columns' gradient. -/
theorem pull_read (x3 : FVec Ideal S5632x2048 .f32) (x4 : FVec Ideal S4352x2048 .f32) (r : Fin 4352) (h : Fin 5632) :
    val_main_v7 (F := Ideal) x3 x4 (ix2 r h) = (∑ k : Fin 2048, (x4 (ix2 r k) : EReal) * (x3 (ix2 h k) : EReal) : EReal) := by
  pointwise [val_main_v7]

/-- A product of arrays of real numbers is real. -/
theorem dot_real {n : ℕ} (f g : Fin n → EReal) (hf : ∀ k, ∃ a : ℝ, f k = (a : EReal)) (hg : ∀ k, ∃ a : ℝ, g k = (a : EReal)) : ∃ a : ℝ, ∑ k, f k * g k = (a : EReal) := by
  choose u hu using hf
  choose v hv using hg
  exact ⟨_, by simp only [hu, hv]; exact coe_dot u v⟩

theorem up_real (x0 : FVec Ideal S4352x2048 .f32) (x2 : FVec Ideal S2048x5632 .f32) (h0 : ∀ i, ∃ a : ℝ, x0 i = (a : EReal)) (h2 : ∀ i, ∃ a : ℝ, x2 i = (a : EReal))
    (r : Fin 4352) (h : Fin 5632) : ∃ a : ℝ, val_main_v1 (F := Ideal) x0 x2 (ix2 r h) = (a : EReal) := by
  have e : val_main_v1 (F := Ideal) x0 x2 (ix2 r h) = (∑ k : Fin 2048, (x0 (ix2 r k) : EReal) * (x2 (ix2 k h) : EReal) : EReal) := by
    pointwise [val_main_v1]
  rw [e]
  exact dot_real _ _ (fun k => h0 _) fun k => h2 _

/-- The logistic function of the gate. -/
theorem sig_read (x0 : FVec Ideal S4352x2048 .f32) (x1 : FVec Ideal S2048x5632 .f32) (i : S4352x5632.Idx) :
    val_main_v2_2 (F := Ideal) x0 x1 i = Ideal.logistic (val_main_v0 (F := Ideal) x0 x1 i) := by
  unfold val_main_v2_2 val_main_call0_v3 val_main_call0_v1 val_main_call0_v0
  rw [div_read, add_read, exp_read, neg_read, ones2_read, ones4_read, logistic_eq]

/-- The gradient of the gate, one element. -/
theorem gate_element (x0 : FVec Ideal S4352x2048 .f32) (x1 x2 : FVec Ideal S2048x5632 .f32) (x3 : FVec Ideal S5632x2048 .f32) (x4 : FVec Ideal S4352x2048 .f32)
    (h0 : ∀ i, ∃ a : ℝ, x0 i = (a : EReal)) (h2 : ∀ i, ∃ a : ℝ, x2 i = (a : EReal)) (h3 : ∀ i, ∃ a : ℝ, x3 i = (a : EReal)) (h4 : ∀ i, ∃ a : ℝ, x4 i = (a : EReal))
    (r : Fin 4352) (h : Fin 5632) :
    ((∑ k : Fin 2048, (x4 (ix2 r k) : EReal) * (x3 (ix2 h k) : EReal)) * (factor x0 x1 x2 (ix2 r h) : EReal) : EReal) = val_main_v10 (F := Ideal) x0 x1 x2 x3 x4 (ix2 r h) := by
  rw [← pull_read]
  obtain ⟨D, hD⟩ : ∃ a : ℝ, val_main_v7 (F := Ideal) x3 x4 (ix2 r h) = (a : EReal) := by
    rw [pull_read]; exact dot_real _ _ (fun k => h4 _) fun k => h3 _
  obtain ⟨u, hu⟩ := up_real x0 x2 h0 h2 r h
  unfold factor val_main_v10 val_main_call1_v1 val_main_call1_v2 val_main_call1_v0 val_main_v9 val_main_v2_1 val_main_call0_v7
  simp only [add_read, mul_read, sub_read, ones_read, ones6_read, sig_read]
  rw [hD, hu]
  exact gate_any _ _ _

/-- A shard's element, over the arrays before the shards. -/
theorem scaled_read (x3 : FVec Ideal S5632x2048 .f32) (x4 : FVec Ideal S4352x2048 .f32) (X : FVec Ideal S4352x5632 .f32) (d : FVec Ideal S4352x2048 .bf16) (w : FVec Ideal S8x704x2048 .bf16) (f : FVec Ideal S8x4352x704 .bf16)
    (hd : d = fun y => x4 y) (hw : ∀ (j : Fin 8) (q : Fin 704) (k : Fin 2048), w (ix3 j q k) = x3 (ix2 ⟨j.val * 704 + q.val, by omega⟩ k)) (hf : ∀ y, f y = cut X y) (j : Fin 8) (r : Fin 4352) (q : Fin 704) :
    scaled d w f (ix3 j r q) = ((∑ k : Fin 2048, (x4 (ix2 r k) : EReal) * (x3 (ix2 (⟨j.val * 704 + q.val, by omega⟩ : Fin 5632) k) : EReal)) * (X (ix2 r (⟨j.val * 704 + q.val, by omega⟩ : Fin 5632)) : EReal) : EReal) := by
  subst hd
  show ((∑ k : Fin 2048, (x4 (ix2 r k) : EReal) * (w (ix3 j q k) : EReal)) * (f (ix3 j r q) : EReal) : EReal) = _
  simp only [hw, hf]
  rfl

theorem gate_arrays (x0 : FVec Ideal S4352x2048 .f32) (x1 x2 : FVec Ideal S2048x5632 .f32) (x3 : FVec Ideal S5632x2048 .f32) (x4 : FVec Ideal S4352x2048 .f32) (d : FVec Ideal S4352x2048 .bf16) (w : FVec Ideal S8x704x2048 .bf16) (f : FVec Ideal S8x4352x704 .bf16)
    (hd : d = fun y => x4 y) (hw : ∀ (j : Fin 8) (q : Fin 704) (k : Fin 2048), w (ix3 j q k) = x3 (ix2 ⟨j.val * 704 + q.val, by omega⟩ k)) (hf : ∀ y, f y = cut (factor x0 x1 x2) y)
    (h0 : ∀ i, ∃ a : ℝ, x0 i = (a : EReal)) (h2 : ∀ i, ∃ a : ℝ, x2 i = (a : EReal)) (h3 : ∀ i, ∃ a : ℝ, x3 i = (a : EReal)) (h4 : ∀ i, ∃ a : ℝ, x4 i = (a : EReal)) :
    scaled d w f = val_main_v13 (F := Ideal) x0 x1 x2 x3 x4 := by
  rw [cut_ref_gate]
  funext y
  obtain ⟨j, r, q, rfl⟩ : ∃ (j : Fin 8) (r : Fin 4352) (q : Fin 704), y = ix3 j r q := ⟨y 0, y 1, y 2, eq_ix3 y⟩
  exact (scaled_read x3 x4 (factor x0 x1 x2) d w f hd hw hf j r q).trans (gate_element x0 x1 x2 x3 x4 h0 h2 h3 h4 r ⟨j.val * 704 + q.val, by omega⟩)

theorem up_arrays (x0 : FVec Ideal S4352x2048 .f32) (x1 : FVec Ideal S2048x5632 .f32) (x3 : FVec Ideal S5632x2048 .f32) (x4 : FVec Ideal S4352x2048 .f32) (d : FVec Ideal S4352x2048 .bf16) (w : FVec Ideal S8x704x2048 .bf16) (f : FVec Ideal S8x4352x704 .bf16)
    (hd : d = fun y => x4 y) (hw : ∀ (j : Fin 8) (q : Fin 704) (k : Fin 2048), w (ix3 j q k) = x3 (ix2 ⟨j.val * 704 + q.val, by omega⟩ k)) (hf : ∀ y, f y = cut (val_main_v2_0 (F := Ideal) x0 x1) y) :
    scaled d w f = val_main_v16 (F := Ideal) x0 x1 x3 x4 := by
  rw [cut_ref_up]
  funext y
  obtain ⟨j, r, q, rfl⟩ : ∃ (j : Fin 8) (r : Fin 4352) (q : Fin 704), y = ix3 j r q := ⟨y 0, y 1, y 2, eq_ix3 y⟩
  refine (scaled_read x3 x4 (val_main_v2_0 (F := Ideal) x0 x1) d w f hd hw hf j r q).trans ?_
  unfold val_main_v8
  generalize val_main_v2_0 (F := Ideal) x0 x1 = X
  rw [← pull_read]
  exact @mul_comm EReal _ _ _

variable (c : Dev nD)

/-- The gate's gradient. -/
theorem gate_meet (h0 : ∀ i, ∃ a : ℝ, m (c.tc.loc main_arg0) i = (a : EReal)) (h2 : ∀ i, ∃ a : ℝ, m (c.tc.loc main_arg2) i = (a : EReal))
    (h3 : ∀ i, ∃ a : ℝ, m (c.tc.loc main_arg3) i = (a : EReal)) (h4 : ∀ i, ∃ a : ℝ, m (c.tc.loc main_arg4) i = (a : EReal)) :
    (dats m 0 c).arrAt 4 (cfgs 0).N = val_main_v13 (F := Ideal) (m (c.tc.loc main_arg0)) (m (c.tc.loc main_arg1)) (m (c.tc.loc main_arg2)) (m (c.tc.loc main_arg3)) (m (c.tc.loc main_arg4)) :=
  (closed4 m c).trans (gate_arrays _ _ _ _ _ _ _ _ (grad_eq m c) (down_eq m c) (factor_eq m c) h0 h2 h3 h4)

/-- The up projection's gradient. -/
theorem up_meet : (dats m 0 c).arrAt 5 (cfgs 0).N = val_main_v16 (F := Ideal) (m (c.tc.loc main_arg0)) (m (c.tc.loc main_arg1)) (m (c.tc.loc main_arg3)) (m (c.tc.loc main_arg4)) :=
  (closed5 m c).trans (up_arrays _ _ _ _ _ _ _ (grad_eq m c) (down_eq m c) (act_eq m c))

end Cert.ActIdeal.Final

end
-- ==== Proof.FiniteFfn.lean ====
/- The precondition, element by element: every element of the feed-forward layer's arguments, the gate's matrix apart, is a real number. -/
module

public import proofs.«01_k».proof.Defs
public import proofs.«01_k».proof.Proof.Finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite_ffn.Real

open Cert.Pre_finite_ffn

theorem facts : Facts where
  bcast_S_S4352x2048 := by decide
  reducesTo_S4352x2048_S_d0_1 := by decide
  h_S_ := by decide
  bcast_S_S2048x5632 := by decide
  reducesTo_S2048x5632_S_d0_1 := by decide
  bcast_S_S5632x2048 := by decide
  reducesTo_S5632x2048_S_d0_1 := by decide

open Cert.Pre_finite.Real (below)

theorem and_one (a b : BitVec 1) (h : IntOp.andi a b = 1#1) : a = 1#1 ∧ b = 1#1 := by
  revert a b; decide

variable [Facts]

theorem reals (x0 : FVec Ideal S4352x2048 .f32) (x1 x2 : FVec Ideal S2048x5632 .f32) (x3 : FVec Ideal S5632x2048 .f32) (x4 : FVec Ideal S4352x2048 .f32)
    (h : fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal)) ∧ ∀ i, ∃ r : ℝ, x4 i = (r : EReal) := by
  have h0 := congrFun h ix0
  dsimp only [fn, fn_part1] at h0
  obtain ⟨h0, e4⟩ := and_one _ _ h0
  obtain ⟨h0, e3⟩ := and_one _ _ h0
  obtain ⟨e0, e2⟩ := and_one _ _ h0
  exact ⟨fun i => below x0 _ i (Host.reduce_andi_all _ _ _ _ _ e0 i), fun i => below x2 _ i (Host.reduce_andi_all _ _ _ _ _ e2 i),
    fun i => below x3 _ i (Host.reduce_andi_all _ _ _ _ _ e3 i), fun i => below x4 _ i (Host.reduce_andi_all _ _ _ _ _ e4 i)⟩

end Cert.Pre_finite_ffn.Real

end
-- ==== Proof.ActClaims.lean ====
/- The claims of the gradients of the hidden pre-activations. -/
module

public import proofs.«01_k».proof.Defs
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.ActMeet
public import proofs.«01_k».proof.Proof.FiniteFfn
public import Idealize.ShloMosaic.Adequacy
public import Idealize.ShloMosaic.Init

@[expose] public section

noncomputable section

namespace Cert.Proof.Act

open Idealize.ShloMosaic Idealize.ShloMosaic.TcCoe Idealize.SL.Sem

local instance : Cert.Act.Facts := Cert.Act.Gen.facts
local instance : Cert.ActIdeal.Facts := Cert.ActIdeal.Gen.facts
local instance : Cert.ActReferenceIdeal.Facts := Cert.ActReferenceIdeal.Gen.facts
local instance : Cert.Pre_finite_ffn.Facts := Cert.Pre_finite_ffn.Real.facts

theorem frame : Cert.quiescent_Act := fun m ρ _ => Cert.Act.Gen.frame m ρ

theorem frameIdeal : Cert.quiescent_ActIdeal := fun m ρ _ => Cert.ActIdeal.Gen.frame m ρ

theorem reference : Cert.quiescent_ActReferenceIdeal := fun m g _ =>
  (θ_run _ _ _).mono (fun r h => ⟨fun c => (h c).2.2, by funext x; rcases x with ⟨_, s | s⟩ <;> exact s.elim0⟩) (Cert.ActReferenceIdeal.Value.run m g)

theorem same4 {A B C D E : Type} (f : A → B → C → D → E) {a a' : A} {b b' : B} {c c' : C} {d d' : D} (h0 : a = a') (h1 : b = b') (h2 : c = c') (h3 : d = d') :
    f a b c d = f a' b' c' d' := by
  rw [h0, h1, h2, h3]

theorem same5 {A B C D E F : Type} (f : A → B → C → D → E → F) {a a' : A} {b b' : B} {c c' : C} {d d' : D} {e e' : E} (h0 : a = a') (h1 : b = b') (h2 : c = c') (h3 : d = d') (h4 : e = e') :
    f a b c d e = f a' b' c' d' e' := by
  rw [h0, h1, h2, h3, h4]

theorem algebraic : Cert.algebraic_ActIdeal_ActReferenceIdeal_pre_finite_ffn := by
  intro m g m' g' hpre hagree
  refine ⟨fun c => (Cert.ActIdeal.Gen.dats m 0 c).arrAt 4 Cert.ActIdeal.cfg0.N, fun c => (Cert.ActIdeal.Gen.dats m 0 c).arrAt 5 Cert.ActIdeal.cfg0.N,
    Cert.ActIdeal.Value.run_blocks m g, ?_⟩
  refine (θ_run _ _ _).mono (fun r h c => ?_) (Cert.ActReferenceIdeal.Value.run m' g')
  obtain ⟨e0, e1, k⟩ := h c
  obtain ⟨h0, h2, h3, h4⟩ := Cert.Pre_finite_ffn.Real.reals _ _ _ _ _ (hpre c)
  obtain ⟨a0, a1, a2, a3, a4⟩ := hagree c
  exact ⟨e0.trans ((Cert.ActReferenceIdeal.Read.val_main_v13_eq _ _ _ _ _).trans ((same5 (Cert.ActReferenceIdeal.Read.val_main_v13 (F := Ideal)) a0 a1 a2 a3 a4).trans (Cert.ActIdeal.Final.gate_meet m c h0 h2 h3 h4).symm)),
    e1.trans ((Cert.ActReferenceIdeal.Read.val_main_v16_eq _ _ _ _).trans ((same4 (Cert.ActReferenceIdeal.Read.val_main_v16 (F := Ideal)) a0 a1 a3 a4).trans (Cert.ActIdeal.Final.up_meet m c).symm)), k⟩

end Cert.Proof.Act

end
-- ==== Proof.Up.lean ====
/- The feed-forward layer's hidden columns, from the call. -/
module

public import proofs.«01_k».proof.Proof.Gen.UpIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Final

open Cert.UpIdeal Cert.UpIdeal.Gen Cert.UpReferenceIdeal.Read

variable (m : (ℓ : Loc nD τ sig) → Buf (Elt Ideal) ℓ)

theorem idx : ∀ t : Fin cfg0.N, win0_0.index t = ![0, 0] ∧ win0_1.index t = ![t.val / 4, 0, 0] ∧ win0_2.index t = ![t.val / 4, 0, 0] ∧ win0_3.index t = ![t.val / 4, t.val % 4, 0] ∧ win0_4.index t = ![t.val / 4, t.val % 4, 0] ∧ win0_5.index t = ![t.val / 4, t.val % 4, 0] :=
  (by decide +kernel : ∀ t : Fin grid0.N, _)

/-- A point reads its rows of the resident operand. -/
theorem off : ∀ t : Fin cfg0.N, k0_off1 (grid0.coords t) 0 = t.val % 4 * 1088 ∧ k0_off1 (grid0.coords t) 1 = 0 :=
  (by decide +kernel : ∀ t : Fin grid0.N, _)

/-- A shard's hidden columns, before the activation. -/
def pre (x : FVec Ideal S4352x2048 .bf16) (w : FVec Ideal S8x704x2048 .bf16) (j : Fin 8) (r : Fin 4352) (q : Fin 704) : EReal :=
  ∑ k : Fin 2048, (x (ix2 r k) : EReal) * (w (ix3 j q k) : EReal)

/-- The logistic function. -/
def sg (g : EReal) : EReal := Ideal.logistic g

/-- silu of the gate. -/
def silu (x : FVec Ideal S4352x2048 .bf16) (wg : FVec Ideal S8x704x2048 .bf16) : FVec Ideal S8x4352x704 .bf16 := fun y =>
  (pre x wg (y 0) (y 1) (y 2) * sg (pre x wg (y 0) (y 1) (y 2)) : EReal)

/-- The factor of the gate's gradient. -/
def slope (x : FVec Ideal S4352x2048 .bf16) (wg wu : FVec Ideal S8x704x2048 .bf16) : FVec Ideal S8x4352x704 .bf16 := fun y =>
  (pre x wu (y 0) (y 1) (y 2) * (sg (pre x wg (y 0) (y 1) (y 2)) * (Ideal.ofBits .f32 0x3F800000#32 + pre x wg (y 0) (y 1) (y 2) * (Ideal.ofBits .f32 0x3F800000#32 - sg (pre x wg (y 0) (y 1) (y 2))))) : EReal)

/-- The activation. -/
def act (x : FVec Ideal S4352x2048 .bf16) (wg wu : FVec Ideal S8x704x2048 .bf16) : FVec Ideal S8x4352x704 .bf16 := fun y =>
  (pre x wg (y 0) (y 1) (y 2) * sg (pre x wg (y 0) (y 1) (y 2)) * pre x wu (y 0) (y 1) (y 2) : EReal)

/-- The first array. -/
theorem closed_silu (c : Dev nD) : (dats m 0 c).arrAt 3 (cfgs 0).N = silu (m (c.tc.loc main_arg0)) (m (c.tc.loc main_arg1)) := by
  refine (dats m 0 c).arrAt_eq_of_covers 3 _ (by decide +kernel) fun t hf y => ?_
  blk_simp
  rw [after0_3]
  unfold outsAt0
  frame_out
  idx_vars y
  unfold silu pre sg
  pointwise [k0_pay5, k0_pay4, k0_pay3, k0_pay1]
  blk_point [iblk, V, idx t, off t]

/-- The second array. -/
theorem closed_slope (c : Dev nD) : (dats m 0 c).arrAt 4 (cfgs 0).N = slope (m (c.tc.loc main_arg0)) (m (c.tc.loc main_arg1)) (m (c.tc.loc main_arg2)) := by
  refine (dats m 0 c).arrAt_eq_of_covers 4 _ (by decide +kernel) fun t hf y => ?_
  blk_simp
  rw [after0_4]
  unfold outsAt0
  frame_out
  idx_vars y
  unfold slope pre sg
  pointwise [k0_pay6, k0_pay3, k0_pay2, k0_pay1]
  blk_point [iblk, V, idx t, off t]

/-- The third array. -/
theorem closed_act (c : Dev nD) : (dats m 0 c).arrAt 5 (cfgs 0).N = act (m (c.tc.loc main_arg0)) (m (c.tc.loc main_arg1)) (m (c.tc.loc main_arg2)) := by
  refine (dats m 0 c).arrAt_eq_of_covers 5 _ (by decide +kernel) fun t hf y => ?_
  blk_simp
  rw [after0_5]
  unfold outsAt0
  frame_out
  idx_vars y
  unfold act pre sg
  pointwise [k0_pay7, k0_pay4, k0_pay3, k0_pay2, k0_pay1]
  blk_point [iblk, V, idx t, off t]

end Cert.UpIdeal.Final

end
-- ==== Proof.UpMeet.lean ====
/- The call's three arrays are the reference's: silu of the gate, the derivative by the gate, and the activation. -/
module

public import proofs.«01_k».proof.Proof.Gen.UpIdeal.Value
public import proofs.«01_k».proof.Proof.Gen.UpReferenceIdeal.Run
public import proofs.«01_k».proof.Proof.Gen.UpReferenceIdeal.Read
public import proofs.«01_k».proof.Proof.Up
public import proofs.«01_k».proof.Proof.ActElement
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Final

open Cert.UpIdeal Cert.UpIdeal.Gen Cert.UpReferenceIdeal.Read

open Cert.ActElement Cert.Softmax

theorem add_read {S : Shape} {f : FTy} (A B : FVec Ideal S f) (i : S.Idx) : addf A B i = (A i + B i : EReal) := rfl
theorem sub_read {S : Shape} {f : FTy} (A B : FVec Ideal S f) (i : S.Idx) : subf A B i = (A i - B i : EReal) := rfl
theorem mul_read {S : Shape} {f : FTy} (A B : FVec Ideal S f) (i : S.Idx) : mulf A B i = (A i * B i : EReal) := rfl
theorem div_read {S : Shape} {f : FTy} (A B : FVec Ideal S f) (i : S.Idx) : Host.divf A B i = Ideal.div (A i) (B i) := rfl
theorem exp_read {S : Shape} {f : FTy} (A : FVec Ideal S f) (i : S.Idx) : Host.exp A i = Ideal.exp (A i) := rfl
theorem neg_read {S : Shape} {f : FTy} (A : FVec Ideal S f) (i : S.Idx) : Host.negf A i = (-(A i) : EReal) := rfl

theorem ones2_read (i : Cert.UpReferenceIdeal.S4352x5632.Idx) : val_main_call0_v2 (F := Ideal) i = ((1 : ℝ) : EReal) := by
  rw [← one_bits]; rfl
theorem ones4_read (i : Cert.UpReferenceIdeal.S4352x5632.Idx) : val_main_call0_v4 (F := Ideal) i = ((1 : ℝ) : EReal) := by
  rw [← one_bits]; rfl
theorem ones6_read (i : Cert.UpReferenceIdeal.S4352x5632.Idx) : val_main_call0_v6 (F := Ideal) i = ((1 : ℝ) : EReal) := by
  rw [← one_bits]; rfl
theorem ones12_read (i : Cert.UpReferenceIdeal.S4352x5632.Idx) : val_main_call1_v2 (F := Ideal) i = ((1 : ℝ) : EReal) := by
  rw [← one_bits]; rfl
theorem ones14_read (i : Cert.UpReferenceIdeal.S4352x5632.Idx) : val_main_call1_v4 (F := Ideal) i = ((1 : ℝ) : EReal) := by
  rw [← one_bits]; rfl
theorem ct_read (i : Cert.UpReferenceIdeal.S4352x5632.Idx) : val_main_v12 (F := Ideal) i = ((1 : ℝ) : EReal) := by
  rw [← one_bits]; rfl

/-- The hidden columns, cut into the shards. -/
def cut (X : FVec Ideal Cert.UpReferenceIdeal.S4352x5632 .f32) : FVec Ideal S8x4352x704 .f32 := fun y => X (ix2 (y 1) ⟨(y 0).val * 704 + (y 2).val, by have := (y 0).isLt; have := (y 2).isLt; simp only [Matrix.cons_val_zero, Matrix.cons_val_one, Matrix.cons_val] at *; omega⟩)

/-- The reference's cut into shards. -/
theorem cut_of (X : FVec Ideal Cert.UpReferenceIdeal.S4352x5632 .f32) (y : S8x4352x704.Idx) :
    truncf .bf16 (transpose S8x4352x704 [1, 0, 2] (shapeCast Cert.UpReferenceIdeal.S4352x8x704 X Cert.UpReferenceIdeal.Gen.facts.shapeCasts_S4352x5632_S4352x8x704) Cert.UpReferenceIdeal.Gen.facts.transposes_S4352x8x704_S8x4352x704_1_0_2) Cert.UpReferenceIdeal.Gen.facts.bitsLt_bf16_f32 y = cut X y := by
  obtain ⟨j, r, q, rfl⟩ : ∃ (j : Fin 8) (r : Fin 4352) (q : Fin 704), y = ix3 j r q := ⟨y 0, y 1, y 2, eq_ix3 y⟩
  pointwise [cut]

/-- A hidden column of the reference, in its shard. -/
theorem gate_read (x : FVec Ideal S4352x2048 .bf16) (w : FVec Ideal S8x704x2048 .bf16) (j : Fin 8) (r : Fin 4352) (q : Fin 704) :
    val_main_v4 (F := Ideal) x w (ix2 r (⟨j.val * 704 + q.val, by omega⟩ : Fin 5632)) = pre x w j r q := by
  unfold pre
  pointwise [val_main_v4, val_main_v3, val_main_v2, val_main_v1, val_main_v0]

theorem up_read (x : FVec Ideal S4352x2048 .bf16) (w : FVec Ideal S8x704x2048 .bf16) (j : Fin 8) (r : Fin 4352) (q : Fin 704) :
    val_main_v8 (F := Ideal) x w (ix2 r (⟨j.val * 704 + q.val, by omega⟩ : Fin 5632)) = pre x w j r q := by
  rw [← gate_read]; rfl

/-- The logistic function of the gate. -/
theorem sig_read (x0 : FVec Ideal S4352x2048 .bf16) (x1 : FVec Ideal S8x704x2048 .bf16) (i : Cert.UpReferenceIdeal.S4352x5632.Idx) :
    val_main_v9_2 (F := Ideal) x0 x1 i = Ideal.logistic (val_main_v4 (F := Ideal) x0 x1 i) := by
  unfold val_main_v9_2 val_main_call0_v3 val_main_call0_v1 val_main_call0_v0
  rw [div_read, add_read, exp_read, neg_read, ones2_read, ones4_read, logistic_eq]

theorem sig1_read (x0 : FVec Ideal S4352x2048 .bf16) (x1 : FVec Ideal S8x704x2048 .bf16) (i : Cert.UpReferenceIdeal.S4352x5632.Idx) :
    val_main_call1_v5 (F := Ideal) x0 x1 i = Ideal.logistic (val_main_v4 (F := Ideal) x0 x1 i) := by
  unfold val_main_call1_v5 val_main_call1_v3 val_main_call1_v1 val_main_call1_v0
  rw [div_read, add_read, exp_read, neg_read, ones12_read, ones14_read, logistic_eq]

/-- A product of arrays of real numbers is real. -/
theorem pre_real (x : FVec Ideal S4352x2048 .bf16) (w : FVec Ideal S8x704x2048 .bf16) (hx : ∀ i, ∃ a : ℝ, x i = (a : EReal)) (hw : ∀ i, ∃ a : ℝ, w i = (a : EReal))
    (j : Fin 8) (r : Fin 4352) (q : Fin 704) : ∃ a : ℝ, pre x w j r q = (a : EReal) := by
  choose u hu using hx
  choose v hv using hw
  refine ⟨∑ k : Fin 2048, u (ix2 r k) * v (ix3 j q k), ?_⟩
  unfold pre
  simp only [hu, hv]
  exact coe_dot _ _

theorem silu_arrays (x : FVec Ideal S4352x2048 .bf16) (wg : FVec Ideal S8x704x2048 .bf16) : silu x wg = val_main_v17 (F := Ideal) x wg := by
  funext y
  obtain ⟨j, r, q, rfl⟩ : ∃ (j : Fin 8) (r : Fin 4352) (q : Fin 704), y = ix3 j r q := ⟨y 0, y 1, y 2, eq_ix3 y⟩
  refine Eq.trans ?_ (cut_of (val_main_v11 (F := Ideal) x wg) (ix3 j r q)).symm
  show (pre x wg j r q * Ideal.logistic (pre x wg j r q) : EReal) = val_main_v11 (F := Ideal) x wg (ix2 r (⟨j.val * 704 + q.val, by omega⟩ : Fin 5632))
  unfold val_main_v11
  rw [mul_read, sig1_read, gate_read]

theorem act_arrays (x : FVec Ideal S4352x2048 .bf16) (wg wu : FVec Ideal S8x704x2048 .bf16) : act x wg wu = val_main_v23 (F := Ideal) x wg wu := by
  funext y
  obtain ⟨j, r, q, rfl⟩ : ∃ (j : Fin 8) (r : Fin 4352) (q : Fin 704), y = ix3 j r q := ⟨y 0, y 1, y 2, eq_ix3 y⟩
  refine Eq.trans ?_ (cut_of (val_main_v10 (F := Ideal) x wg wu) (ix3 j r q)).symm
  show (pre x wg j r q * Ideal.logistic (pre x wg j r q) * pre x wu j r q : EReal) = val_main_v10 (F := Ideal) x wg wu (ix2 r (⟨j.val * 704 + q.val, by omega⟩ : Fin 5632))
  unfold val_main_v10 val_main_v9_0
  rw [mul_read, mul_read, sig_read, gate_read, up_read]

theorem slope_arrays (x : FVec Ideal S4352x2048 .bf16) (wg wu : FVec Ideal S8x704x2048 .bf16) (hx : ∀ i, ∃ a : ℝ, x i = (a : EReal)) (hu : ∀ i, ∃ a : ℝ, wu i = (a : EReal)) :
    slope x wg wu = val_main_v20 (F := Ideal) x wg wu := by
  funext y
  obtain ⟨j, r, q, rfl⟩ : ∃ (j : Fin 8) (r : Fin 4352) (q : Fin 704), y = ix3 j r q := ⟨y 0, y 1, y 2, eq_ix3 y⟩
  refine Eq.trans ?_ (cut_of (val_main_v14 (F := Ideal) x wg wu) (ix3 j r q)).symm
  show (pre x wu j r q * (Ideal.logistic (pre x wg j r q) * (Ideal.ofBits .f32 0x3F800000#32 + pre x wg j r q * (Ideal.ofBits .f32 0x3F800000#32 - Ideal.logistic (pre x wg j r q)))) : EReal) = val_main_v14 (F := Ideal) x wg wu (ix2 r (⟨j.val * 704 + q.val, by omega⟩ : Fin 5632))
  unfold val_main_v14 val_main_call2_v1 val_main_call2_v2 val_main_call2_v0 val_main_v13 val_main_v9_1 val_main_call0_v7
  simp only [add_read, mul_read, sub_read, ct_read, ones6_read, sig_read, gate_read, up_read]
  obtain ⟨u, e⟩ := pre_real x wu hx hu j r q
  rw [e, one_bits, ← gate_any, EReal.coe_one, one_mul]

variable (m : (ℓ : Loc nD τ sig) → Buf (Elt Ideal) ℓ) (c : Dev nD)

theorem silu_meet : (dats m 0 c).arrAt 3 (cfgs 0).N = val_main_v17 (F := Ideal) (m (c.tc.loc main_arg0)) (m (c.tc.loc main_arg1)) :=
  (closed_silu m c).trans (silu_arrays _ _)

theorem slope_meet (h0 : ∀ i, ∃ a : ℝ, m (c.tc.loc main_arg0) i = (a : EReal)) (h2 : ∀ i, ∃ a : ℝ, m (c.tc.loc main_arg2) i = (a : EReal)) :
    (dats m 0 c).arrAt 4 (cfgs 0).N = val_main_v20 (F := Ideal) (m (c.tc.loc main_arg0)) (m (c.tc.loc main_arg1)) (m (c.tc.loc main_arg2)) :=
  (closed_slope m c).trans (slope_arrays _ _ _ h0 h2)

theorem act_meet : (dats m 0 c).arrAt 5 (cfgs 0).N = val_main_v23 (F := Ideal) (m (c.tc.loc main_arg0)) (m (c.tc.loc main_arg1)) (m (c.tc.loc main_arg2)) :=
  (closed_act m c).trans (act_arrays _ _ _)

end Cert.UpIdeal.Final

end
-- ==== Proof.FiniteUp.lean ====
/- The precondition, element by element: every element of the feed-forward layer's input and of the up projection's matrix is a real number. -/
module

public import proofs.«01_k».proof.Defs
public import proofs.«01_k».proof.Proof.Finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite_up.Real

open Cert.Pre_finite_up

theorem facts : Facts where
  bitsLt_bf16_f32 := by decide
  bcast_S_S4352x2048 := by decide
  reducesTo_S4352x2048_S_d0_1 := by decide
  h_S_ := by decide
  bcast_S_S8x704x2048 := by decide
  reducesTo_S8x704x2048_S_d0_1_2 := by decide

open Cert.Pre_finite.Real (below)

theorem and_one (a b : BitVec 1) (h : IntOp.andi a b = 1#1) : a = 1#1 ∧ b = 1#1 := by
  revert a b; decide

variable [Facts]

theorem reals (x0 : FVec Ideal S4352x2048 .bf16) (x1 x2 : FVec Ideal S8x704x2048 .bf16) (h : fn (F := Ideal) x0 x1 x2 = fun _ => 1#1) :
    (∀ i, ∃ r : ℝ, x0 i = (r : EReal)) ∧ ∀ i, ∃ r : ℝ, x2 i = (r : EReal) := by
  have h0 := congrFun h ix0
  dsimp only [fn] at h0
  obtain ⟨e0, e2⟩ := and_one _ _ h0
  exact ⟨fun i => below (extf .f32 x0 Facts.bitsLt_bf16_f32) _ i (Host.reduce_andi_all _ _ _ _ _ e0 i), fun i => below (extf .f32 x2 Facts.bitsLt_bf16_f32) _ i (Host.reduce_andi_all _ _ _ _ _ e2 i)⟩

end Cert.Pre_finite_up.Real

end
-- ==== Proof.UpClaims.lean ====
/- The claims of the feed-forward layer's hidden columns. -/
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpMeet
public import proofs.«01_k».proof.Proof.FiniteUp
public import Idealize.ShloMosaic.Adequacy
public import Idealize.ShloMosaic.Init

@[expose] public section

noncomputable section

namespace Cert.Proof.Up

open Idealize.ShloMosaic Idealize.ShloMosaic.TcCoe Idealize.SL.Sem

local instance : Cert.Up.Facts := Cert.Up.Gen.facts
local instance : Cert.UpIdeal.Facts := Cert.UpIdeal.Gen.facts
local instance : Cert.UpReferenceIdeal.Facts := Cert.UpReferenceIdeal.Gen.facts
local instance : Cert.Pre_finite_up.Facts := Cert.Pre_finite_up.Real.facts

theorem frame : Cert.quiescent_Up := fun m ρ _ => Cert.Up.Gen.frame m ρ

theorem frameIdeal : Cert.quiescent_UpIdeal := fun m ρ _ => Cert.UpIdeal.Gen.frame m ρ

theorem reference : Cert.quiescent_UpReferenceIdeal := fun m g _ =>
  (θ_run _ _ _).mono (fun r h => ⟨fun c => (h c).2.2.2, by funext x; rcases x with ⟨_, s | s⟩ <;> exact s.elim0⟩) (Cert.UpReferenceIdeal.Value.run m g)

theorem same2 {A B C : Type} (f : A → B → C) {a a' : A} {b b' : B} (h0 : a = a') (h1 : b = b') : f a b = f a' b' := by
  rw [h0, h1]

theorem same3 {A B C D : Type} (f : A → B → C → D) {a a' : A} {b b' : B} {c c' : C} (h0 : a = a') (h1 : b = b') (h2 : c = c') : f a b c = f a' b' c' := by
  rw [h0, h1, h2]

theorem algebraic : Cert.algebraic_UpIdeal_UpReferenceIdeal_pre_finite_up := by
  intro m g m' g' hpre hagree
  refine ⟨fun c => (Cert.UpIdeal.Gen.dats m 0 c).arrAt 3 Cert.UpIdeal.cfg0.N, fun c => (Cert.UpIdeal.Gen.dats m 0 c).arrAt 4 Cert.UpIdeal.cfg0.N, fun c => (Cert.UpIdeal.Gen.dats m 0 c).arrAt 5 Cert.UpIdeal.cfg0.N,
    Cert.UpIdeal.Value.run_blocks m g, ?_⟩
  refine (θ_run _ _ _).mono (fun r h c => ?_) (Cert.UpReferenceIdeal.Value.run m' g')
  obtain ⟨e0, e1, e2, k⟩ := h c
  obtain ⟨h0, h2⟩ := Cert.Pre_finite_up.Real.reals _ _ _ (hpre c)
  obtain ⟨a0, a1, a2⟩ := hagree c
  exact ⟨e0.trans ((Cert.UpReferenceIdeal.Read.val_main_v17_eq _ _).trans ((same2 (Cert.UpReferenceIdeal.Read.val_main_v17 (F := Ideal)) a0 a1).trans (Cert.UpIdeal.Final.silu_meet m c).symm)),
    e1.trans ((Cert.UpReferenceIdeal.Read.val_main_v20_eq _ _ _).trans ((same3 (Cert.UpReferenceIdeal.Read.val_main_v20 (F := Ideal)) a0 a1 a2).trans (Cert.UpIdeal.Final.slope_meet m c h0 h2).symm)),
    e2.trans ((Cert.UpReferenceIdeal.Read.val_main_v23_eq _ _ _).trans ((same3 (Cert.UpReferenceIdeal.Read.val_main_v23 (F := Ideal)) a0 a1 a2).trans (Cert.UpIdeal.Final.act_meet m c).symm)), k⟩

end Cert.Proof.Up

end
-- ==== Proof.Down.lean ====
/- The gradient of the feed-forward layer's second matrix: one product per shard of the hidden columns. -/
module

public import proofs.«01_k».proof.Proof.Gen.DownIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownIdeal.Final

open Cert.DownIdeal Cert.DownIdeal.Gen Cert.DownReferenceIdeal.Read

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

/-- Each shard's block is the reference's rows. -/
theorem final (c : Dev nD) : (dats m 0 c).arrAt 2 (cfgs 0).N = val_main_v9 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v9, val_main_v8, val_main_v7, val_main_v6, val_main_v5, val_main_v4, val_main_v3, val_main_v2, val_main_v1, val_main_v0, val_main_cst]
  refine (Finset.sum_congr rfl fun k _ => @mul_comm EReal _ _ _).trans ?_
  blk_point [iblk, V, idx t]

end Cert.DownIdeal.Final

end
-- ==== Proof.DownClaims.lean ====
/- The claims of the second matrix's gradient. -/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Down
public import Idealize.ShloMosaic.Adequacy
public import Idealize.ShloMosaic.Init

@[expose] public section

noncomputable section

namespace Cert.Proof.Down

open Idealize.ShloMosaic Idealize.ShloMosaic.TcCoe Idealize.SL.Sem

local instance : Cert.Down.Facts := Cert.Down.Gen.facts
local instance : Cert.DownIdeal.Facts := Cert.DownIdeal.Gen.facts
local instance : Cert.DownReferenceIdeal.Facts := Cert.DownReferenceIdeal.Gen.facts

theorem frame : Cert.quiescent_Down := fun m ρ _ => Cert.Down.Gen.frame m ρ

theorem frameIdeal : Cert.quiescent_DownIdeal := fun m ρ _ => Cert.DownIdeal.Gen.frame m ρ

theorem reference : Cert.quiescent_DownReferenceIdeal := fun m g _ =>
  (θ_run _ _ _).mono (fun r h => ⟨fun c => (h c).2, by funext x; rcases x with ⟨_, s | s⟩ <;> exact s.elim0⟩) (Cert.DownReferenceIdeal.Value.run m g)

theorem same2 {A B C : Type} (f : A → B → C) {a a' : A} {b b' : B} (h0 : a = a') (h1 : b = b') : f a b = f a' b' := by
  rw [h0, h1]

theorem algebraic : Cert.algebraic_DownIdeal_DownReferenceIdeal := by
  intro m g m' g' _ hagree
  refine ⟨fun c => (Cert.DownIdeal.Gen.dats m 0 c).arrAt 2 Cert.DownIdeal.cfg0.N, Cert.DownIdeal.Value.run_blocks m g, ?_⟩
  refine (θ_run _ _ _).mono (fun r h c => ?_) (Cert.DownReferenceIdeal.Value.run m' g')
  obtain ⟨e, k⟩ := h c
  obtain ⟨a0, a1⟩ := hagree c
  exact ⟨e.trans ((Cert.DownReferenceIdeal.Read.val_main_v9_eq _ _).trans ((same2 (Cert.DownReferenceIdeal.Read.val_main_v9 (F := Ideal)) a0 a1).trans (Cert.DownIdeal.Final.final m c).symm)), k⟩

end Cert.Proof.Down

end
-- ==== Proof.Gate.lean ====
/- The gradient of the feed-forward layer's gate matrix: one product per shard of the hidden columns. -/
module

public import proofs.«01_k».proof.Proof.Gen.GateIdeal.Value
public import proofs.«01_k».proof.Proof.Gen.GateReferenceIdeal.Run
public import proofs.«01_k».proof.Proof.Gen.GateReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateIdeal.Final

open Cert.GateIdeal Cert.GateIdeal.Gen Cert.GateReferenceIdeal.Read

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

/-- Each shard's block is the reference's columns, transposed. -/
theorem final (c : Dev nD) : (dats m 0 c).arrAt 2 (cfgs 0).N = val_main_v10 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v10, val_main_v9, val_main_v8, val_main_v7, val_main_v6, val_main_v5, val_main_v4, val_main_v3, val_main_v2, val_main_v1, val_main_v0, val_main_cst]
  blk_point [iblk, V, idx t]

end Cert.GateIdeal.Final

end
-- ==== Proof.GateClaims.lean ====
/- The claims of the gate's and the up projection's gradient. -/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gate
public import Idealize.ShloMosaic.Adequacy
public import Idealize.ShloMosaic.Init

@[expose] public section

noncomputable section

namespace Cert.Proof.Gate

open Idealize.ShloMosaic Idealize.ShloMosaic.TcCoe Idealize.SL.Sem

local instance : Cert.Gate.Facts := Cert.Gate.Gen.facts
local instance : Cert.GateIdeal.Facts := Cert.GateIdeal.Gen.facts
local instance : Cert.GateReferenceIdeal.Facts := Cert.GateReferenceIdeal.Gen.facts

theorem frame : Cert.quiescent_Gate := fun m ρ _ => Cert.Gate.Gen.frame m ρ

theorem frameIdeal : Cert.quiescent_GateIdeal := fun m ρ _ => Cert.GateIdeal.Gen.frame m ρ

theorem reference : Cert.quiescent_GateReferenceIdeal := fun m g _ =>
  (θ_run _ _ _).mono (fun r h => ⟨fun c => (h c).2, by funext x; rcases x with ⟨_, s | s⟩ <;> exact s.elim0⟩) (Cert.GateReferenceIdeal.Value.run m g)

theorem same2 {A B C : Type} (f : A → B → C) {a a' : A} {b b' : B} (h0 : a = a') (h1 : b = b') : f a b = f a' b' := by
  rw [h0, h1]

theorem algebraic : Cert.algebraic_GateIdeal_GateReferenceIdeal := by
  intro m g m' g' _ hagree
  refine ⟨fun c => (Cert.GateIdeal.Gen.dats m 0 c).arrAt 2 Cert.GateIdeal.cfg0.N, Cert.GateIdeal.Value.run_blocks m g, ?_⟩
  refine (θ_run _ _ _).mono (fun r h c => ?_) (Cert.GateReferenceIdeal.Value.run m' g')
  obtain ⟨e, k⟩ := h c
  obtain ⟨a0, a1⟩ := hagree c
  exact ⟨e.trans ((Cert.GateReferenceIdeal.Read.val_main_v10_eq _ _).trans ((same2 (Cert.GateReferenceIdeal.Read.val_main_v10 (F := Ideal)) a0 a1).trans (Cert.GateIdeal.Final.final m c).symm)), k⟩

end Cert.Proof.Gate

end
-- ==== Proof.DhnSums.lean ====
/- The gradient of the feed-forward layer's input: the gate's and the up projection's shards, added up. -/
module

public import proofs.«01_k».proof.Proof.Gen.DhnReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DhnIdeal.Final

open Cert.DhnReferenceIdeal Cert.DhnReferenceIdeal.Gen Cert.DhnReferenceIdeal.Read

/-- The product of the shards' columns, added up over the shards. -/
def sums (a : FVec Ideal S8x4352x704 .bf16) (wa : FVec Ideal S8x704x2048 .bf16) (b : FVec Ideal S8x4352x704 .bf16) (wb : FVec Ideal S8x704x2048 .bf16) : FVec Ideal S4352x2048 .f32 := fun y =>
  (∑ j : Fin 8, ((∑ k : Fin 704, (a (ix3 j (y 0) k) : EReal) * (wa (ix3 j k (y 1)) : EReal)) + ∑ k : Fin 704, (b (ix3 j (y 0) k) : EReal) * (wb (ix3 j k (y 1)) : EReal)) : EReal)

/-- A sum of two arrays, read. -/
theorem add_read {S : Shape} {f : FTy} (A B : FVec Ideal S f) (i : S.Idx) : addf A B i = (A i + B i : EReal) := rfl

/-- The sum over the shards is the reference's sum over all hidden columns. -/
theorem same (a : FVec Ideal S8x4352x704 .bf16) (wa : FVec Ideal S8x704x2048 .bf16) (b : FVec Ideal S8x4352x704 .bf16) (wb : FVec Ideal S8x704x2048 .bf16) :
    sums a wa b wb = val_main_v17 (F := Ideal) a wa b wb := by
  funext y
  obtain ⟨r, q, rfl⟩ : ∃ (r : Fin 4352) (q : Fin 2048), y = ix2 r q := ⟨y 0, y 1, eq_ix2 y⟩
  unfold val_main_v17
  rw [add_read]
  have e0 : (val_main_v16 (F := Ideal) a wa (ix2 r q) : EReal) = ∑ j : Fin 8, ∑ k : Fin 704, (a (ix3 j r k) : EReal) * (wa (ix3 j k q) : EReal) := by
    pointwise [val_main_v16, val_main_v11, val_main_v10, val_main_v9, val_main_v2, val_main_v1, val_main_v0]
    refine (Fin.sum_mul_add_congr (S := 8) (n := 704) fun j k hl => ?_).symm
    have ej : (⟨(j.val * 704 + k.val) / 704, by omega⟩ : Fin 8) = j := Fin.ext (show (j.val * 704 + k.val) / 704 = j.val by omega)
    have ek : (⟨(j.val * 704 + k.val) % 704, by omega⟩ : Fin 704) = k := Fin.ext (show (j.val * 704 + k.val) % 704 = k.val by omega)
    show _ = (a (ix3 (⟨(j.val * 704 + k.val) / 704, by omega⟩ : Fin 8) r (⟨(j.val * 704 + k.val) % 704, by omega⟩ : Fin 704)) : EReal) * (wa (ix3 (⟨(j.val * 704 + k.val) / 704, by omega⟩ : Fin 8) (⟨(j.val * 704 + k.val) % 704, by omega⟩ : Fin 704) q) : EReal)
    rw [ej, ek]
  have e1 : (val_main_v15 (F := Ideal) b wb (ix2 r q) : EReal) = ∑ j : Fin 8, ∑ k : Fin 704, (b (ix3 j r k) : EReal) * (wb (ix3 j k q) : EReal) := by
    pointwise [val_main_v15, val_main_v14, val_main_v13, val_main_v12, val_main_v5, val_main_v4, val_main_v3]
    refine (Fin.sum_mul_add_congr (S := 8) (n := 704) fun j k hl => ?_).symm
    have ej : (⟨(j.val * 704 + k.val) / 704, by omega⟩ : Fin 8) = j := Fin.ext (show (j.val * 704 + k.val) / 704 = j.val by omega)
    have ek : (⟨(j.val * 704 + k.val) % 704, by omega⟩ : Fin 704) = k := Fin.ext (show (j.val * 704 + k.val) % 704 = k.val by omega)
    show _ = (b (ix3 (⟨(j.val * 704 + k.val) / 704, by omega⟩ : Fin 8) r (⟨(j.val * 704 + k.val) % 704, by omega⟩ : Fin 704)) : EReal) * (wb (ix3 (⟨(j.val * 704 + k.val) / 704, by omega⟩ : Fin 8) (⟨(j.val * 704 + k.val) % 704, by omega⟩ : Fin 704) q) : EReal)
    rw [ej, ek]
  show (∑ j : Fin 8, ((∑ k : Fin 704, (a (ix3 j r k) : EReal) * (wa (ix3 j k q) : EReal)) + ∑ k : Fin 704, (b (ix3 j r k) : EReal) * (wb (ix3 j k q) : EReal)) : EReal) = _
  rw [e0, e1, Finset.sum_add_distrib, add_comm]

end Cert.DhnIdeal.Final

end
-- ==== Proof.Dhn.lean ====
/- The gradient of the feed-forward layer's input: the gate's and the up projection's shards, added up. -/
module

public import proofs.«01_k».proof.Proof.Gen.DhnIdeal.Value
public import proofs.«01_k».proof.Proof.Gen.DhnReferenceIdeal.Run
public import proofs.«01_k».proof.Proof.Gen.DhnReferenceIdeal.Read
public import proofs.«01_k».proof.Proof.DhnSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DhnIdeal.Final

open Cert.DhnIdeal Cert.DhnIdeal.Gen Cert.DhnReferenceIdeal.Read

variable (m : (ℓ : Loc nD τ sig) → Buf (Elt Ideal) ℓ)

theorem idx : ∀ t : Fin cfg0.N, win0_0.index t = ![0, t.val % 8, 0] ∧ win0_1.index t = ![0, 0, t.val / 8] ∧ win0_2.index t = ![0, t.val % 8, 0] ∧ win0_3.index t = ![0, 0, t.val / 8] ∧ win0_4.index t = ![t.val % 8, t.val / 8] :=
  (by decide +kernel : ∀ t : Fin grid0.N, _)

/-- Each element is a sum over the shards. -/
theorem closed (c : Dev nD) : (dats m 0 c).arrAt 4 (cfgs 0).N = sums (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  unfold sums
  pointwise [k0_pay1, k0_pay2, k0_pay3, k0_pay4, k0_pay5, k0_pay6, k0_pay7, k0_pay8, k0_pay9]
  rw [Fin.sum_univ_eight]
  blk_point [iblk, V, idx t]

/-- … which is the reference's sum over all hidden columns. -/
theorem final (c : Dev nD) : (dats m 0 c).arrAt 4 (cfgs 0).N = val_main_v17 (F := Ideal) (m (c.tc.loc main_arg0)) (m (c.tc.loc main_arg1)) (m (c.tc.loc main_arg2)) (m (c.tc.loc main_arg3)) := by
  rw [closed]
  generalize m (c.tc.loc main_arg0) = a
  generalize m (c.tc.loc main_arg1) = wa
  generalize m (c.tc.loc main_arg2) = b
  generalize m (c.tc.loc main_arg3) = wb
  exact same a wa b wb

end Cert.DhnIdeal.Final

end
-- ==== Proof.DhnClaims.lean ====
/- The claims of the gradient of the feed-forward layer's input. -/
module

public import proofs.«01_k».proof.Defs
public import proofs.«01_k».proof.Proof.Gen.Dhn
public import proofs.«01_k».proof.Proof.Gen.Dhn.Skeleton
public import proofs.«01_k».proof.Proof.Gen.Dhn.Launch
public import proofs.«01_k».proof.Proof.Gen.Dhn.Points
public import proofs.«01_k».proof.Proof.Gen.Dhn.Frame
public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnIdeal.Value
public import proofs.«01_k».proof.Proof.Gen.DhnReferenceIdeal
public import proofs.«01_k».proof.Proof.Gen.DhnReferenceIdeal.Run
public import proofs.«01_k».proof.Proof.Gen.DhnReferenceIdeal.Read
public import proofs.«01_k».proof.Proof.Dhn
public import Idealize.ShloMosaic.Adequacy
public import Idealize.ShloMosaic.Init

@[expose] public section

noncomputable section

namespace Cert.Proof.Dhn

open Idealize.ShloMosaic Idealize.ShloMosaic.TcCoe Idealize.SL.Sem

local instance : Cert.Dhn.Facts := Cert.Dhn.Gen.facts
local instance : Cert.DhnIdeal.Facts := Cert.DhnIdeal.Gen.facts
local instance : Cert.DhnReferenceIdeal.Facts := Cert.DhnReferenceIdeal.Gen.facts

theorem frame : Cert.quiescent_Dhn := fun m ρ _ => Cert.Dhn.Gen.frame m ρ

theorem frameIdeal : Cert.quiescent_DhnIdeal := fun m ρ _ => Cert.DhnIdeal.Gen.frame m ρ

theorem reference : Cert.quiescent_DhnReferenceIdeal := fun m g _ =>
  (θ_run _ _ _).mono (fun r h => ⟨fun c => (h c).2, by funext x; rcases x with ⟨_, s | s⟩ <;> exact s.elim0⟩) (Cert.DhnReferenceIdeal.Value.run m g)

theorem same4 {A B C D E : Type} (f : A → B → C → D → E) {a a' : A} {b b' : B} {c c' : C} {d d' : D} (h0 : a = a') (h1 : b = b') (h2 : c = c') (h3 : d = d') :
    f a b c d = f a' b' c' d' := by
  rw [h0, h1, h2, h3]

theorem algebraic : Cert.algebraic_DhnIdeal_DhnReferenceIdeal := by
  intro m g m' g' _ hagree
  refine ⟨fun c => (Cert.DhnIdeal.Gen.dats m 0 c).arrAt 4 Cert.DhnIdeal.cfg0.N, Cert.DhnIdeal.Value.run_blocks m g, ?_⟩
  refine (θ_run _ _ _).mono (fun r h c => ?_) (Cert.DhnReferenceIdeal.Value.run m' g')
  obtain ⟨e, k⟩ := h c
  obtain ⟨a0, a1, a2, a3⟩ := hagree c
  exact ⟨e.trans ((Cert.DhnReferenceIdeal.Read.val_main_v17_eq _ _ _ _).trans ((same4 (Cert.DhnReferenceIdeal.Read.val_main_v17 (F := Ideal)) a0 a1 a2 a3).trans (Cert.DhnIdeal.Final.final m c).symm)), k⟩

end Cert.Proof.Dhn

end
-- ==== Proof.Dmix.lean ====
/- The gradient of the mixer's output, 512 columns at a time. -/
module

public import proofs.«01_k».proof.Proof.Gen.DmixIdeal.Value
public import proofs.«01_k».proof.Proof.Gen.DmixReferenceIdeal.Run
public import proofs.«01_k».proof.Proof.Gen.DmixReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DmixIdeal.Final

open Cert.DmixIdeal Cert.DmixIdeal.Gen Cert.DmixReferenceIdeal.Read

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- Each block of columns is the reference's. -/
theorem final (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v4, val_main_v3, val_main_v2, val_main_v1, val_main_v0, val_main_cst]
  blk_point [iblk, V, idx t]

end Cert.DmixIdeal.Final

end
-- ==== Proof.DmixClaims.lean ====
/- The claims of the gradient of the mixer's output before its projection. -/
module

public import proofs.«01_k».proof.Defs
public import proofs.«01_k».proof.Proof.Gen.Dmix
public import proofs.«01_k».proof.Proof.Gen.Dmix.Skeleton
public import proofs.«01_k».proof.Proof.Gen.Dmix.Launch
public import proofs.«01_k».proof.Proof.Gen.Dmix.Points
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixIdeal.Value
public import proofs.«01_k».proof.Proof.Gen.DmixReferenceIdeal
public import proofs.«01_k».proof.Proof.Gen.DmixReferenceIdeal.Run
public import proofs.«01_k».proof.Proof.Gen.DmixReferenceIdeal.Read
public import proofs.«01_k».proof.Proof.Dmix
public import Idealize.ShloMosaic.Adequacy
public import Idealize.ShloMosaic.Init

@[expose] public section

noncomputable section

namespace Cert.Proof.Dmix

open Idealize.ShloMosaic Idealize.ShloMosaic.TcCoe Idealize.SL.Sem

local instance : Cert.Dmix.Facts := Cert.Dmix.Gen.facts
local instance : Cert.DmixIdeal.Facts := Cert.DmixIdeal.Gen.facts
local instance : Cert.DmixReferenceIdeal.Facts := Cert.DmixReferenceIdeal.Gen.facts

theorem frame : Cert.quiescent_Dmix := fun m ρ _ => Cert.Dmix.Gen.frame m ρ

theorem frameIdeal : Cert.quiescent_DmixIdeal := fun m ρ _ => Cert.DmixIdeal.Gen.frame m ρ

theorem reference : Cert.quiescent_DmixReferenceIdeal := fun m g _ =>
  (θ_run _ _ _).mono (fun r h => ⟨fun c => (h c).2, by funext x; rcases x with ⟨_, s | s⟩ <;> exact s.elim0⟩) (Cert.DmixReferenceIdeal.Value.run m g)

theorem same2 {A B C : Type} (f : A → B → C) {a a' : A} {b b' : B} (h0 : a = a') (h1 : b = b') : f a b = f a' b' := by
  rw [h0, h1]

theorem algebraic : Cert.algebraic_DmixIdeal_DmixReferenceIdeal := by
  intro m g m' g' _ hagree
  refine ⟨fun c => (Cert.DmixIdeal.Gen.dats m 0 c).arrAt 2 Cert.DmixIdeal.cfg0.N, Cert.DmixIdeal.Value.run_blocks m g, ?_⟩
  refine (θ_run _ _ _).mono (fun r h c => ?_) (Cert.DmixReferenceIdeal.Value.run m' g')
  obtain ⟨e, k⟩ := h c
  obtain ⟨a0, a1⟩ := hagree c
  exact ⟨e.trans ((Cert.DmixReferenceIdeal.Read.val_main_v4_eq _ _).trans ((same2 (Cert.DmixReferenceIdeal.Read.val_main_v4 (F := Ideal)) a0 a1).trans (Cert.DmixIdeal.Final.final m c).symm)), k⟩

end Cert.Proof.Dmix

end
-- ==== Proof.Out.lean ====
/- The gradient of the mixer's output matrix, 512 of its rows at a time. -/
module

public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutIdeal.Final

open Cert.OutIdeal Cert.OutIdeal.Gen Cert.OutReferenceIdeal.Read

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- Each block of rows is the reference's. -/
theorem final (c : Dev nD) : (dats m 0 c).arrAt 2 (cfgs 0).N = val_main_v6 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v6, val_main_v5, val_main_v4, val_main_v3, val_main_v2, val_main_v1, val_main_v0, val_main_cst]
  refine (Finset.sum_congr rfl fun k _ => @mul_comm EReal _ _ _).trans ?_
  blk_point [iblk, V, idx t]

end Cert.OutIdeal.Final

end
-- ==== Proof.OutClaims.lean ====
/- The claims of the output projection's gradient. -/
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Out
public import Idealize.ShloMosaic.Adequacy
public import Idealize.ShloMosaic.Init

@[expose] public section

noncomputable section

namespace Cert.Proof.Out

open Idealize.ShloMosaic Idealize.ShloMosaic.TcCoe Idealize.SL.Sem

local instance : Cert.Out.Facts := Cert.Out.Gen.facts
local instance : Cert.OutIdeal.Facts := Cert.OutIdeal.Gen.facts
local instance : Cert.OutReferenceIdeal.Facts := Cert.OutReferenceIdeal.Gen.facts

theorem frame : Cert.quiescent_Out := fun m ρ _ => Cert.Out.Gen.frame m ρ

theorem frameIdeal : Cert.quiescent_OutIdeal := fun m ρ _ => Cert.OutIdeal.Gen.frame m ρ

theorem reference : Cert.quiescent_OutReferenceIdeal := fun m g _ =>
  (θ_run _ _ _).mono (fun r h => ⟨fun c => (h c).2, by funext x; rcases x with ⟨_, s | s⟩ <;> exact s.elim0⟩) (Cert.OutReferenceIdeal.Value.run m g)

theorem same2 {A B C : Type} (f : A → B → C) {a a' : A} {b b' : B} (h0 : a = a') (h1 : b = b') : f a b = f a' b' := by
  rw [h0, h1]

theorem algebraic : Cert.algebraic_OutIdeal_OutReferenceIdeal := by
  intro m g m' g' _ hagree
  refine ⟨fun c => (Cert.OutIdeal.Gen.dats m 0 c).arrAt 2 Cert.OutIdeal.cfg0.N, Cert.OutIdeal.Value.run_blocks m g, ?_⟩
  refine (θ_run _ _ _).mono (fun r h c => ?_) (Cert.OutReferenceIdeal.Value.run m' g')
  obtain ⟨e, k⟩ := h c
  obtain ⟨a0, a1⟩ := hagree c
  exact ⟨e.trans ((Cert.OutReferenceIdeal.Read.val_main_v6_eq _ _).trans ((same2 (Cert.OutReferenceIdeal.Read.val_main_v6 (F := Ideal)) a0 a1).trans (Cert.OutIdeal.Final.final m c).symm)), k⟩

end Cert.Proof.Out

end
-- ==== Proof.DxnSums.lean ====
/- The gradient of the mixer's input: the input matrix's shards, added up. -/
module

public import proofs.«01_k».proof.Proof.Gen.DxnReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxnIdeal.Final

open Cert.DxnReferenceIdeal Cert.DxnReferenceIdeal.Gen Cert.DxnReferenceIdeal.Read

/-- The product of the shards' columns, added up over the shards. -/
def sums (a : FVec Ideal S4352x4096 .bf16) (w : FVec Ideal S8x2048x512 .bf16) : FVec Ideal S4352x2048 .f32 := fun y =>
  (∑ j : Fin 8, ∑ k : Fin 512, (a (ix2 (y 0) ⟨j.val * 512 + k.val, by omega⟩) : EReal) * (w (ix3 j (y 1) k) : EReal) : EReal)

/-- The sum over the shards is the reference's sum over all columns. -/
theorem same (a : FVec Ideal S4352x4096 .bf16) (w : FVec Ideal S8x2048x512 .bf16) : sums a w = val_main_v6 (F := Ideal) a w := by
  funext y
  obtain ⟨r, q, rfl⟩ : ∃ (r : Fin 4352) (q : Fin 2048), y = ix2 r q := ⟨y 0, y 1, eq_ix2 y⟩
  pointwise [val_main_v6, val_main_v5, val_main_v4, val_main_v3, val_main_v2, val_main_v1, val_main_v0, val_main_cst]
  refine Fin.sum_mul_add_congr (S := 8) (n := 512) fun j k hl => ?_
  have ej : (⟨(j.val * 512 + k.val) / 512, by omega⟩ : Fin 8) = j := Fin.ext (show (j.val * 512 + k.val) / 512 = j.val by omega)
  have ek : (⟨(j.val * 512 + k.val) % 512, by omega⟩ : Fin 512) = k := Fin.ext (show (j.val * 512 + k.val) % 512 = k.val by omega)
  show _ = (a (ix2 r ⟨j.val * 512 + k.val, hl⟩) : EReal) * (w (ix3 (⟨(j.val * 512 + k.val) / 512, by omega⟩ : Fin 8) q (⟨(j.val * 512 + k.val) % 512, by omega⟩ : Fin 512)) : EReal)
  rw [ej, ek]
  rfl

end Cert.DxnIdeal.Final

end
-- ==== Proof.Dxn.lean ====
/- The gradient of the mixer's input: the input matrix's shards, added up. -/
module

public import proofs.«01_k».proof.Proof.Gen.DxnIdeal.Value
public import proofs.«01_k».proof.Proof.Gen.DxnReferenceIdeal.Run
public import proofs.«01_k».proof.Proof.Gen.DxnReferenceIdeal.Read
public import proofs.«01_k».proof.Proof.DxnSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxnIdeal.Final

open Cert.DxnIdeal Cert.DxnIdeal.Gen Cert.DxnReferenceIdeal.Read

variable (m : (ℓ : Loc nD τ sig) → Buf (Elt Ideal) ℓ)

theorem idx : ∀ t : Fin cfg0.N, win0_0.index t = ![t.val % 8, 0] ∧ win0_1.index t = ![0, t.val / 8, 0] ∧ win0_2.index t = ![t.val % 8, t.val / 8] :=
  (by decide +kernel : ∀ t : Fin grid0.N, _)

/-- Each element is a sum over the shards. -/
theorem closed (c : Dev nD) : (dats m 0 c).arrAt 2 (cfgs 0).N = sums (m (c.tc.loc main_arg0)) (m (c.tc.loc main_arg1)) := by
  refine (dats m 0 c).arrAt_eq_of_covers 2 _ (by decide +kernel) fun t hf y => ?_
  blk_simp
  rw [after0_2]
  frame_out
  idx_vars y
  unfold sums
  pointwise [k0_pay1, k0_pay2]
  rw [Fin.sum_univ_eight]
  blk_point [iblk, V, idx t]

/-- … which is the reference's sum over all columns. -/
theorem final (c : Dev nD) : (dats m 0 c).arrAt 2 (cfgs 0).N = val_main_v6 (F := Ideal) (m (c.tc.loc main_arg0)) (m (c.tc.loc main_arg1)) := by
  rw [closed]
  exact same _ _

end Cert.DxnIdeal.Final

end
-- ==== Proof.DxnClaims.lean ====
/- The claims of the gradient of the mixer's input. -/
module

public import proofs.«01_k».proof.Defs
public import proofs.«01_k».proof.Proof.Gen.Dxn
public import proofs.«01_k».proof.Proof.Gen.Dxn.Skeleton
public import proofs.«01_k».proof.Proof.Gen.Dxn.Launch
public import proofs.«01_k».proof.Proof.Gen.Dxn.Points
public import proofs.«01_k».proof.Proof.Gen.Dxn.Frame
public import proofs.«01_k».proof.Proof.Gen.DxnIdeal
public import proofs.«01_k».proof.Proof.Gen.DxnIdeal.Skeleton
public import proofs.«01_k».proof.Proof.Gen.DxnIdeal.Launch
public import proofs.«01_k».proof.Proof.Gen.DxnIdeal.Points
public import proofs.«01_k».proof.Proof.Gen.DxnIdeal.Frame
public import proofs.«01_k».proof.Proof.Gen.DxnIdeal.Value
public import proofs.«01_k».proof.Proof.Gen.DxnReferenceIdeal
public import proofs.«01_k».proof.Proof.Gen.DxnReferenceIdeal.Run
public import proofs.«01_k».proof.Proof.Gen.DxnReferenceIdeal.Read
public import proofs.«01_k».proof.Proof.Dxn
public import Idealize.ShloMosaic.Adequacy
public import Idealize.ShloMosaic.Init

@[expose] public section

noncomputable section

namespace Cert.Proof.Dxn

open Idealize.ShloMosaic Idealize.ShloMosaic.TcCoe Idealize.SL.Sem

local instance : Cert.Dxn.Facts := Cert.Dxn.Gen.facts
local instance : Cert.DxnIdeal.Facts := Cert.DxnIdeal.Gen.facts
local instance : Cert.DxnReferenceIdeal.Facts := Cert.DxnReferenceIdeal.Gen.facts

theorem frame : Cert.quiescent_Dxn := fun m ρ _ => Cert.Dxn.Gen.frame m ρ

theorem frameIdeal : Cert.quiescent_DxnIdeal := fun m ρ _ => Cert.DxnIdeal.Gen.frame m ρ

theorem reference : Cert.quiescent_DxnReferenceIdeal := fun m g _ =>
  (θ_run _ _ _).mono (fun r h => ⟨fun c => (h c).2, by funext x; rcases x with ⟨_, s | s⟩ <;> exact s.elim0⟩) (Cert.DxnReferenceIdeal.Value.run m g)

theorem same2 {A B C : Type} (f : A → B → C) {a a' : A} {b b' : B} (h0 : a = a') (h1 : b = b') : f a b = f a' b' := by
  rw [h0, h1]

theorem algebraic : Cert.algebraic_DxnIdeal_DxnReferenceIdeal := by
  intro m g m' g' _ hagree
  refine ⟨fun c => (Cert.DxnIdeal.Gen.dats m 0 c).arrAt 2 Cert.DxnIdeal.cfg0.N, Cert.DxnIdeal.Value.run_blocks m g, ?_⟩
  refine (θ_run _ _ _).mono (fun r h c => ?_) (Cert.DxnReferenceIdeal.Value.run m' g')
  obtain ⟨e, k⟩ := h c
  obtain ⟨a0, a1⟩ := hagree c
  exact ⟨e.trans ((Cert.DxnReferenceIdeal.Read.val_main_v6_eq _ _).trans ((same2 (Cert.DxnReferenceIdeal.Read.val_main_v6 (F := Ideal)) a0 a1).trans (Cert.DxnIdeal.Final.final m c).symm)), k⟩

end Cert.Proof.Dxn

end
-- ==== Proof.In.lean ====
/- The gradient of the mixer's input matrix, one shard of its columns at a time. -/
module

public import proofs.«01_k».proof.Proof.Gen.InIdeal.Value
public import proofs.«01_k».proof.Proof.Gen.InReferenceIdeal.Run
public import proofs.«01_k».proof.Proof.Gen.InReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InIdeal.Final

open Cert.InIdeal Cert.InIdeal.Gen Cert.InReferenceIdeal.Read

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

/-- Each shard's block is the reference's columns. -/
theorem final (c : Dev nD) : (dats m 0 c).arrAt 2 (cfgs 0).N = val_main_v8 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v8, val_main_v7, val_main_v6, val_main_v5, val_main_v4, val_main_v3, val_main_v2, val_main_v1, val_main_v0, val_main_cst]
  refine (Finset.sum_congr rfl fun k _ => @mul_comm EReal _ _ _).trans ?_
  blk_point [iblk, V, idx t]

end Cert.InIdeal.Final

end
-- ==== Proof.InClaims.lean ====
/- The claims of the input projection's gradient. -/
module

public import proofs.«01_k».proof.Defs
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.In
public import Idealize.ShloMosaic.Adequacy
public import Idealize.ShloMosaic.Init

@[expose] public section

noncomputable section

namespace Cert.Proof.In

open Idealize.ShloMosaic Idealize.ShloMosaic.TcCoe Idealize.SL.Sem

local instance : Cert.In.Facts := Cert.In.Gen.facts
local instance : Cert.InIdeal.Facts := Cert.InIdeal.Gen.facts
local instance : Cert.InReferenceIdeal.Facts := Cert.InReferenceIdeal.Gen.facts

theorem frame : Cert.quiescent_In := fun m ρ _ => Cert.In.Gen.frame m ρ

theorem frameIdeal : Cert.quiescent_InIdeal := fun m ρ _ => Cert.InIdeal.Gen.frame m ρ

theorem reference : Cert.quiescent_InReferenceIdeal := fun m g _ =>
  (θ_run _ _ _).mono (fun r h => ⟨fun c => (h c).2, by funext x; rcases x with ⟨_, s | s⟩ <;> exact s.elim0⟩) (Cert.InReferenceIdeal.Value.run m g)

theorem same2 {A B C : Type} (f : A → B → C) {a a' : A} {b b' : B} (h0 : a = a') (h1 : b = b') : f a b = f a' b' := by
  rw [h0, h1]

theorem algebraic : Cert.algebraic_InIdeal_InReferenceIdeal := by
  intro m g m' g' _ hagree
  refine ⟨fun c => (Cert.InIdeal.Gen.dats m 0 c).arrAt 2 Cert.InIdeal.cfg0.N, Cert.InIdeal.Value.run_blocks m g, ?_⟩
  refine (θ_run _ _ _).mono (fun r h c => ?_) (Cert.InReferenceIdeal.Value.run m' g')
  obtain ⟨e, k⟩ := h c
  obtain ⟨a0, a1⟩ := hagree c
  exact ⟨e.trans ((Cert.InReferenceIdeal.Read.val_main_v8_eq _ _).trans ((same2 (Cert.InReferenceIdeal.Read.val_main_v8 (F := Ideal)) a0 a1).trans (Cert.InIdeal.Final.final m c).symm)), k⟩

end Cert.Proof.In

end
-- ==== Proof.DxnBSums.lean ====
/- The gradient of the input of layer 1's mixer: the input matrix's shards, added up. -/
module

public import proofs.«01_k».proof.Proof.Gen.DxnBReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxnBIdeal.Final

open Cert.DxnBReferenceIdeal Cert.DxnBReferenceIdeal.Gen Cert.DxnBReferenceIdeal.Read

/-- The product of the shards' columns, added up over the shards. -/
def sums (a : FVec Ideal S4352x3072 .bf16) (w : FVec Ideal S8x2048x384 .bf16) : FVec Ideal S4352x2048 .f32 := fun y =>
  (∑ j : Fin 8, ∑ k : Fin 384, (a (ix2 (y 0) ⟨j.val * 384 + k.val, by omega⟩) : EReal) * (w (ix3 j (y 1) k) : EReal) : EReal)

/-- The sum over the shards is the reference's sum over all columns. -/
theorem same (a : FVec Ideal S4352x3072 .bf16) (w : FVec Ideal S8x2048x384 .bf16) : sums a w = val_main_v6 (F := Ideal) a w := by
  funext y
  obtain ⟨r, q, rfl⟩ : ∃ (r : Fin 4352) (q : Fin 2048), y = ix2 r q := ⟨y 0, y 1, eq_ix2 y⟩
  pointwise [val_main_v6, val_main_v5, val_main_v4, val_main_v3, val_main_v2, val_main_v1, val_main_v0, val_main_cst]
  refine Fin.sum_mul_add_congr (S := 8) (n := 384) fun j k hl => ?_
  have ej : (⟨(j.val * 384 + k.val) / 384, by omega⟩ : Fin 8) = j := Fin.ext (show (j.val * 384 + k.val) / 384 = j.val by omega)
  have ek : (⟨(j.val * 384 + k.val) % 384, by omega⟩ : Fin 384) = k := Fin.ext (show (j.val * 384 + k.val) % 384 = k.val by omega)
  show _ = (a (ix2 r ⟨j.val * 384 + k.val, hl⟩) : EReal) * (w (ix3 (⟨(j.val * 384 + k.val) / 384, by omega⟩ : Fin 8) q (⟨(j.val * 384 + k.val) % 384, by omega⟩ : Fin 384)) : EReal)
  rw [ej, ek]
  rfl

end Cert.DxnBIdeal.Final

end
-- ==== Proof.DxnB.lean ====
/- The gradient of the input of layer 1's mixer: the input matrix's shards, added up. -/
module

public import proofs.«01_k».proof.Proof.Gen.DxnBIdeal.Value
public import proofs.«01_k».proof.Proof.Gen.DxnBReferenceIdeal.Run
public import proofs.«01_k».proof.Proof.Gen.DxnBReferenceIdeal.Read
public import proofs.«01_k».proof.Proof.DxnBSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxnBIdeal.Final

open Cert.DxnBIdeal Cert.DxnBIdeal.Gen Cert.DxnBReferenceIdeal.Read

variable (m : (ℓ : Loc nD τ sig) → Buf (Elt Ideal) ℓ)

theorem idx : ∀ t : Fin cfg0.N, win0_0.index t = ![t.val % 8, 0] ∧ win0_1.index t = ![0, t.val / 8, 0] ∧ win0_2.index t = ![t.val % 8, t.val / 8] :=
  (by decide +kernel : ∀ t : Fin grid0.N, _)

/-- Each element is a sum over the shards. -/
theorem closed (c : Dev nD) : (dats m 0 c).arrAt 2 (cfgs 0).N = sums (m (c.tc.loc main_arg0)) (m (c.tc.loc main_arg1)) := by
  refine (dats m 0 c).arrAt_eq_of_covers 2 _ (by decide +kernel) fun t hf y => ?_
  blk_simp
  rw [after0_2]
  frame_out
  idx_vars y
  unfold sums
  pointwise [k0_pay1, k0_pay2, k0_pay3]
  rw [Fin.sum_univ_eight]
  simp only [← add_assoc]
  blk_point [iblk, V, idx t]

/-- … which is the reference's sum over all columns. -/
theorem final (c : Dev nD) : (dats m 0 c).arrAt 2 (cfgs 0).N = val_main_v6 (F := Ideal) (m (c.tc.loc main_arg0)) (m (c.tc.loc main_arg1)) := by
  rw [closed]
  exact same _ _

end Cert.DxnBIdeal.Final

end
-- ==== Proof.DxnBClaims.lean ====
/- The claims of the gradient of the input of layer 1's mixer. -/
module

public import proofs.«01_k».proof.Defs
public import proofs.«01_k».proof.Proof.Gen.DxnB
public import proofs.«01_k».proof.Proof.Gen.DxnB.Skeleton
public import proofs.«01_k».proof.Proof.Gen.DxnB.Launch
public import proofs.«01_k».proof.Proof.Gen.DxnB.Points
public import proofs.«01_k».proof.Proof.Gen.DxnB.Frame
public import proofs.«01_k».proof.Proof.Gen.DxnBIdeal
public import proofs.«01_k».proof.Proof.Gen.DxnBIdeal.Skeleton
public import proofs.«01_k».proof.Proof.Gen.DxnBIdeal.Launch
public import proofs.«01_k».proof.Proof.Gen.DxnBIdeal.Points
public import proofs.«01_k».proof.Proof.Gen.DxnBIdeal.Frame
public import proofs.«01_k».proof.Proof.Gen.DxnBIdeal.Value
public import proofs.«01_k».proof.Proof.Gen.DxnBReferenceIdeal
public import proofs.«01_k».proof.Proof.Gen.DxnBReferenceIdeal.Run
public import proofs.«01_k».proof.Proof.Gen.DxnBReferenceIdeal.Read
public import proofs.«01_k».proof.Proof.DxnB
public import Idealize.ShloMosaic.Adequacy
public import Idealize.ShloMosaic.Init

@[expose] public section

noncomputable section

namespace Cert.Proof.DxnB

open Idealize.ShloMosaic Idealize.ShloMosaic.TcCoe Idealize.SL.Sem

local instance : Cert.DxnB.Facts := Cert.DxnB.Gen.facts
local instance : Cert.DxnBIdeal.Facts := Cert.DxnBIdeal.Gen.facts
local instance : Cert.DxnBReferenceIdeal.Facts := Cert.DxnBReferenceIdeal.Gen.facts

theorem frame : Cert.quiescent_DxnB := fun m ρ _ => Cert.DxnB.Gen.frame m ρ

theorem frameIdeal : Cert.quiescent_DxnBIdeal := fun m ρ _ => Cert.DxnBIdeal.Gen.frame m ρ

theorem reference : Cert.quiescent_DxnBReferenceIdeal := fun m g _ =>
  (θ_run _ _ _).mono (fun r h => ⟨fun c => (h c).2, by funext x; rcases x with ⟨_, s | s⟩ <;> exact s.elim0⟩) (Cert.DxnBReferenceIdeal.Value.run m g)

theorem same2 {A B C : Type} (f : A → B → C) {a a' : A} {b b' : B} (h0 : a = a') (h1 : b = b') : f a b = f a' b' := by
  rw [h0, h1]

theorem algebraic : Cert.algebraic_DxnBIdeal_DxnBReferenceIdeal := by
  intro m g m' g' _ hagree
  refine ⟨fun c => (Cert.DxnBIdeal.Gen.dats m 0 c).arrAt 2 Cert.DxnBIdeal.cfg0.N, Cert.DxnBIdeal.Value.run_blocks m g, ?_⟩
  refine (θ_run _ _ _).mono (fun r h c => ?_) (Cert.DxnBReferenceIdeal.Value.run m' g')
  obtain ⟨e, k⟩ := h c
  obtain ⟨a0, a1⟩ := hagree c
  exact ⟨e.trans ((Cert.DxnBReferenceIdeal.Read.val_main_v6_eq _ _).trans ((same2 (Cert.DxnBReferenceIdeal.Read.val_main_v6 (F := Ideal)) a0 a1).trans (Cert.DxnBIdeal.Final.final m c).symm)), k⟩

end Cert.Proof.DxnB

end
-- ==== Proof.InB.lean ====
/- The gradient of layer 1's input matrix, one shard of its columns at a time. -/
module

public import proofs.«01_k».proof.Proof.Gen.InBIdeal.Value
public import proofs.«01_k».proof.Proof.Gen.InBReferenceIdeal.Run
public import proofs.«01_k».proof.Proof.Gen.InBReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InBIdeal.Final

open Cert.InBIdeal Cert.InBIdeal.Gen Cert.InBReferenceIdeal.Read

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

/-- Each shard's block is the reference's columns. -/
theorem final (c : Dev nD) : (dats m 0 c).arrAt 2 (cfgs 0).N = val_main_v8 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v8, val_main_v7, val_main_v6, val_main_v5, val_main_v4, val_main_v3, val_main_v2, val_main_v1, val_main_v0, val_main_cst]
  refine (Finset.sum_congr rfl fun k _ => @mul_comm EReal _ _ _).trans ?_
  blk_point [iblk, V, idx t]

end Cert.InBIdeal.Final

end
-- ==== Proof.InBClaims.lean ====
/- The claims of the gradient of layer 1's input projection. -/
module

public import proofs.«01_k».proof.Defs
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBReferenceIdeal
public import proofs.«01_k».proof.Proof.Gen.InBReferenceIdeal.Run
public import proofs.«01_k».proof.Proof.Gen.InBReferenceIdeal.Read
public import proofs.«01_k».proof.Proof.InB
public import Idealize.ShloMosaic.Adequacy
public import Idealize.ShloMosaic.Init

@[expose] public section

noncomputable section

namespace Cert.Proof.InB

open Idealize.ShloMosaic Idealize.ShloMosaic.TcCoe Idealize.SL.Sem

local instance : Cert.InB.Facts := Cert.InB.Gen.facts
local instance : Cert.InBIdeal.Facts := Cert.InBIdeal.Gen.facts
local instance : Cert.InBReferenceIdeal.Facts := Cert.InBReferenceIdeal.Gen.facts

theorem frame : Cert.quiescent_InB := fun m ρ _ => Cert.InB.Gen.frame m ρ

theorem frameIdeal : Cert.quiescent_InBIdeal := fun m ρ _ => Cert.InBIdeal.Gen.frame m ρ

theorem reference : Cert.quiescent_InBReferenceIdeal := fun m g _ =>
  (θ_run _ _ _).mono (fun r h => ⟨fun c => (h c).2, by funext x; rcases x with ⟨_, s | s⟩ <;> exact s.elim0⟩) (Cert.InBReferenceIdeal.Value.run m g)

theorem same2 {A B C : Type} (f : A → B → C) {a a' : A} {b b' : B} (h0 : a = a') (h1 : b = b') : f a b = f a' b' := by
  rw [h0, h1]

theorem algebraic : Cert.algebraic_InBIdeal_InBReferenceIdeal := by
  intro m g m' g' _ hagree
  refine ⟨fun c => (Cert.InBIdeal.Gen.dats m 0 c).arrAt 2 Cert.InBIdeal.cfg0.N, Cert.InBIdeal.Value.run_blocks m g, ?_⟩
  refine (θ_run _ _ _).mono (fun r h c => ?_) (Cert.InBReferenceIdeal.Value.run m' g')
  obtain ⟨e, k⟩ := h c
  obtain ⟨a0, a1⟩ := hagree c
  exact ⟨e.trans ((Cert.InBReferenceIdeal.Read.val_main_v8_eq _ _).trans ((same2 (Cert.InBReferenceIdeal.Read.val_main_v8 (F := Ideal)) a0 a1).trans (Cert.InBIdeal.Final.final m c).symm)), k⟩

end Cert.Proof.InB

end
-- ==== Proof.Proj.lean ====
/- The input projection, one shard of its columns at a time. -/
module

public import proofs.«01_k».proof.Proof.Gen.ProjIdeal.Value
public import proofs.«01_k».proof.Proof.Gen.ProjReferenceIdeal.Run
public import proofs.«01_k».proof.Proof.Gen.ProjReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjIdeal.Final

open Cert.ProjIdeal Cert.ProjIdeal.Gen Cert.ProjReferenceIdeal.Read

variable (m : (ℓ : Loc nD τ sig) → Buf (Elt Ideal) ℓ)

theorem idx : ∀ t : Fin cfg0.N, win0_0.index t = ![0, 0] ∧ win0_1.index t = ![t.val, 0, 0] ∧ win0_2.index t = ![0, t.val] :=
  (by decide +kernel : ∀ t : Fin grid0.N, _)

/-- Each block of columns is the reference's. -/
theorem final (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1, val_main_v4, val_main_v3, val_main_v2, val_main_v1, val_main_v0]
  blk_point [iblk, V, idx t]

end Cert.ProjIdeal.Final

end
-- ==== Proof.ProjClaims.lean ====
/- The claims of the input projection. -/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Proj
public import Idealize.ShloMosaic.Adequacy
public import Idealize.ShloMosaic.Init

@[expose] public section

noncomputable section

namespace Cert.Proof.Proj

open Idealize.ShloMosaic Idealize.ShloMosaic.TcCoe Idealize.SL.Sem

local instance : Cert.Proj.Facts := Cert.Proj.Gen.facts
local instance : Cert.ProjIdeal.Facts := Cert.ProjIdeal.Gen.facts
local instance : Cert.ProjReferenceIdeal.Facts := Cert.ProjReferenceIdeal.Gen.facts

theorem frame : Cert.quiescent_Proj := fun m ρ _ => Cert.Proj.Gen.frame m ρ

theorem frameIdeal : Cert.quiescent_ProjIdeal := fun m ρ _ => Cert.ProjIdeal.Gen.frame m ρ

theorem reference : Cert.quiescent_ProjReferenceIdeal := fun m g _ =>
  (θ_run _ _ _).mono (fun r h => ⟨fun c => (h c).2, by funext x; rcases x with ⟨_, s | s⟩ <;> exact s.elim0⟩) (Cert.ProjReferenceIdeal.Value.run m g)

theorem same2 {A B C : Type} (f : A → B → C) {a a' : A} {b b' : B} (h0 : a = a') (h1 : b = b') : f a b = f a' b' := by
  rw [h0, h1]

theorem algebraic : Cert.algebraic_ProjIdeal_ProjReferenceIdeal := by
  intro m g m' g' _ hagree
  refine ⟨fun c => (Cert.ProjIdeal.Gen.dats m 0 c).arrAt 2 Cert.ProjIdeal.cfg0.N, Cert.ProjIdeal.Value.run_blocks m g, ?_⟩
  refine (θ_run _ _ _).mono (fun r h c => ?_) (Cert.ProjReferenceIdeal.Value.run m' g')
  obtain ⟨e, k⟩ := h c
  obtain ⟨a0, a1⟩ := hagree c
  exact ⟨e.trans ((Cert.ProjReferenceIdeal.Read.val_main_v4_eq _ _).trans ((same2 (Cert.ProjReferenceIdeal.Read.val_main_v4 (F := Ideal)) a0 a1).trans (Cert.ProjIdeal.Final.final m c).symm)), k⟩

end Cert.Proof.Proj

end
-- ==== Proof.ProjB.lean ====
/- Layer 1's input projection, two shards of its columns at a time. -/
module

public import proofs.«01_k».proof.Proof.Gen.ProjBIdeal.Value
public import proofs.«01_k».proof.Proof.Gen.ProjBReferenceIdeal.Run
public import proofs.«01_k».proof.Proof.Gen.ProjBReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjBIdeal.Final

open Cert.ProjBIdeal Cert.ProjBIdeal.Gen Cert.ProjBReferenceIdeal.Read

variable (m : (ℓ : Loc nD τ sig) → Buf (Elt Ideal) ℓ)

theorem idx : ∀ t : Fin cfg0.N, win0_0.index t = ![0, 0] ∧ win0_1.index t = ![t.val / 2, 0, 0] ∧ win0_2.index t = ![t.val % 2, t.val / 2] :=
  (by decide +kernel : ∀ t : Fin grid0.N, _)

/-- A point reads its rows of the resident operand. -/
theorem off : ∀ t : Fin cfg0.N, k0_off1 (grid0.coords t) 0 = t.val % 2 * 2176 ∧ k0_off1 (grid0.coords t) 1 = 0 :=
  (by decide +kernel : ∀ t : Fin grid0.N, _)

/-- Each block is the reference's. -/
theorem final (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  blk_simp
  rw [after0_2]
  unfold outsAt0
  frame_out
  idx_vars y
  pointwise [k0_pay1, val_main_v4, val_main_v3, val_main_v2, val_main_v1, val_main_v0]
  blk_point [iblk, V, idx t, off t]

end Cert.ProjBIdeal.Final

end
-- ==== Proof.ProjBClaims.lean ====
/- The claims of layer 1's input projection. -/
module

public import proofs.«01_k».proof.Defs
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Proof.ProjB
public import Idealize.ShloMosaic.Adequacy
public import Idealize.ShloMosaic.Init

@[expose] public section

noncomputable section

namespace Cert.Proof.ProjB

open Idealize.ShloMosaic Idealize.ShloMosaic.TcCoe Idealize.SL.Sem

local instance : Cert.ProjB.Facts := Cert.ProjB.Gen.facts
local instance : Cert.ProjBIdeal.Facts := Cert.ProjBIdeal.Gen.facts
local instance : Cert.ProjBReferenceIdeal.Facts := Cert.ProjBReferenceIdeal.Gen.facts

theorem frame : Cert.quiescent_ProjB := fun m ρ _ => Cert.ProjB.Gen.frame m ρ

theorem frameIdeal : Cert.quiescent_ProjBIdeal := fun m ρ _ => Cert.ProjBIdeal.Gen.frame m ρ

theorem reference : Cert.quiescent_ProjBReferenceIdeal := fun m g _ =>
  (θ_run _ _ _).mono (fun r h => ⟨fun c => (h c).2, by funext x; rcases x with ⟨_, s | s⟩ <;> exact s.elim0⟩) (Cert.ProjBReferenceIdeal.Value.run m g)

theorem same2 {A B C : Type} (f : A → B → C) {a a' : A} {b b' : B} (h0 : a = a') (h1 : b = b') : f a b = f a' b' := by
  rw [h0, h1]

theorem algebraic : Cert.algebraic_ProjBIdeal_ProjBReferenceIdeal := by
  intro m g m' g' _ hagree
  refine ⟨fun c => (Cert.ProjBIdeal.Gen.dats m 0 c).arrAt 2 Cert.ProjBIdeal.cfg0.N, Cert.ProjBIdeal.Value.run_blocks m g, ?_⟩
  refine (θ_run _ _ _).mono (fun r h c => ?_) (Cert.ProjBReferenceIdeal.Value.run m' g')
  obtain ⟨e, k⟩ := h c
  obtain ⟨a0, a1⟩ := hagree c
  exact ⟨e.trans ((Cert.ProjBReferenceIdeal.Read.val_main_v4_eq _ _).trans ((same2 (Cert.ProjBReferenceIdeal.Read.val_main_v4 (F := Ideal)) a0 a1).trans (Cert.ProjBIdeal.Final.final m c).symm)), k⟩

end Cert.Proof.ProjB

end
-- ==== Proof.Wout.lean ====
/- The output projection and the residual sum. -/
module

public import proofs.«01_k».proof.Proof.Gen.WoutIdeal.Value
public import proofs.«01_k».proof.Proof.Gen.WoutReferenceIdeal.Run
public import proofs.«01_k».proof.Proof.Gen.WoutReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WoutIdeal.Final

open Cert.WoutIdeal Cert.WoutIdeal.Gen Cert.WoutReferenceIdeal.Read

variable (m : (ℓ : Loc nD τ sig) → Buf (Elt Ideal) ℓ)

theorem idx : ∀ t : Fin cfg0.N, win0_0.index t = ![0, 0] ∧ win0_1.index t = ![0, t.val / 4] ∧ win0_2.index t = ![t.val % 4, t.val / 4] ∧ win0_3.index t = ![0, 0, t.val / 4] ∧ win0_4.index t = ![t.val % 4, t.val / 4] ∧ win0_5.index t = ![t.val % 4, t.val / 4] :=
  (by decide +kernel : ∀ t : Fin grid0.N, _)

/-- A point reads its rows of the resident operand. -/
theorem off : ∀ t : Fin cfg0.N, k0_off1 (grid0.coords t) 0 = t.val % 4 * 1088 ∧ k0_off1 (grid0.coords t) 1 = 0 :=
  (by decide +kernel : ∀ t : Fin grid0.N, _)

/-- Each block of the projection is the reference's. -/
theorem final (c : Dev nD) : (dats m 0 c).arrAt 4 (cfgs 0).N = val_main_v2 (F := Ideal) (m (c.tc.loc main_arg0)) (m (c.tc.loc main_arg1)) := by
  refine (dats m 0 c).arrAt_eq_of_covers 4 _ (by decide +kernel) fun t hf y => ?_
  blk_simp
  rw [after0_4]
  unfold outsAt0
  frame_out
  idx_vars y
  pointwise [k0_pay1, val_main_v2, val_main_v1, val_main_v0]
  blk_point [iblk, V, idx t, off t]

/-- The bit that tells the context's rows from the latent ones. -/
theorem bit : ∀ (i : Fin 4) (r : Fin 1088), IntOp.cmpi .slt (IntOp.addi (Scalar.muli (BitVec.ofNat 32 i.val) 1088#32) (BitVec.ofNat 32 r.val)) 256#32 = (if i.val * 1088 + r.val < 256 then 1#1 else 0#1) := by
  decide +kernel

theorem coord : ∀ t : Fin cfg0.N, (grid0.coords t 1).val = t.val % 4 :=
  (by decide +kernel : ∀ t : Fin grid0.N, _)

theorem pick (t : Fin cfg0.N) (r : Fin 1088) : IntOp.cmpi .slt (IntOp.addi (Scalar.muli (BitVec.ofNat 32 (grid0.coords t 1).val) 1088#32) (BitVec.ofNat 32 r.val)) 256#32 = (if t.val % 4 * 1088 + r.val < 256 then 1#1 else 0#1) := by
  rw [coord t]
  exact bit ⟨t.val % 4, Nat.mod_lt _ (by decide)⟩ r

/-- The residual sum: a row of `h`, plus the product's row times its gate, the context's or the latent one. -/
def resid (a : FVec Ideal S4352x2048 .bf16) (w : FVec Ideal S2048x2048 .bf16) (h : FVec Ideal S4352x2048 .f32) (g : FVec Ideal S2x8x2048 .f32) : FVec Ideal S4352x2048 .f32 := fun y =>
  ((h (ix2 (y 0) (y 1)) : EReal) + ((if (y 0).val < 256 then g (ix3 0 2 (y 1)) else g (ix3 1 2 (y 1)) : EReal)) * (∑ k : Fin 2048, (a (ix2 (y 0) k) : EReal) * (w (ix2 k (y 1)) : EReal) : EReal) : EReal)

theorem same (a : FVec Ideal S4352x2048 .bf16) (w : FVec Ideal S2048x2048 .bf16) (h : FVec Ideal S4352x2048 .f32) (g : FVec Ideal S2x8x2048 .f32) : resid a w h g = val_main_v19 (F := Ideal) a w h g := by
  funext y
  obtain ⟨r, q, rfl⟩ : ∃ (r : Fin 4352) (q : Fin 2048), y = ix2 r q := ⟨y 0, y 1, eq_ix2 y⟩
  unfold resid
  by_cases hr : r.val < 256
  · pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
    simp [hr]
  · have hr' : 256 + (r.val - 256) = r.val := by omega
    pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
    simp [hr, hr']

theorem closed_sum (c : Dev nD) : (dats m 0 c).arrAt 5 (cfgs 0).N = resid (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  unfold outsAt0
  frame_out
  idx_vars y
  have hx := idx t
  have hb : t.val % 4 * 1088 + y0.val < 4352 := by have := y0.isLt; omega
  have e0 : @Eq (Fin 4352) ((((cfg0.win 5).blk t).view.emb (ix2 y0 y1)) 0) ⟨t.val % 4 * 1088 + y0.val, hb⟩ := Fin.ext (by blk_simp [hx])
  unfold resid
  rw [e0]
  pointwise [k0_pay2, k0_pay1]
  rw [pick t y0]
  by_cases hr : t.val % 4 * 1088 + y0.val < 256
  · rw [if_pos hr, if_pos hr]
    pointwise []
    blk_point [iblk, V, idx t, off t]
  · rw [if_neg hr, if_neg hr]
    pointwise []
    blk_point [iblk, V, idx t, off t]

theorem final_sum (c : Dev nD) : (dats m 0 c).arrAt 5 (cfgs 0).N = val_main_v19 (F := Ideal) (m (c.tc.loc main_arg0)) (m (c.tc.loc main_arg1)) (m (c.tc.loc main_arg2)) (m (c.tc.loc main_arg3)) :=
  (closed_sum m c).trans (same _ _ _ _)

end Cert.WoutIdeal.Final

end
-- ==== Proof.WoutClaims.lean ====
/- The claims of the output projection and its residual sum. -/
module

public import proofs.«01_k».proof.Defs
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.Wout
public import Idealize.ShloMosaic.Adequacy
public import Idealize.ShloMosaic.Init

@[expose] public section

noncomputable section

namespace Cert.Proof.Wout

open Idealize.ShloMosaic Idealize.ShloMosaic.TcCoe Idealize.SL.Sem

local instance : Cert.Wout.Facts := Cert.Wout.Gen.facts
local instance : Cert.WoutIdeal.Facts := Cert.WoutIdeal.Gen.facts
local instance : Cert.WoutReferenceIdeal.Facts := Cert.WoutReferenceIdeal.Gen.facts

theorem frame : Cert.quiescent_Wout := fun m ρ _ => Cert.Wout.Gen.frame m ρ

theorem frameIdeal : Cert.quiescent_WoutIdeal := fun m ρ _ => Cert.WoutIdeal.Gen.frame m ρ

theorem reference : Cert.quiescent_WoutReferenceIdeal := fun m g _ =>
  (θ_run _ _ _).mono (fun r h => ⟨fun c => (h c).2.2, by funext x; rcases x with ⟨_, s | s⟩ <;> exact s.elim0⟩) (Cert.WoutReferenceIdeal.Value.run m g)

theorem same2 {A B C : Type} (f : A → B → C) {a a' : A} {b b' : B} (h0 : a = a') (h1 : b = b') : f a b = f a' b' := by
  rw [h0, h1]

theorem same4 {A B C D E : Type} (f : A → B → C → D → E) {a a' : A} {b b' : B} {c c' : C} {d d' : D} (h0 : a = a') (h1 : b = b') (h2 : c = c') (h3 : d = d') :
    f a b c d = f a' b' c' d' := by
  rw [h0, h1, h2, h3]

theorem algebraic : Cert.algebraic_WoutIdeal_WoutReferenceIdeal := by
  intro m g m' g' _ hagree
  refine ⟨fun c => (Cert.WoutIdeal.Gen.dats m 0 c).arrAt 4 Cert.WoutIdeal.cfg0.N, fun c => (Cert.WoutIdeal.Gen.dats m 0 c).arrAt 5 Cert.WoutIdeal.cfg0.N,
    Cert.WoutIdeal.Value.run_blocks m g, ?_⟩
  refine (θ_run _ _ _).mono (fun r h c => ?_) (Cert.WoutReferenceIdeal.Value.run m' g')
  obtain ⟨e0, e1, k⟩ := h c
  obtain ⟨a0, a1, a2, a3⟩ := hagree c
  exact ⟨e0.trans ((Cert.WoutReferenceIdeal.Read.val_main_v2_eq _ _).trans ((same2 (Cert.WoutReferenceIdeal.Read.val_main_v2 (F := Ideal)) a0 a1).trans (Cert.WoutIdeal.Final.final m c).symm)),
    e1.trans ((Cert.WoutReferenceIdeal.Read.val_main_v19_eq _ _ _ _).trans ((same4 (Cert.WoutReferenceIdeal.Read.val_main_v19 (F := Ideal)) a0 a1 a2 a3).trans (Cert.WoutIdeal.Final.final_sum m c).symm)), k⟩

end Cert.Proof.Wout

end
-- ==== Proof.WdownSums.lean ====
/- The second matrix of the feed-forward layer and the residual sum: the shards, added up. -/
module

public import proofs.«01_k».proof.Proof.Gen.WdownReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WdownIdeal.Final

open Cert.WdownReferenceIdeal Cert.WdownReferenceIdeal.Gen Cert.WdownReferenceIdeal.Read

/-- The product of the shards' columns, added up over the shards. -/
def sums (a : FVec Ideal S8x4352x704 .bf16) (w : FVec Ideal S8x704x2048 .bf16) : FVec Ideal S4352x2048 .f32 := fun y =>
  (∑ j : Fin 8, ∑ k : Fin 704, (a (ix3 j (y 0) k) : EReal) * (w (ix3 j k (y 1)) : EReal) : EReal)

/-- The sum over the shards is the reference's sum over all hidden columns. -/
theorem same (a : FVec Ideal S8x4352x704 .bf16) (w : FVec Ideal S8x704x2048 .bf16) : sums a w = val_main_v5 (F := Ideal) a w := by
  funext y
  obtain ⟨r, q, rfl⟩ : ∃ (r : Fin 4352) (q : Fin 2048), y = ix2 r q := ⟨y 0, y 1, eq_ix2 y⟩
  pointwise [val_main_v5, val_main_v4, val_main_v3, val_main_v2, val_main_v1, val_main_v0]
  refine Fin.sum_mul_add_congr (S := 8) (n := 704) fun j k hl => ?_
  have ej : (⟨(j.val * 704 + k.val) / 704, by omega⟩ : Fin 8) = j := Fin.ext (show (j.val * 704 + k.val) / 704 = j.val by omega)
  have ek : (⟨(j.val * 704 + k.val) % 704, by omega⟩ : Fin 704) = k := Fin.ext (show (j.val * 704 + k.val) % 704 = k.val by omega)
  show _ = (a (ix3 (⟨(j.val * 704 + k.val) / 704, by omega⟩ : Fin 8) r (⟨(j.val * 704 + k.val) % 704, by omega⟩ : Fin 704)) : EReal) * (w (ix3 (⟨(j.val * 704 + k.val) / 704, by omega⟩ : Fin 8) (⟨(j.val * 704 + k.val) % 704, by omega⟩ : Fin 704) q) : EReal)
  rw [ej, ek]
  rfl

/-- The residual sum: a row of `h`, plus the product's row times its gate, the context's or the latent one. -/
def resid (f : FVec Ideal S4352x2048 .f32) (h : FVec Ideal S4352x2048 .f32) (g : FVec Ideal S2x8x2048 .f32) : FVec Ideal S4352x2048 .f32 := fun y =>
  ((h (ix2 (y 0) (y 1)) : EReal) + ((if (y 0).val < 256 then g (ix3 0 5 (y 1)) else g (ix3 1 5 (y 1)) : EReal)) * (f (ix2 (y 0) (y 1)) : EReal) : EReal)

theorem same_sum (a : FVec Ideal S8x4352x704 .bf16) (w : FVec Ideal S8x704x2048 .bf16) (h : FVec Ideal S4352x2048 .f32) (g : FVec Ideal S2x8x2048 .f32) :
    resid (sums a w) h g = val_main_v22 (F := Ideal) a w h g := by
  rw [same]
  funext y
  obtain ⟨r, q, rfl⟩ : ∃ (r : Fin 4352) (q : Fin 2048), y = ix2 r q := ⟨y 0, y 1, eq_ix2 y⟩
  unfold resid val_main_v22 val_main_v21 val_main_v20 val_main_v17 val_main_v15 val_main_v14 val_main_v11
  generalize val_main_v5 (F := Ideal) a w = f
  by_cases hr : r.val < 256
  · pointwise [val_main_v19, val_main_v18, val_main_v16, val_main_v13, val_main_v12, val_main_v10, val_main_v9, val_main_v8, val_main_v7, val_main_v6]
    simp [hr]
  · have hr' : 256 + (r.val - 256) = r.val := by omega
    pointwise [val_main_v19, val_main_v18, val_main_v16, val_main_v13, val_main_v12, val_main_v10, val_main_v9, val_main_v8, val_main_v7, val_main_v6]
    simp [hr, hr']

end Cert.WdownIdeal.Final

end
-- ==== Proof.Wdown.lean ====
/- The second matrix of the feed-forward layer, a tile at a time over all shards, and the residual sum. -/
module

public import proofs.«01_k».proof.Proof.Gen.WdownIdeal.Value
public import proofs.«01_k».proof.Proof.Gen.WdownReferenceIdeal.Run
public import proofs.«01_k».proof.Proof.Gen.WdownReferenceIdeal.Read
public import proofs.«01_k».proof.Proof.WdownSums
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.WdownIdeal.Final

open Cert.WdownIdeal Cert.WdownIdeal.Gen Cert.WdownReferenceIdeal.Read

variable (m : (ℓ : Loc nD τ sig) → Buf (Elt Ideal) ℓ)

theorem idx : ∀ t : Fin cfg0.N, win0_0.index t = ![0, t.val % 8, 0] ∧ win0_1.index t = ![0, 0, t.val / 8] ∧ win0_2.index t = ![t.val % 8, t.val / 8] ∧ win0_3.index t = ![0, 0, t.val / 8] ∧ win0_4.index t = ![t.val % 8, t.val / 8] ∧ win0_5.index t = ![t.val % 8, t.val / 8] :=
  (by decide +kernel : ∀ t : Fin grid0.N, _)

/-- Each element is a sum over the shards. -/
theorem closed (c : Dev nD) : (dats m 0 c).arrAt 4 (cfgs 0).N = sums (m (c.tc.loc main_arg0)) (m (c.tc.loc main_arg1)) := by
  refine (dats m 0 c).arrAt_eq_of_covers 4 _ (by decide +kernel) fun t hf y => ?_
  blk_simp
  rw [after0_4]
  frame_out
  idx_vars y
  unfold sums
  pointwise [k0_pay1, k0_pay2, k0_pay3, k0_pay4, k0_pay5, k0_pay6, k0_pay7, k0_pay1]
  rw [Fin.sum_univ_eight]
  blk_point [iblk, V, idx t]

/-- … which is the reference's sum over all hidden columns. -/
theorem final (c : Dev nD) : (dats m 0 c).arrAt 4 (cfgs 0).N = val_main_v5 (F := Ideal) (m (c.tc.loc main_arg0)) (m (c.tc.loc main_arg1)) :=
  (closed m c).trans (same _ _)

/-- The bit that tells the context's rows from the latent ones. -/
theorem bit : ∀ (i : Fin 8) (r : Fin 544), IntOp.cmpi .slt (IntOp.addi (Scalar.muli (BitVec.ofNat 32 i.val) 544#32) (BitVec.ofNat 32 r.val)) 256#32 = (if i.val * 544 + r.val < 256 then 1#1 else 0#1) := by
  decide +kernel

theorem coord : ∀ t : Fin cfg0.N, (grid0.coords t 1).val = t.val % 8 :=
  (by decide +kernel : ∀ t : Fin grid0.N, _)

theorem pick (t : Fin cfg0.N) (r : Fin 544) : IntOp.cmpi .slt (IntOp.addi (Scalar.muli (BitVec.ofNat 32 (grid0.coords t 1).val) 544#32) (BitVec.ofNat 32 r.val)) 256#32 = (if t.val % 8 * 544 + r.val < 256 then 1#1 else 0#1) := by
  rw [coord t]
  exact bit ⟨t.val % 8, Nat.mod_lt _ (by decide)⟩ r

theorem closed_sum (c : Dev nD) : (dats m 0 c).arrAt 5 (cfgs 0).N = resid (sums (m (c.tc.loc main_arg0)) (m (c.tc.loc main_arg1))) (m (c.tc.loc main_arg2)) (m (c.tc.loc main_arg3)) := by
  refine (dats m 0 c).arrAt_eq_of_covers 5 _ (by decide +kernel) fun t hf y => ?_
  blk_simp
  rw [after0_5]
  frame_out
  idx_vars y
  have hx := idx t
  have hb : t.val % 8 * 544 + y0.val < 4352 := by have := y0.isLt; omega
  have e0 : @Eq (Fin 4352) ((((cfg0.win 5).blk t).view.emb (ix2 y0 y1)) 0) ⟨t.val % 8 * 544 + y0.val, hb⟩ := Fin.ext (by blk_simp [hx])
  unfold resid sums
  rw [e0]
  pointwise [k0_pay1, k0_pay2, k0_pay3, k0_pay4, k0_pay5, k0_pay6, k0_pay7]
  rw [pick t y0]
  by_cases hr : t.val % 8 * 544 + y0.val < 256
  · rw [if_pos hr, if_pos hr]
    pointwise []
    rw [Fin.sum_univ_eight]
    blk_point [iblk, V, idx t]
  · rw [if_neg hr, if_neg hr]
    pointwise []
    rw [Fin.sum_univ_eight]
    blk_point [iblk, V, idx t]

theorem final_sum (c : Dev nD) : (dats m 0 c).arrAt 5 (cfgs 0).N = val_main_v22 (F := Ideal) (m (c.tc.loc main_arg0)) (m (c.tc.loc main_arg1)) (m (c.tc.loc main_arg2)) (m (c.tc.loc main_arg3)) :=
  (closed_sum m c).trans (same_sum _ _ _ _)

end Cert.WdownIdeal.Final

end
-- ==== Proof.WdownClaims.lean ====
/- The claims of the feed-forward layer's second product and its residual sum. -/
module

public import proofs.«01_k».proof.Defs
public import proofs.«01_k».proof.Proof.Gen.Wdown
public import proofs.«01_k».proof.Proof.Gen.Wdown.Skeleton
public import proofs.«01_k».proof.Proof.Gen.Wdown.Launch
public import proofs.«01_k».proof.Proof.Gen.Wdown.Points
public import proofs.«01_k».proof.Proof.Gen.Wdown.Frame
public import proofs.«01_k».proof.Proof.Gen.WdownIdeal
public import proofs.«01_k».proof.Proof.Gen.WdownIdeal.Skeleton
public import proofs.«01_k».proof.Proof.Gen.WdownIdeal.Launch
public import proofs.«01_k».proof.Proof.Gen.WdownIdeal.Points
public import proofs.«01_k».proof.Proof.Gen.WdownIdeal.Frame
public import proofs.«01_k».proof.Proof.Gen.WdownIdeal.Value
public import proofs.«01_k».proof.Proof.Gen.WdownReferenceIdeal
public import proofs.«01_k».proof.Proof.Gen.WdownReferenceIdeal.Run
public import proofs.«01_k».proof.Proof.Gen.WdownReferenceIdeal.Read
public import proofs.«01_k».proof.Proof.Wdown
public import Idealize.ShloMosaic.Adequacy
public import Idealize.ShloMosaic.Init

@[expose] public section

noncomputable section

namespace Cert.Proof.Wdown

open Idealize.ShloMosaic Idealize.ShloMosaic.TcCoe Idealize.SL.Sem

local instance : Cert.Wdown.Facts := Cert.Wdown.Gen.facts
local instance : Cert.WdownIdeal.Facts := Cert.WdownIdeal.Gen.facts
local instance : Cert.WdownReferenceIdeal.Facts := Cert.WdownReferenceIdeal.Gen.facts

theorem frame : Cert.quiescent_Wdown := fun m ρ _ => Cert.Wdown.Gen.frame m ρ

theorem frameIdeal : Cert.quiescent_WdownIdeal := fun m ρ _ => Cert.WdownIdeal.Gen.frame m ρ

theorem reference : Cert.quiescent_WdownReferenceIdeal := fun m g _ =>
  (θ_run _ _ _).mono (fun r h => ⟨fun c => (h c).2.2, by funext x; rcases x with ⟨_, s | s⟩ <;> exact s.elim0⟩) (Cert.WdownReferenceIdeal.Value.run m g)

theorem same2 {A B C : Type} (f : A → B → C) {a a' : A} {b b' : B} (h0 : a = a') (h1 : b = b') : f a b = f a' b' := by
  rw [h0, h1]

theorem same4 {A B C D E : Type} (f : A → B → C → D → E) {a a' : A} {b b' : B} {c c' : C} {d d' : D} (h0 : a = a') (h1 : b = b') (h2 : c = c') (h3 : d = d') :
    f a b c d = f a' b' c' d' := by
  rw [h0, h1, h2, h3]

theorem algebraic : Cert.algebraic_WdownIdeal_WdownReferenceIdeal := by
  intro m g m' g' _ hagree
  refine ⟨fun c => (Cert.WdownIdeal.Gen.dats m 0 c).arrAt 4 Cert.WdownIdeal.cfg0.N, fun c => (Cert.WdownIdeal.Gen.dats m 0 c).arrAt 5 Cert.WdownIdeal.cfg0.N,
    Cert.WdownIdeal.Value.run_blocks m g, ?_⟩
  refine (θ_run _ _ _).mono (fun r h c => ?_) (Cert.WdownReferenceIdeal.Value.run m' g')
  obtain ⟨e0, e1, k⟩ := h c
  obtain ⟨a0, a1, a2, a3⟩ := hagree c
  exact ⟨e0.trans ((Cert.WdownReferenceIdeal.Read.val_main_v5_eq _ _).trans ((same2 (Cert.WdownReferenceIdeal.Read.val_main_v5 (F := Ideal)) a0 a1).trans (Cert.WdownIdeal.Final.final m c).symm)),
    e1.trans ((Cert.WdownReferenceIdeal.Read.val_main_v22_eq _ _ _ _).trans ((same4 (Cert.WdownReferenceIdeal.Read.val_main_v22 (F := Ideal)) a0 a1 a2 a3).trans (Cert.WdownIdeal.Final.final_sum m c).symm)), k⟩

end Cert.Proof.Wdown

end
-- ==== Proof.FiniteQk.lean ====
/- The precondition of the attention's forward pass, element by element: every query and key is a real number. -/
module

public import proofs.«01_k».proof.Defs
public import proofs.«01_k».proof.Proof.Finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite_qk.Real

open Cert.Pre_finite_qk
open Cert.Pre_finite.Real (below)

theorem facts : Facts where
  bcast_S_S4352x1536 := by decide
  reducesTo_S4352x1536_S_d0_1 := by decide
  h_S_ := by decide
  bcast_S_S4352x512 := by decide
  reducesTo_S4352x512_S_d0_1 := by decide

theorem and_one (a b : BitVec 1) (h : IntOp.andi a b = 1#1) : a = 1#1 ∧ b = 1#1 := by
  revert a b; decide

variable [Facts]

theorem reals (x0 : FVec Ideal S4352x1536 .f32) (x1 x2 : FVec Ideal S4352x512 .f32) (h : fn (F := Ideal) x0 x1 x2 = fun _ => 1#1) :
    (∀ i, ∃ r : ℝ, x0 i = (r : EReal)) ∧ ∀ i, ∃ r : ℝ, x1 i = (r : EReal) := by
  have h0 := congrFun h ix0
  dsimp only [fn] at h0
  obtain ⟨e0, e1⟩ := and_one _ _ h0
  exact ⟨fun i => below x0 _ i (Host.reduce_andi_all _ _ _ _ _ e0 i), fun i => below x1 _ i (Host.reduce_andi_all _ _ _ _ _ e1 i)⟩

end Cert.Pre_finite_qk.Real

end
-- ==== Proof.AttnBody.lean ====
/- What one grid point of the attention's forward kernel leaves in its output blocks, element by element: the softmax of
   a row's scores in base two, applied to the values, and the logarithm of the row's sum. -/
module

public import proofs.«01_k».proof.Proof.Gen.AttnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Body

open Cert.AttnIdeal Cert.AttnIdeal.Gen

section Terms

variable (Q : FVec Ideal S256x384 .bf16) (K V : FVec Ideal S4352x128 .bf16) (N : ℕ) (hN : N ≤ 4352)

/-- The score of key `n` in row `r`, in base two, for the head whose columns begin at `o`. -/
def score (o : ℕ) (ho : o + 128 ≤ 384) (r : Fin 256) (n : Fin N) : EReal :=
  ∑ d : Fin 128, Q (ix2 r ⟨o + d.val, by omega⟩) * K (ix2 (Fin.castLE hN n) d)

/-- The largest score of row `r` among the first `N` keys. -/
def top (o : ℕ) (ho : o + 128 ≤ 384) (r : Fin 256) : EReal :=
  Finset.univ.fold max (Ideal.ofBits .f32 0xFF800000#32) (score Q K N hN o ho r)

/-- The unnormalised weight of key `n`. -/
def part (o : ℕ) (ho : o + 128 ≤ 384) (r : Fin 256) (n : Fin N) : EReal :=
  Ideal.exp2 (score Q K N hN o ho r n - top Q K N hN o ho r)

/-- The row's output at coordinate `d`. -/
def out (o : ℕ) (ho : o + 128 ≤ 384) (r : Fin 256) (d : Fin 128) : EReal :=
  Ideal.div (∑ n : Fin N, part Q K N hN o ho r n * V (ix2 (Fin.castLE hN n) d)) (∑ n : Fin N, part Q K N hN o ho r n)

/-- The logarithm of the row's sum, in base two: the named constant is the reciprocal of the logarithm of two. -/
def lse (o : ℕ) (ho : o + 128 ≤ 384) (r : Fin 256) : EReal :=
  top Q K N hN o ho r + Ideal.log (∑ n : Fin N, part Q K N hN o ho r n) * (((Real.log 2)⁻¹ : ℝ) : EReal)

end Terms

variable (m : (ℓ : Loc nD τ sig) → Buf (Elt Ideal) ℓ)

theorem inv_log_two : Named.named (F := Ideal) Cert.AttnIdeal.κ "inv_log_2" (φ := .f32) 0x3FB8AA3B#32 = (((Real.log 2)⁻¹ : ℝ) : EReal) :=
  IdealRules.named_const.ideal_named_scalar _ _ _ _ rfl

/-- The output of a row tile that attends to the context's keys. -/
theorem outA (c : Dev nD) (t : Fin cfg0.N) (h0 : t.val % 17 = 0) (h1 : ¬ 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).1 (ix2 r l) = out (iblk m c 0 t) (iblk m c 1 t) (iblk m c 2 t) 256 (by decide) o ho r d := by
  rw [outsAt0_A m c t h0 h1]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, out, part, top, score]
    rfl
  · idx_vars x
    have h1' : l.val = 128 + x1.val := (by simpa using h1)
    obtain rfl : o = 128 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, out, part, top, score]
    rfl
  · idx_vars x
    have h1' : l.val = 0 + x1.val := (by simpa using h1)
    obtain rfl : o = 0 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, out, part, top, score]
    rfl

/-- The saved logarithm of a row tile that attends to the context's keys. -/
theorem lseA (c : Dev nD) (t : Fin cfg0.N) (h0 : t.val % 17 = 0) (h1 : ¬ 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).2.1 (ix2 r l) = lse (iblk m c 0 t) (iblk m c 1 t) 256 (by decide) o ho r := by
  rw [outsAt0_A m c t h0 h1]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, lse, part, top, score, inv_log_two]
    rfl
  · idx_vars x
    have h1' : l.val = 128 + x1.val := (by simpa using h1)
    obtain rfl : o = 128 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, lse, part, top, score, inv_log_two]
    rfl
  · idx_vars x
    have h1' : l.val = 0 + x1.val := (by simpa using h1)
    obtain rfl : o = 0 := by omega
    obtain rfl : r = x0 := Fin.ext h0
    obtain rfl : d = x1 := Fin.ext (by omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, lse, part, top, score, inv_log_two]
    rfl

/-- The output of a row tile that attends to all keys. -/
theorem outB (c : Dev nD) (t : Fin cfg0.N) (h0 : ¬ t.val % 17 = 0) (h1 : 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).1 (ix2 r l) = out (iblk m c 0 t) (iblk m c 1 t) (iblk m c 2 t) 4352 (by decide) o ho r d := by
  rw [outsAt0_B m c t h0 h1]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, out, part, top, score]
    rfl
  · idx_vars x
    have h1' : l.val = 128 + x1.val := (by simpa using h1)
    obtain rfl : o = 128 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, out, part, top, score]
    rfl
  · idx_vars x
    have h1' : l.val = 0 + x1.val := (by simpa using h1)
    obtain rfl : o = 0 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, out, part, top, score]
    rfl

/-- The saved logarithm of a row tile that attends to all keys. -/
theorem lseB (c : Dev nD) (t : Fin cfg0.N) (h0 : ¬ t.val % 17 = 0) (h1 : 1 ≤ t.val % 17) (r : Fin 256) (l : Fin 384) (o : ℕ) (ho : o + 128 ≤ 384) (d : Fin 128)
    (hl : l.val = o + d.val) (hc : o = 0 ∨ o = 128 ∨ o = 256) :
    (outsAt0 m c t.val t.isLt).2.1 (ix2 r l) = lse (iblk m c 0 t) (iblk m c 1 t) 4352 (by decide) o ho r := by
  rw [outsAt0_B m c t h0 h1]
  frame_out
  canon_tiles x h
  · idx_vars x
    have h1' : l.val = 256 + x1.val := (by simpa using h1)
    obtain rfl : o = 256 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, lse, part, top, score, inv_log_two]
    rfl
  · idx_vars x
    have h1' : l.val = 128 + x1.val := (by simpa using h1)
    obtain rfl : o = 128 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, lse, part, top, score, inv_log_two]
    rfl
  · idx_vars x
    have h1' : l.val = 0 + x1.val := (by simpa using h1)
    obtain rfl : o = 0 := by omega
    obtain rfl : r = x0 := Fin.ext h0
    obtain rfl : d = x1 := Fin.ext (by omega)
    pointwise [k0_pay1, k0_pay2, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, lse, part, top, score, inv_log_two]
    rfl

end Cert.AttnIdeal.Body

end
-- ==== Proof.AttnRow.lean ====
/- One row of the attention's forward kernel on real scores: the base-two softmax is the softmax, and the saved logarithm
   does not depend on the shift. -/
module

public import proofs.«01_k».proof.Proof.AttnBody
public import proofs.«01_k».proof.Proof.Spec

@[expose] public section

set_option maxRecDepth 16384

noncomputable section

open Idealize.ShloMosaic Idealize.ShloMosaic.TcCoe Idealize.SL.Sem
open Cert.Softmax

namespace Cert.Softmax

variable {ι : Type} [Fintype ι] [Nonempty ι] (s : ι → ℝ)

/-- The shift comes out of the logarithm of the sum. -/
theorem log_shift (M : ℝ) : M + Real.log (∑ i, Real.exp (s i - M)) = Real.log (∑ i, Real.exp (s i)) := by
  have e : ∑ i, Real.exp (s i - M) = (∑ i, Real.exp (s i)) * Real.exp (-M) := by
    rw [Finset.sum_mul]
    exact Finset.sum_congr rfl fun i _ => by rw [← Real.exp_add, sub_eq_add_neg]
  have hp : 0 < ∑ i, Real.exp (s i) := Finset.sum_pos (fun i _ => Real.exp_pos _) Finset.univ_nonempty
  rw [e, Real.log_mul hp.ne' (Real.exp_ne_zero _), Real.log_exp]
  ring

/-- The logarithm of the row's sum, in base two, whatever the shift. -/
theorem lse_shift (M : ℝ) :
    Ideal.div ((M : EReal) + Ideal.log (∑ i, Ideal.exp ((s i : EReal) - (M : EReal)))) ((Real.log 2 : ℝ) : EReal)
      = ((Real.log (∑ i, Real.exp (s i)) / Real.log 2 : ℝ) : EReal) := by
  rw [sum_exp, Ideal.log_coe, if_neg (not_le.mpr (sum_pos s M)), ← EReal.coe_add, div_real log_two_ne, log_shift]

theorem exp2_sub (x M : ℝ) : Ideal.exp2 (((x / Real.log 2 : ℝ) : EReal) - (M : EReal)) = ((Real.exp (x - M * Real.log 2) : ℝ) : EReal) := by
  rw [← EReal.coe_sub, Ideal.exp2_coe]
  congr 1
  show (2 : ℝ) ^ (_ : ℝ) = _
  rw [Real.rpow_def_of_pos (by norm_num)]
  congr 1
  have := log_two_ne
  field_simp

/-- A sum of extended reals times a real that is not negative. -/
theorem sum_mul_real {κ : Type} [Fintype κ] (f : κ → EReal) {y : ℝ} (hy : 0 ≤ y) : (∑ i, f i) * (y : EReal) = ∑ i, f i * (y : EReal) := by
  classical
  induction (Finset.univ : Finset κ) using Finset.induction_on with
  | empty => simp
  | insert a t ha ih => rw [Finset.sum_insert ha, Finset.sum_insert ha, EReal.right_distrib_of_nonneg_of_ne_top (EReal.coe_nonneg.mpr hy) (EReal.coe_ne_top y), ih]

end Cert.Softmax

namespace Cert.AttnIdeal.Row

open Cert.AttnIdeal Cert.AttnIdeal.Gen Cert.AttnIdeal.Body

variable (Q : FVec Ideal S256x384 .bf16) (K V : FVec Ideal S4352x128 .bf16) (N : ℕ) (hN : N ≤ 4352) [Nonempty (Fin N)]
variable (o : ℕ) (ho : o + 128 ≤ 384) (r : Fin 256) (s : Fin N → ℝ)

include s in
theorem top_real (hs : ∀ n, Body.score Q K N hN o ho r n = ((s n / Real.log 2 : ℝ) : EReal)) :
    ∃ M : ℝ, top Q K N hN o ho r = (M : EReal) := by
  obtain ⟨M, hM⟩ := fold_max_real fun n => s n / Real.log 2
  refine ⟨M, ?_⟩
  unfold top
  rw [Cert.Spec.bottom_bits, ← hM]
  exact congrArg (Finset.univ.fold max (⊥ : EReal) ·) (funext hs)

/-- The values may be infinite. -/
theorem out_real (hs : ∀ n, Body.score Q K N hN o ho r n = ((s n / Real.log 2 : ℝ) : EReal)) (d : Fin 128) :
    out Q K V N hN o ho r d = ∑ n, (show EReal from V (ix2 (Fin.castLE hN n) d)) * (soft s n : EReal) := by
  obtain ⟨M, hM⟩ := top_real Q K N hN o ho r s hs
  have hp := sum_pos s (M * Real.log 2)
  unfold out part
  simp only [hs, hM, exp2_sub]
  rw [← coe_sum, Ideal.div_coe hp.ne', sum_mul_real _ (by positivity)]
  refine Finset.sum_congr rfl fun n _ => ?_
  rw [← soft_shift s (M * Real.log 2), mul_comm (Real.exp _ : EReal), mul_assoc, ← EReal.coe_mul, mul_one_div]

theorem lse_real (hs : ∀ n, Body.score Q K N hN o ho r n = ((s n / Real.log 2 : ℝ) : EReal)) :
    lse Q K N hN o ho r = ((Real.log (∑ n, Real.exp (s n)) / Real.log 2 : ℝ) : EReal) := by
  obtain ⟨M, hM⟩ := top_real Q K N hN o ho r s hs
  unfold lse part
  simp only [hs, hM, exp2_sub]
  rw [← coe_sum, Ideal.log_coe, if_neg (not_le.mpr (sum_pos s (M * Real.log 2))), ← EReal.coe_mul, ← EReal.coe_add, ← log_shift s (M * Real.log 2)]
  congr 1
  have := log_two_ne
  field_simp

end Cert.AttnIdeal.Row

end
-- ==== Proof.AttnMeet.lean ====
/- The attention's forward kernel and the reference meet: where the queries and keys are real numbers, the output
   and the saved logarithm are the reference's. -/
module

public import proofs.«01_k».proof.Proof.AttnRow
public import proofs.«01_k».proof.Proof.Saved
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Softmax Cert.Spec

namespace Cert.AttnIdeal.Meet

open Cert.AttnIdeal Cert.AttnIdeal.Gen
open Cert.SavedIdeal.Read

variable (m : (ℓ : Loc nD τ sig) → Buf (Elt Ideal) ℓ) (c : Dev nD)

theorem query_eq (y : S4352x1536.Idx) :
    V m c main_v5 y = Ideal.div (@HMul.hMul EReal EReal EReal _ (m (c.tc.loc main_arg0) y) (Ideal.ofBits .f32 0x3DB504F3#32)) (Ideal.log (Ideal.ofBits .f32 0x40000000#32)) := by
  unfold V; after_results; pointwise; try rfl

theorem key_eq : V m c main_v6 = fun y => m (c.tc.loc main_arg1) y := by
  unfold V; after_results; try rfl

theorem value_eq : V m c main_v7 = fun y => m (c.tc.loc main_arg2) y := by
  unfold V; after_results; try rfl

theorem idx : ∀ t : Fin cfg0.N, win0_0.index t = ![t.val % 17, t.val / 17] ∧ win0_1.index t = ![0, t.val / 17] ∧ win0_2.index t = ![0, t.val / 17]
    ∧ win0_3.index t = ![t.val % 17, t.val / 17] ∧ win0_4.index t = ![t.val % 17, t.val / 17] :=
  (by decide +kernel : ∀ t : Fin grid0.N, _)

/-- The reference's output in a row of the context. -/
theorem saved_ctx (x0 : (⟨Cert.SavedIdeal.S4352x1536, .f32⟩ : BufTy).Contents (Elt Ideal)) (x1 x2 : (⟨Cert.SavedIdeal.S4352x512, .f32⟩ : BufTy).Contents (Elt Ideal))
    (q : Fin 4352 → Fin 1536 → ℝ) (k : Fin 4352 → Fin 512 → ℝ) (h0 : ∀ R c, x0 (ix2 R c) = (q R c : EReal)) (h1 : ∀ R c, x1 (ix2 R c) = (k R c : EReal))
    (h : Fin 4) (g : Fin 3) (R : Fin 256) (d : Fin 128) :
    val_main_v52 x0 x1 x2 (ix2 (ctx R) (qc h g d)) = ∑ n : Fin 256, (show EReal from x2 (ix2 (ctx n) (kc h d))) * (weightC q k h g R n : EReal) := by
  have e : val_main_v52 x0 x1 x2 (ix2 (ctx R) (qc h g d)) = val_main_v26 x0 x1 x2 (ix4 R h g d) := by
    rw [Cert.SavedIdeal.Row.out_rows]
    exact dif_pos R.isLt
  have ev (n : Fin 256) : val_main_v5 x2 (ix3 n h d) = x2 (ix2 (ctx n) (kc h d)) := by
    pointwise [val_main_v5, val_main_v2]
    exact Cert.SavedIdeal.Row.key_index x2 (ctx n) h d
  rw [e]
  pointwise [val_main_v26, val_main_v25]
  simp only [ev, Cert.SavedIdeal.Row.soft_ctx x0 x1 q k h0 h1]

/-- The reference's output in a latent row. -/
theorem saved_lat (x0 : (⟨Cert.SavedIdeal.S4352x1536, .f32⟩ : BufTy).Contents (Elt Ideal)) (x1 x2 : (⟨Cert.SavedIdeal.S4352x512, .f32⟩ : BufTy).Contents (Elt Ideal))
    (q : Fin 4352 → Fin 1536 → ℝ) (k : Fin 4352 → Fin 512 → ℝ) (h0 : ∀ R c, x0 (ix2 R c) = (q R c : EReal)) (h1 : ∀ R c, x1 (ix2 R c) = (k R c : EReal))
    (h : Fin 4) (g : Fin 3) (R : Fin 4096) (d : Fin 128) :
    val_main_v52 x0 x1 x2 (ix2 (lat R) (qc h g d)) = ∑ n : Fin 4352, (show EReal from x2 (ix2 n (kc h d))) * (weightL q k h g R n : EReal) := by
  have e : val_main_v52 x0 x1 x2 (ix2 (lat R) (qc h g d)) = val_main_v49 x0 x1 x2 (ix4 R h g d) := by
    rw [Cert.SavedIdeal.Row.out_rows]
    rw [dif_neg (by simp only [lat]; omega)]; rw [show (⟨(lat R).val - 256, by simp only [lat]; omega⟩ : Fin 4096) = R from Fin.ext (by simp only [lat]; omega)]
  have ev (n : Fin 4352) : val_main_v2 x2 (ix3 n h d) = x2 (ix2 n (kc h d)) := by
    pointwise [val_main_v2]
    exact Cert.SavedIdeal.Row.key_index x2 n h d
  rw [e]
  pointwise [val_main_v49, val_main_v48]
  simp only [ev, Cert.SavedIdeal.Row.soft_lat x0 x1 q k h0 h1]

theorem read0 (t : Fin cfg0.N) (r : Fin 256) (l : Fin 384) (R : Fin 4352) (C : Fin 1536) (hR : R.val = t.val % 17 * 256 + r.val) (hC : C.val = t.val / 17 * 384 + l.val) :
    (show FVec Ideal S256x384 .bf16 from iblk m c 0 t) (ix2 r l) = (show FVec Ideal S4352x1536 .bf16 from V m c main_v5) (ix2 R C) := by
  blk_ext [iblk, idx t]

theorem read1 (t : Fin cfg0.N) (r : Fin 4352) (l : Fin 128) (C : Fin 512) (hC : C.val = t.val / 17 * 128 + l.val) :
    (show FVec Ideal S4352x128 .bf16 from iblk m c 1 t) (ix2 r l) = (show FVec Ideal S4352x512 .bf16 from V m c main_v6) (ix2 r C) := by
  blk_ext [iblk, idx t]

theorem read2 (t : Fin cfg0.N) (r : Fin 4352) (l : Fin 128) (C : Fin 512) (hC : C.val = t.val / 17 * 128 + l.val) :
    (show FVec Ideal S4352x128 .bf16 from iblk m c 2 t) (ix2 r l) = (show FVec Ideal S4352x512 .bf16 from V m c main_v7) (ix2 r C) := by
  blk_ext [iblk, idx t]

theorem value_tile (N : ℕ) (hN : N ≤ 4352) (t : Fin cfg0.N) (h : Fin 4) (hh : h.val = t.val / 17) (d : Fin 128) (n : Fin N) :
    (show EReal from (show FVec Ideal S4352x128 .bf16 from iblk m c 2 t) (ix2 (Fin.castLE hN n) d)) = (show EReal from m (c.tc.loc main_arg2) (ix2 (Fin.castLE hN n) (kc h d))) := by
  refine (read2 m c t _ d (kc h d) (by simp only [kc]; omega)).trans ?_
  rw [value_eq]

variable (q : Fin 4352 → Fin 1536 → ℝ) (k : Fin 4352 → Fin 512 → ℝ)

/-- The queries and keys are real numbers. -/
structure Reals : Prop where
  q : ∀ R C, m (c.tc.loc main_arg0) (ix2 R C) = (q R C : EReal)
  k : ∀ R C, m (c.tc.loc main_arg1) (ix2 R C) = (k R C : EReal)

variable {m c q k} (H : Reals m c q k)

include H

/-- A block's score is the array's, over the logarithm of two. -/
theorem score_real (N : ℕ) (hN : N ≤ 4352) (t : Fin cfg0.N) (h : Fin 4) (g : Fin 3) (r : Fin 256) (R : Fin 4352) (hh : h.val = t.val / 17) (hR : R.val = t.val % 17 * 256 + r.val)
    (ho : 128 * g.val + 128 ≤ 384) (n : Fin N) :
    Body.score (iblk m c 0 t) (iblk m c 1 t) N hN (128 * g.val) ho r n = ((score q k h g R (Fin.castLE hN n) / Real.log 2 : ℝ) : EReal) := by
  have e0 (d : Fin 128) : (show FVec Ideal S256x384 .bf16 from iblk m c 0 t) (ix2 r ⟨128 * g.val + d.val, by omega⟩) = ((q R (qc h g d) * scale / Real.log 2 : ℝ) : EReal) := by
    refine (read0 m c t r _ R (qc h g d) hR (by simp only [qc]; omega)).trans ?_
    refine (query_eq m c _).trans ?_
    rw [H.q, scale_bits, Cert.SavedIdeal.Row.log_two, ← EReal.coe_mul, div_real log_two_ne]
  have e1 (d : Fin 128) : (show FVec Ideal S4352x128 .bf16 from iblk m c 1 t) (ix2 (Fin.castLE hN n) d) = (k (Fin.castLE hN n) (kc h d) : EReal) := by
    refine (read1 m c t _ d (kc h d) (by simp only [kc]; omega)).trans ?_
    rw [key_eq]
    exact H.k _ _
  unfold Body.score
  refine (Finset.sum_congr rfl fun d _ => congrArg₂ (fun a b : EReal => a * b) (e0 d) (e1 d)).trans ?_
  rw [coe_dot, score, Finset.sum_mul, Finset.sum_div]
  refine congrArg _ (Finset.sum_congr rfl fun d _ => ?_)
  ring

/-- The output of a tile's row is the reference's. -/
theorem out_tile (t : Fin cfg0.N) (h : Fin 4) (g : Fin 3) (r : Fin 256) (d : Fin 128) (R : Fin 4352) (hh : h.val = t.val / 17) (hR : R.val = t.val % 17 * 256 + r.val)
    (l : Fin 384) (hl : l.val = 128 * g.val + d.val) :
    (outsAt0 m c t.val t.isLt).1 (ix2 r l)
      = val_main_v52 (F := Ideal) (m (c.tc.loc main_arg0)) (m (c.tc.loc main_arg1)) (m (c.tc.loc main_arg2)) (ix2 R (qc h g d)) := by
  by_cases h0 : t.val % 17 = 0
  · obtain ⟨R, rfl⟩ : ∃ r, R = ctx r := ⟨⟨R.val, by omega⟩, Fin.ext rfl⟩
    rw [Body.outA m c t h0 (by omega) r l (128 * g.val) (by omega) d hl (by omega),
      Row.out_real _ _ _ 256 (by decide) (128 * g.val) (by omega) r _ (score_real H 256 (by decide) t h g r (ctx R) hh hR (by omega)) d]
    exact (Finset.sum_congr rfl fun n _ => congrArg (· * _) (value_tile m c 256 (by decide) t h hh d n)).trans (saved_ctx _ _ _ q k H.q H.k h g R d).symm
  · obtain ⟨R, rfl⟩ : ∃ r, R = lat r := ⟨⟨R.val - 256, by omega⟩, Fin.ext (by simp only [lat]; omega)⟩
    rw [Body.outB m c t h0 (by omega) r l (128 * g.val) (by omega) d hl (by omega),
      Row.out_real _ _ _ 4352 (by decide) (128 * g.val) (by omega) r _ (score_real H 4352 (by decide) t h g r (lat R) hh hR (by omega)) d]
    exact (Finset.sum_congr rfl fun n _ => congrArg (· * _) (value_tile m c 4352 (by decide) t h hh d n)).trans (saved_lat _ _ _ q k H.q H.k h g R d).symm

/-- The saved logarithm of a tile's row is the reference's. -/
theorem lse_tile (t : Fin cfg0.N) (h : Fin 4) (g : Fin 3) (r : Fin 256) (d : Fin 128) (R : Fin 4352) (hh : h.val = t.val / 17) (hR : R.val = t.val % 17 * 256 + r.val)
    (l : Fin 384) (hl : l.val = 128 * g.val + d.val) :
    (outsAt0 m c t.val t.isLt).2.1 (ix2 r l)
      = val_main_v54 (F := Ideal) (m (c.tc.loc main_arg0)) (m (c.tc.loc main_arg1)) (ix2 R (qc h g d)) := by
  by_cases h0 : t.val % 17 = 0
  · obtain ⟨R, rfl⟩ : ∃ r, R = ctx r := ⟨⟨R.val, by omega⟩, Fin.ext rfl⟩
    obtain ⟨M, hM⟩ := Cert.SavedIdeal.Row.lse_ctx _ _ q k H.q H.k h g R d
    rw [Body.lseA m c t h0 (by omega) r l (128 * g.val) (by omega) d hl (by omega),
      Row.lse_real _ _ 256 (by decide) (128 * g.val) (by omega) r _ (score_real H 256 (by decide) t h g r (ctx R) hh hR (by omega))]
    exact ((hM.trans (lse_shift (fun i : Fin 256 => score q k h g (ctx R) (ctx i)) M))).symm
  · obtain ⟨R, rfl⟩ : ∃ r, R = lat r := ⟨⟨R.val - 256, by omega⟩, Fin.ext (by simp only [lat]; omega)⟩
    obtain ⟨M, hM⟩ := Cert.SavedIdeal.Row.lse_lat _ _ q k H.q H.k h g R d
    rw [Body.lseB m c t h0 (by omega) r l (128 * g.val) (by omega) d hl (by omega),
      Row.lse_real _ _ 4352 (by decide) (128 * g.val) (by omega) r _ (score_real H 4352 (by decide) t h g r (lat R) hh hR (by omega))]
    exact ((hM.trans (lse_shift (fun i : Fin 4352 => score q k h g (lat R) i) M))).symm

theorem out_meet : (dats m 0 c).arrAt 3 (cfgs 0).N
    = val_main_v52 (F := Ideal) (m (c.tc.loc main_arg0)) (m (c.tc.loc main_arg1)) (m (c.tc.loc main_arg2)) := by
  refine (dats m 0 c).arrAt_eq_of_covers 3 _ (by decide +kernel) fun t hf y => ?_
  have ht : t.val < 68 := lt_of_lt_of_eq t.isLt (show cfg0.N = 68 from N_0)
  blk_simp
  rw [after0_3]
  idx_vars y
  have hx := idx t
  refine (out_tile H t ⟨t.val / 17, by omega⟩ ⟨y1.val / 128, by omega⟩ y0 ⟨y1.val % 128, by omega⟩ ⟨t.val % 17 * 256 + y0.val, by omega⟩ rfl rfl y1 (by show y1.val = 128 * (y1.val / 128) + y1.val % 128; omega)).trans ?_
  refine congrArg (val_main_v52 (F := Ideal) (m (c.tc.loc main_arg0)) (m (c.tc.loc main_arg1)) (m (c.tc.loc main_arg2))) ?_
  blk_ext [hx, qc]

theorem lse_meet : (dats m 0 c).arrAt 4 (cfgs 0).N
    = val_main_v54 (F := Ideal) (m (c.tc.loc main_arg0)) (m (c.tc.loc main_arg1)) := by
  refine (dats m 0 c).arrAt_eq_of_covers 4 _ (by decide +kernel) fun t hf y => ?_
  have ht : t.val < 68 := lt_of_lt_of_eq t.isLt (show cfg0.N = 68 from N_0)
  blk_simp
  rw [after0_4]
  idx_vars y
  have hx := idx t
  refine (lse_tile H t ⟨t.val / 17, by omega⟩ ⟨y1.val / 128, by omega⟩ y0 ⟨y1.val % 128, by omega⟩ ⟨t.val % 17 * 256 + y0.val, by omega⟩ rfl rfl y1 (by show y1.val = 128 * (y1.val / 128) + y1.val % 128; omega)).trans ?_
  refine congrArg (val_main_v54 (F := Ideal) (m (c.tc.loc main_arg0)) (m (c.tc.loc main_arg1))) ?_
  blk_ext [hx, qc]

end Cert.AttnIdeal.Meet

end
-- ==== Proof.AttnClaims.lean ====
/- The claims of the attention's forward kernel. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.SavedIdeal
public import proofs.«01_k».proof.Proof.Gen.SavedIdeal.Run
public import proofs.«01_k».proof.Proof.Gen.SavedIdeal.Read
public import proofs.«01_k».proof.Proof.AttnMeet
public import proofs.«01_k».proof.Proof.FiniteQk
public import Idealize.ShloMosaic.Adequacy
public import Idealize.ShloMosaic.Init

@[expose] public section

noncomputable section

namespace Cert.Proof.Attn

open Idealize.ShloMosaic Idealize.ShloMosaic.TcCoe Idealize.SL.Sem

local instance : Cert.Attn.Facts := Cert.Attn.Gen.facts
local instance : Cert.AttnIdeal.Facts := Cert.AttnIdeal.Gen.facts
local instance : Cert.SavedIdeal.Facts := Cert.SavedIdeal.Gen.facts
local instance : Cert.Pre_finite_qk.Facts := Cert.Pre_finite_qk.Real.facts

theorem frame : Cert.quiescent_Attn := fun m ρ _ => Cert.Attn.Gen.frame m ρ

theorem frameIdeal : Cert.quiescent_AttnIdeal := fun m ρ _ => Cert.AttnIdeal.Gen.frame m ρ

/-- The named constant is the reciprocal of the logarithm of two. -/
theorem preserves : Cert.preserves_Attn_AttnIdeal :=
  IdealRules.named_const.statement Cert.AttnIdeal.κ "inv_log_2" .f32 0x3FB8AA3B#32 (((Real.log 2)⁻¹ : ℝ) : EReal) rfl

theorem same2 {A B C : Type} (f : A → B → C) {a a' : A} {b b' : B} (h0 : a = a') (h1 : b = b') : f a b = f a' b' := by
  rw [h0, h1]

theorem same3 {A B C D : Type} (f : A → B → C → D) {a a' : A} {b b' : B} {c c' : C} (h0 : a = a') (h1 : b = b') (h2 : c = c') : f a b c = f a' b' c' := by
  rw [h0, h1, h2]

/-- Under the precondition the queries and keys are the real numbers read off them. -/
theorem reals (m : (ℓ : Loc Cert.AttnIdeal.nD Cert.AttnIdeal.τ Cert.AttnIdeal.sig) → Buf (Elt Ideal) ℓ) (h : Cert.Pre_AttnIdeal_finite_qk m)
    (c : Dev Cert.AttnIdeal.nD) : ∃ q k, Cert.AttnIdeal.Meet.Reals m c q k := by
  obtain ⟨h0, h1⟩ := Cert.Pre_finite_qk.Real.reals _ _ _ (h c)
  choose q hq using h0
  choose k hk using h1
  exact ⟨fun R C => q (ix2 R C), fun R C => k (ix2 R C), ⟨fun R C => hq _, fun R C => hk _⟩⟩

theorem algebraic : Cert.algebraic_AttnIdeal_SavedIdeal_pre_finite_qk := by
  intro m g m' g' hpre hagree
  refine ⟨fun c => (Cert.AttnIdeal.Gen.dats m 0 c).arrAt 3 Cert.AttnIdeal.cfg0.N, fun c => (Cert.AttnIdeal.Gen.dats m 0 c).arrAt 4 Cert.AttnIdeal.cfg0.N,
    (θ_run _ _ _).mono (fun r h c => ⟨(h c).1, (h c).2.1, (h c).2.2.2⟩) (Cert.AttnIdeal.Value.run_blocks m g), ?_⟩
  refine (θ_run _ _ _).mono (fun r h c => ?_) (Cert.SavedIdeal.Value.run m' g')
  obtain ⟨e0, e1, k⟩ := h c
  obtain ⟨q, kk, hr⟩ := reals m hpre c
  obtain ⟨a0, a1, a2⟩ := hagree c
  exact ⟨e0.trans ((Cert.SavedIdeal.Read.val_main_v52_eq m' c).trans ((same3 (Cert.SavedIdeal.Read.val_main_v52 (F := Ideal)) a0 a1 a2).trans (Cert.AttnIdeal.Meet.out_meet hr).symm)),
    e1.trans ((Cert.SavedIdeal.Read.val_main_v54_eq m' c).trans ((same2 (Cert.SavedIdeal.Read.val_main_v54 (F := Ideal)) a0 a1).trans (Cert.AttnIdeal.Meet.lse_meet hr).symm)), k⟩

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.SavedIdeal.Run
public import proofs.«01_k».proof.Proof.Gen.SavedIdeal.Read
public import proofs.«01_k».proof.Proof.Gen.SavedIdeal
public import proofs.«01_k».proof.Proof.Finite
public import proofs.«01_k».proof.Proof.Meet
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.ActClaims
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpClaims
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.DownClaims
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.GateClaims
public import proofs.«01_k».proof.Proof.Gen.Dhn
public import proofs.«01_k».proof.Proof.Gen.Dhn.Skeleton
public import proofs.«01_k».proof.Proof.Gen.Dhn.Launch
public import proofs.«01_k».proof.Proof.Gen.Dhn.Points
public import proofs.«01_k».proof.Proof.Gen.Dhn.Frame
public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnIdeal.Value
public import proofs.«01_k».proof.Proof.Gen.DhnReferenceIdeal
public import proofs.«01_k».proof.Proof.Gen.DhnReferenceIdeal.Run
public import proofs.«01_k».proof.Proof.Gen.DhnReferenceIdeal.Read
public import proofs.«01_k».proof.Proof.DhnClaims
public import proofs.«01_k».proof.Proof.Gen.Dmix
public import proofs.«01_k».proof.Proof.Gen.Dmix.Skeleton
public import proofs.«01_k».proof.Proof.Gen.Dmix.Launch
public import proofs.«01_k».proof.Proof.Gen.Dmix.Points
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixIdeal.Value
public import proofs.«01_k».proof.Proof.Gen.DmixReferenceIdeal
public import proofs.«01_k».proof.Proof.Gen.DmixReferenceIdeal.Run
public import proofs.«01_k».proof.Proof.Gen.DmixReferenceIdeal.Read
public import proofs.«01_k».proof.Proof.DmixClaims
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutClaims
public import proofs.«01_k».proof.Proof.Gen.Dxn
public import proofs.«01_k».proof.Proof.Gen.Dxn.Skeleton
public import proofs.«01_k».proof.Proof.Gen.Dxn.Launch
public import proofs.«01_k».proof.Proof.Gen.Dxn.Points
public import proofs.«01_k».proof.Proof.Gen.Dxn.Frame
public import proofs.«01_k».proof.Proof.Gen.DxnIdeal
public import proofs.«01_k».proof.Proof.Gen.DxnIdeal.Skeleton
public import proofs.«01_k».proof.Proof.Gen.DxnIdeal.Launch
public import proofs.«01_k».proof.Proof.Gen.DxnIdeal.Points
public import proofs.«01_k».proof.Proof.Gen.DxnIdeal.Frame
public import proofs.«01_k».proof.Proof.Gen.DxnIdeal.Value
public import proofs.«01_k».proof.Proof.Gen.DxnReferenceIdeal
public import proofs.«01_k».proof.Proof.Gen.DxnReferenceIdeal.Run
public import proofs.«01_k».proof.Proof.Gen.DxnReferenceIdeal.Read
public import proofs.«01_k».proof.Proof.DxnClaims
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.InClaims
public import proofs.«01_k».proof.Proof.Gen.DxnB
public import proofs.«01_k».proof.Proof.Gen.DxnB.Skeleton
public import proofs.«01_k».proof.Proof.Gen.DxnB.Launch
public import proofs.«01_k».proof.Proof.Gen.DxnB.Points
public import proofs.«01_k».proof.Proof.Gen.DxnB.Frame
public import proofs.«01_k».proof.Proof.Gen.DxnBIdeal
public import proofs.«01_k».proof.Proof.Gen.DxnBIdeal.Skeleton
public import proofs.«01_k».proof.Proof.Gen.DxnBIdeal.Launch
public import proofs.«01_k».proof.Proof.Gen.DxnBIdeal.Points
public import proofs.«01_k».proof.Proof.Gen.DxnBIdeal.Frame
public import proofs.«01_k».proof.Proof.Gen.DxnBIdeal.Value
public import proofs.«01_k».proof.Proof.Gen.DxnBReferenceIdeal
public import proofs.«01_k».proof.Proof.Gen.DxnBReferenceIdeal.Run
public import proofs.«01_k».proof.Proof.Gen.DxnBReferenceIdeal.Read
public import proofs.«01_k».proof.Proof.DxnBClaims
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBReferenceIdeal
public import proofs.«01_k».proof.Proof.Gen.InBReferenceIdeal.Run
public import proofs.«01_k».proof.Proof.Gen.InBReferenceIdeal.Read
public import proofs.«01_k».proof.Proof.InBClaims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.ProjClaims
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Proof.ProjBClaims
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.WoutClaims
public import proofs.«01_k».proof.Proof.Gen.Wdown
public import proofs.«01_k».proof.Proof.Gen.Wdown.Skeleton
public import proofs.«01_k».proof.Proof.Gen.Wdown.Launch
public import proofs.«01_k».proof.Proof.Gen.Wdown.Points
public import proofs.«01_k».proof.Proof.Gen.Wdown.Frame
public import proofs.«01_k».proof.Proof.Gen.WdownIdeal
public import proofs.«01_k».proof.Proof.Gen.WdownIdeal.Skeleton
public import proofs.«01_k».proof.Proof.Gen.WdownIdeal.Launch
public import proofs.«01_k».proof.Proof.Gen.WdownIdeal.Points
public import proofs.«01_k».proof.Proof.Gen.WdownIdeal.Frame
public import proofs.«01_k».proof.Proof.Gen.WdownIdeal.Value
public import proofs.«01_k».proof.Proof.Gen.WdownReferenceIdeal
public import proofs.«01_k».proof.Proof.Gen.WdownReferenceIdeal.Run
public import proofs.«01_k».proof.Proof.Gen.WdownReferenceIdeal.Read
public import proofs.«01_k».proof.Proof.WdownClaims
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.FiniteQk
public import proofs.«01_k».proof.Proof.AttnClaims
public import Idealize.ShloMosaic.Adequacy
public import Idealize.ShloMosaic.Init

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.SavedIdeal.Facts := Cert.SavedIdeal.Gen.facts
local instance : Cert.Pre_finite.Facts := Cert.Pre_finite.Real.facts

theorem reference : Cert.quiescent_ReferenceIdeal := fun m g _ =>
  (θ_run _ _ _).mono (fun r h => ⟨fun c => (h c).2.2.2, by funext x; rcases x with ⟨_, s | s⟩ <;> exact s.elim0⟩) (Cert.ReferenceIdeal.Value.run m g)

theorem saved : Cert.quiescent_SavedIdeal := fun m g _ =>
  (θ_run _ _ _).mono (fun r h => ⟨fun c => (h c).2.2, by funext x; rcases x with ⟨_, s | s⟩ <;> exact s.elim0⟩) (Cert.SavedIdeal.Value.run m g)

theorem same3 {A B C D : Type} (f : A → B → C → D) {a a' : A} {b b' : B} {c c' : C} (h0 : a = a') (h1 : b = b') (h2 : c = c') : f a b c = f a' b' c' := by
  rw [h0, h1, h2]

theorem same4 {A B C D E : Type} (f : A → B → C → D → E) {a a' : A} {b b' : B} {c c' : C} {d d' : D} (h0 : a = a') (h1 : b = b') (h2 : c = c') (h3 : d = d') :
    f a b c d = f a' b' c' d' := by
  rw [h0, h1, h2, h3]

/-- Under the precondition the arguments are the real numbers read off them. -/
theorem reals (m : (ℓ : Loc Cert.KernelIdeal.nD Cert.KernelIdeal.τ Cert.KernelIdeal.sig) → Buf (Elt Ideal) ℓ) (h : Cert.Pre_KernelIdeal_finite m)
    (c : Dev Cert.KernelIdeal.nD) : ∃ q k v δ, Cert.KernelIdeal.Meet.Reals m c q k v δ := by
  obtain ⟨h0, h1, h2, h3⟩ := Cert.Pre_finite.Real.reals _ _ _ _ (h c)
  choose q hq using h0
  choose k hk using h1
  choose v hv using h2
  choose δ hδ using h3
  exact ⟨fun R C => q (ix2 R C), fun R C => k (ix2 R C), fun R C => v (ix2 R C), fun R C => δ (ix2 R C),
    ⟨fun R C => hq _, fun R C => hk _, fun R C => hv _, fun R C => hδ _⟩⟩

theorem algebraic : Cert.algebraic_KernelIdeal_ReferenceIdeal_pre_finite := by
  intro m g m' g' hpre hagree
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run _ _ _).mono (fun r h c => ?_) (Cert.ReferenceIdeal.Value.run m' g')
  obtain ⟨e0, e1, e2, k⟩ := h c
  obtain ⟨q, kk, v, δ, hr⟩ := reals m hpre c
  obtain ⟨a0, a1, a2, a3⟩ := hagree c
  exact ⟨e0.trans ((Cert.ReferenceIdeal.Read.val_main_v138_eq m' c).trans ((same4 (Cert.ReferenceIdeal.Read.val_main_v138 (F := Ideal)) a0 a1 a2 a3).trans (Cert.KernelIdeal.Meet.query_meet hr).symm)),
    e1.trans ((Cert.ReferenceIdeal.Read.val_main_v141_eq m' c).trans ((same4 (Cert.ReferenceIdeal.Read.val_main_v141 (F := Ideal)) a0 a1 a2 a3).trans (Cert.KernelIdeal.Meet.key_meet hr).symm)),
    e2.trans ((Cert.ReferenceIdeal.Read.val_main_v134_eq m' c).trans ((same3 (Cert.ReferenceIdeal.Read.val_main_v134 (F := Ideal)) a0 a1 a3).trans (Cert.KernelIdeal.Meet.value_meet hr).symm)), k⟩

theorem claim : Cert.Claim := ⟨Cert.Kernel.Gen.facts, Cert.KernelIdeal.Gen.facts, Cert.ReferenceIdeal.Gen.facts, Cert.SavedIdeal.Gen.facts, Cert.Attn.Gen.facts, Cert.AttnIdeal.Gen.facts, Cert.Act.Gen.facts, Cert.ActIdeal.Gen.facts, Cert.ActReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Gate.Gen.facts, Cert.GateIdeal.Gen.facts, Cert.GateReferenceIdeal.Gen.facts, Cert.Dhn.Gen.facts, Cert.DhnIdeal.Gen.facts, Cert.DhnReferenceIdeal.Gen.facts, Cert.Dmix.Gen.facts, Cert.DmixIdeal.Gen.facts, Cert.DmixReferenceIdeal.Gen.facts, Cert.Out.Gen.facts, Cert.OutIdeal.Gen.facts, Cert.OutReferenceIdeal.Gen.facts, Cert.Dxn.Gen.facts, Cert.DxnIdeal.Gen.facts, Cert.DxnReferenceIdeal.Gen.facts, Cert.In.Gen.facts, Cert.InIdeal.Gen.facts, Cert.InReferenceIdeal.Gen.facts, Cert.DxnB.Gen.facts, Cert.DxnBIdeal.Gen.facts, Cert.DxnBReferenceIdeal.Gen.facts, Cert.InB.Gen.facts, Cert.InBIdeal.Gen.facts, Cert.InBReferenceIdeal.Gen.facts, Cert.Proj.Gen.facts, Cert.ProjIdeal.Gen.facts, Cert.ProjReferenceIdeal.Gen.facts, Cert.ProjB.Gen.facts, Cert.ProjBIdeal.Gen.facts, Cert.ProjBReferenceIdeal.Gen.facts, Cert.Wout.Gen.facts, Cert.WoutIdeal.Gen.facts, Cert.WoutReferenceIdeal.Gen.facts, Cert.Wdown.Gen.facts, Cert.WdownIdeal.Gen.facts, Cert.WdownReferenceIdeal.Gen.facts, Cert.Pre_finite.Real.facts, Cert.Pre_finite_qk.Real.facts, Cert.Pre_finite_ffn.Real.facts, Cert.Pre_finite_up.Real.facts,
  fun m ρ _ => Cert.Kernel.Gen.frame m ρ,
  fun m ρ _ => Cert.KernelIdeal.Gen.frame m ρ,
  fun m ρ _ => Cert.KernelIdeal.Gen.frame m ρ,
  reference,
  fun m g _ => reference m g trivial,
  saved,
  fun m g _ => saved m g trivial,
  Attn.frame,
  Attn.frameIdeal,
  fun m g _ => Attn.frameIdeal m g trivial,
  Act.frame,
  Act.frameIdeal,
  fun m g _ => Act.frameIdeal m g trivial,
  Act.reference,
  fun m g _ => Act.reference m g trivial,
  Up.frame,
  Up.frameIdeal,
  fun m g _ => Up.frameIdeal m g trivial,
  Up.reference,
  fun m g _ => Up.reference m g trivial,
  Down.frame,
  Down.frameIdeal,
  Down.reference,
  Gate.frame,
  Gate.frameIdeal,
  Gate.reference,
  Dhn.frame,
  Dhn.frameIdeal,
  Dhn.reference,
  Dmix.frame,
  Dmix.frameIdeal,
  Dmix.reference,
  Out.frame,
  Out.frameIdeal,
  Out.reference,
  Dxn.frame,
  Dxn.frameIdeal,
  Dxn.reference,
  In.frame,
  In.frameIdeal,
  In.reference,
  DxnB.frame,
  DxnB.frameIdeal,
  DxnB.reference,
  InB.frame,
  InB.frameIdeal,
  InB.reference,
  Proj.frame,
  Proj.frameIdeal,
  Proj.reference,
  ProjB.frame,
  ProjB.frameIdeal,
  ProjB.reference,
  Wout.frame,
  Wout.frameIdeal,
  Wout.reference,
  Wdown.frame,
  Wdown.frameIdeal,
  Wdown.reference,
  trivial,
  algebraic,
  Attn.preserves,
  Attn.algebraic,
  trivial,
  Act.algebraic,
  trivial,
  Up.algebraic,
  trivial,
  Down.algebraic,
  trivial,
  Gate.algebraic,
  trivial,
  Dhn.algebraic,
  trivial,
  Dmix.algebraic,
  trivial,
  Out.algebraic,
  trivial,
  Dxn.algebraic,
  trivial,
  In.algebraic,
  trivial,
  DxnB.algebraic,
  trivial,
  InB.algebraic,
  trivial,
  Proj.algebraic,
  trivial,
  ProjB.algebraic,
  trivial,
  Wout.algebraic,
  trivial,
  Wdown.algebraic⟩

end Cert.Proof

end
